-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "score_scale" .f32 0x3E0293EE#32 (((11863283 / 134217728) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_v157) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_v160) = v3 c
          ∧ r.2.mem ((c.tc : Thread Cert.ReferenceIdeal.nD Cert.ReferenceIdeal.τ).loc Cert.ReferenceIdeal.main_v55) = v4 c
          ∧ r.2.mem ((c.tc : Thread Cert.ReferenceIdeal.nD Cert.ReferenceIdeal.τ).loc Cert.ReferenceIdeal.main_v163) = v5 c
          ∧ r.2.mem ((c.tc : Thread Cert.ReferenceIdeal.nD Cert.ReferenceIdeal.τ).loc Cert.ReferenceIdeal.main_v83) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x4096 : Shape := ⟨3, ![4, 2048, 4096]⟩
abbrev S4x32x16 : Shape := ⟨3, ![4, 32, 16]⟩
abbrev S1x2048x128 : Shape := ⟨3, ![1, 2048, 128]⟩
abbrev S1x32x16 : Shape := ⟨3, ![1, 32, 16]⟩
abbrev S2x2048x256 : Shape := ⟨3, ![2, 2048, 256]⟩
abbrev S128x2048 : Shape := ⟨2, ![128, 2048]⟩
abbrev S128x128 : Shape := ⟨2, ![128, 128]⟩
abbrev S16x128 : Shape := ⟨2, ![16, 128]⟩
abbrev S1x128x128 : Shape := ⟨3, ![1, 128, 128]⟩
abbrev S8x128 : Shape := ⟨2, ![8, 128]⟩
abbrev S128 : Shape := ⟨1, ![128]⟩
abbrev S1x128 : Shape := ⟨2, ![1, 128]⟩
abbrev S16 : Shape := ⟨1, ![16]⟩
abbrev S16x1 : Shape := ⟨2, ![16, 1]⟩
abbrev S16x256 : Shape := ⟨2, ![16, 256]⟩
abbrev S1x16 : Shape := ⟨2, ![1, 16]⟩
abbrev S1x1x16 : Shape := ⟨3, ![1, 1, 16]⟩
abbrev S1x256x128 : Shape := ⟨3, ![1, 256, 128]⟩
abbrev S256x128 : Shape := ⟨2, ![256, 128]⟩
abbrev S256x256 : Shape := ⟨2, ![256, 256]⟩
abbrev S1 : Shape := ⟨1, ![1]⟩
abbrev S1x1 : Shape := ⟨2, ![1, 1]⟩
abbrev S1x256 : Shape := ⟨2, ![1, 256]⟩
abbrev S1x128x256 : Shape := ⟨3, ![1, 128, 256]⟩
abbrev S128x256 : Shape := ⟨2, ![128, 256]⟩

abbrev nBuf : Space → Nat
  | .hbm => 10
  | .vmem => 30
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .f32⟩
  | .hbm, ⟨2, _⟩ => ⟨S4x2048x4096, .f32⟩
  | .hbm, ⟨3, _⟩ => ⟨S4x2048x4096, .f32⟩
  | .hbm, ⟨4, _⟩ => ⟨S4x2048x4096, .fp8e4m3⟩
  | .hbm, ⟨5, _⟩ => ⟨S4x32x16, .f32⟩
  | .hbm, ⟨6, _⟩ => ⟨S4x2048x4096, .fp8e4m3⟩
  | .hbm, ⟨7, _⟩ => ⟨S4x32x16, .f32⟩
  | .hbm, ⟨8, _⟩ => ⟨S4x2048x4096, .fp8e4m3⟩
  | .hbm, ⟨9, _⟩ => ⟨S4x32x16, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .fp8e4m3⟩
  | .local _ .vmem, ⟨9, _⟩ => ⟨S1x2048x128, .fp8e4m3⟩
  | .local _ .vmem, ⟨10, _⟩ => ⟨S1x32x16, .f32⟩
  | .local _ .vmem, ⟨11, _⟩ => ⟨S1x32x16, .f32⟩
  | .local _ .vmem, ⟨12, _⟩ => ⟨S1x2048x128, .fp8e4m3⟩
  | .local _ .vmem, ⟨13, _⟩ => ⟨S1x2048x128, .fp8e4m3⟩
  | .local _ .vmem, ⟨14, _⟩ => ⟨S1x32x16, .f32⟩
  | .local _ .vmem, ⟨15, _⟩ => ⟨S1x32x16, .f32⟩
  | .local _ .vmem, ⟨16, _⟩ => ⟨S1x2048x128, .fp8e4m3⟩
  | .local _ .vmem, ⟨17, _⟩ => ⟨S1x2048x128, .fp8e4m3⟩
  | .local _ .vmem, ⟨18, _⟩ => ⟨S1x32x16, .f32⟩
  | .local _ .vmem, ⟨19, _⟩ => ⟨S1x32x16, .f32⟩
  | .local _ .vmem, ⟨20, _⟩ => ⟨S2x2048x256, .f32⟩
  | .local _ .vmem, ⟨21, _⟩ => ⟨S2x2048x256, .fp8e4m3⟩
  | .local _ .vmem, ⟨22, _⟩ => ⟨S128x2048, .fp8e4m3⟩
  | .local _ .vmem, ⟨23, _⟩ => ⟨S128x128, .f32⟩
  | .local _ .vmem, ⟨24, _⟩ => ⟨S16x128, .f32⟩
  | .local _ .vmem, ⟨25, _⟩ => ⟨S16x128, .f32⟩
  | .local _ .vmem, ⟨26, _⟩ => ⟨S16x128, .f32⟩
  | .local _ .vmem, ⟨27, _⟩ => ⟨S16x128, .f32⟩
  | .local _ .vmem, ⟨28, _⟩ => ⟨S16x128, .f32⟩
  | .local _ .vmem, ⟨29, _⟩ => ⟨S16x128, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_scratch9 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 32], ![false, false]⟩

def k0_off1 (i : grid0.Coords) : Fin 3 → Nat :=
  let c0_78 : Index := 0#32
  let arg1 : BitVec 32 := BitVec.ofNat 32 (i 1).val
  let v671 : Index := Scalar.indexCast arg1
  let c0_79 : Index := 0#32
  ![0, v671.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2048x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x32x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "score_scale" => some (((11863283 / 134217728) * (Real.log 2)⁻¹ : ℝ) : EReal)
  | _ => none
-- ==== ReferenceIdeal.lean ====
abbrev S4x2048x4096 : Shape := ⟨3, ![4, 2048, 4096]⟩
abbrev S277 : Shape := ⟨1, ![277]⟩
abbrev S4x16x128x32x128 : Shape := ⟨5, ![4, 16, 128, 32, 128]⟩
abbrev S4x32x16x128x128 : Shape := ⟨5, ![4, 32, 16, 128, 128]⟩
abbrev S_ : Shape := ⟨0, ![]⟩
abbrev S4x32x16 : Shape := ⟨3, ![4, 32, 16]⟩
abbrev S4x32x16x1x1 : Shape := ⟨5, ![4, 32, 16, 1, 1]⟩
abbrev S4x32x16x1x1x1 : Shape := ⟨6, ![4, 32, 16, 1, 1, 1]⟩
abbrev S1x1x1x1x1x277 : Shape := ⟨6, ![1, 1, 1, 1, 1, 277]⟩
abbrev S4x32x16x1x1x277 : Shape := ⟨6, ![4, 32, 16, 1, 1, 277]⟩
abbrev S4x32x2048x128 : Shape := ⟨4, ![4, 32, 2048, 128]⟩
abbrev S4x32x2048x2048 : Shape := ⟨4, ![4, 32, 2048, 2048]⟩
abbrev S4x32x16x128 : Shape := ⟨4, ![4, 32, 16, 128]⟩
abbrev S4x32x2048 : Shape := ⟨3, ![4, 32, 2048]⟩
abbrev S4x32x2048x1 : Shape := ⟨4, ![4, 32, 2048, 1]⟩
abbrev S4x32x1x2048 : Shape := ⟨4, ![4, 32, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x32x16x128x2048 : Shape := ⟨5, ![4, 32, 16, 128, 2048]⟩
abbrev S4x32x2048x16x128 : Shape := ⟨5, ![4, 32, 2048, 16, 128]⟩
abbrev S4x32x16x2048x128 : Shape := ⟨5, ![4, 32, 16, 2048, 128]⟩

abbrev nBuf : Space → Nat
  | .hbm => 263
  | .vmem => 0
  | .smem => 0
  | _ => 0

abbrev hbmTy0_0 (i : Nat) : BufTy := match i % 128 with
  | 0 => ⟨S4x2048x4096, .f32⟩
  | 1 => ⟨S4x2048x4096, .f32⟩
  | 2 => ⟨S4x2048x4096, .f32⟩
  | 3 => ⟨S277, .f32⟩
  | 4 => ⟨S277, .f32⟩
  | 5 => ⟨S277, .f32⟩
  | 6 => ⟨S277, .f32⟩
  | 7 => ⟨S4x16x128x32x128, .f32⟩
  | 8 => ⟨S4x32x16x128x128, .f32⟩
  | 9 => ⟨S4x32x16x128x128, .f32⟩
  | 10 => ⟨S_, .f32⟩
  | 11 => ⟨S4x32x16, .f32⟩
  | 12 => ⟨S4x32x16x1x1, .f32⟩
  | 13 => ⟨S_, .f32⟩
  | 14 => ⟨S4x32x16x1x1, .f32⟩
  | 15 => ⟨S4x32x16x1x1, .f32⟩
  | 16 => ⟨S4x32x16x1x1x1, .f32⟩
  | 17 => ⟨S1x1x1x1x1x277, .f32⟩
  | 18 => ⟨S4x32x16x1x1x277, .f32⟩
  | 19 => ⟨S4x32x16x1x1x277, .f32⟩
  | 20 => ⟨S4x32x16x1x1x277, .i1⟩
  | 21 => ⟨S_, .f32⟩
  | 22 => ⟨S277, .f32⟩
  | 23 => ⟨S277, .f32⟩
  | 24 => ⟨S_, .f32⟩
  | 25 => ⟨S_, .f32⟩
  | 26 => ⟨S4x32x16x1x1x277, .f32⟩
  | 27 => ⟨S4x32x16x1x1x277, .f32⟩
  | 28 => ⟨S4x32x16x1x1x277, .f32⟩
  | 29 => ⟨S_, .f32⟩
  | 30 => ⟨S4x32x16x1x1, .f32⟩
  | 31 => ⟨S_, .f32⟩
  | 32 => ⟨S4x32x16x1x1, .f32⟩
  | 33 => ⟨S4x32x16x1x1, .i1⟩
  | 34 => ⟨S_, .f32⟩
  | 35 => ⟨S4x32x16x1x1, .f32⟩
  | 36 => ⟨S4x32x16x1x1, .i1⟩
  | 37 => ⟨S4x32x16x1x1, .i1⟩
  | 38 => ⟨S_, .f32⟩
  | 39 => ⟨S_, .f32⟩
  | 40 => ⟨S4x32x16x1x1, .f32⟩
  | 41 => ⟨S4x32x16x1x1, .f32⟩
  | 42 => ⟨S_, .f32⟩
  | 43 => ⟨S4x32x16x1x1, .f32⟩
  | 44 => ⟨S4x32x16x1x1, .f32⟩
  | 45 => ⟨S4x32x16x128x128, .f32⟩
  | 46 => ⟨S4x32x16x128x128, .f32⟩
  | 47 => ⟨S_, .f32⟩
  | 48 => ⟨S_, .f32⟩
  | 49 => ⟨S_, .f32⟩
  | 50 => ⟨S4x32x16x128x128, .f32⟩
  | 51 => ⟨S4x32x16x128x128, .f32⟩
  | 52 => ⟨S_, .f32⟩
  | 53 => ⟨S4x32x16x128x128, .f32⟩
  | 54 => ⟨S4x32x16x128x128, .f32⟩
  | 55 => ⟨S4x32x16, .f32⟩
  | 56 => ⟨S4x16x128x32x128, .f32⟩
  | 57 => ⟨S4x32x16x128x128, .f32⟩
  | 58 => ⟨S4x32x16x128x128, .f32⟩
  | 59 => ⟨S_, .f32⟩
  | 60 => ⟨S4x32x16, .f32⟩
  | 61 => ⟨S4x32x16x1x1, .f32⟩
  | 62 => ⟨S_, .f32⟩
  | 63 => ⟨S4x32x16x1x1, .f32⟩
  | 64 => ⟨S4x32x16x1x1, .f32⟩
  | 65 => ⟨S4x32x16x1x1x1, .f32⟩
  | 66 => ⟨S1x1x1x1x1x277, .f32⟩
  | 67 => ⟨S4x32x16x1x1x277, .f32⟩
  | 68 => ⟨S4x32x16x1x1x277, .f32⟩
  | 69 => ⟨S4x32x16x1x1x277, .i1⟩
  | 70 => ⟨S_, .f32⟩
  | 71 => ⟨S277, .f32⟩
  | 72 => ⟨S277, .f32⟩
  | 73 => ⟨S_, .f32⟩
  | 74 => ⟨S_, .f32⟩
  | 75 => ⟨S4x32x16x1x1x277, .f32⟩
  | 76 => ⟨S4x32x16x1x1x277, .f32⟩
  | 77 => ⟨S4x32x16x1x1x277, .f32⟩
  | 78 => ⟨S_, .f32⟩
  | 79 => ⟨S4x32x16x1x1, .f32⟩
  | 80 => ⟨S_, .f32⟩
  | 81 => ⟨S4x32x16x1x1, .f32⟩
  | 82 => ⟨S4x32x16x1x1, .i1⟩
  | 83 => ⟨S_, .f32⟩
  | 84 => ⟨S4x32x16x1x1, .f32⟩
  | 85 => ⟨S4x32x16x1x1, .i1⟩
  | 86 => ⟨S4x32x16x1x1, .i1⟩
  | 87 => ⟨S_, .f32⟩
  | 88 => ⟨S_, .f32⟩
  | 89 => ⟨S4x32x16x1x1, .f32⟩
  | 90 => ⟨S4x32x16x1x1, .f32⟩
  | 91 => ⟨S_, .f32⟩
  | 92 => ⟨S4x32x16x1x1, .f32⟩
  | 93 => ⟨S4x32x16x1x1, .f32⟩
  | 94 => ⟨S4x32x16x128x128, .f32⟩
  | 95 => ⟨S4x32x16x128x128, .f32⟩
  | 96 => ⟨S_, .f32⟩
  | 97 => ⟨S_, .f32⟩
  | 98 => ⟨S_, .f32⟩
  | 99 => ⟨S4x32x16x128x128, .f32⟩
  | 100 => ⟨S4x32x16x128x128, .f32⟩
  | 101 => ⟨S_, .f32⟩
  | 102 => ⟨S4x32x16x128x128, .f32⟩
  | 103 => ⟨S4x32x16x128x128, .f32⟩
  | 104 => ⟨S4x32x16, .f32⟩
  | 105 => ⟨S4x16x128x32x128, .f32⟩
  | 106 => ⟨S4x32x16x128x128, .f32⟩
  | 107 => ⟨S4x32x16x128x128, .f32⟩
  | 108 => ⟨S_, .f32⟩
  | 109 => ⟨S4x32x16, .f32⟩
  | 110 => ⟨S4x32x16x1x1, .f32⟩
  | 111 => ⟨S_, .f32⟩
  | 112 => ⟨S4x32x16x1x1, .f32⟩
  | 113 => ⟨S4x32x16x1x1, .f32⟩
  | 114 => ⟨S4x32x16x1x1x1, .f32⟩
  | 115 => ⟨S1x1x1x1x1x277, .f32⟩
  | 116 => ⟨S4x32x16x1x1x277, .f32⟩
  | 117 => ⟨S4x32x16x1x1x277, .f32⟩
  | 118 => ⟨S4x32x16x1x1x277, .i1⟩
  | 119 => ⟨S_, .f32⟩
  | 120 => ⟨S277, .f32⟩
  | 121 => ⟨S277, .f32⟩
  | 122 => ⟨S_, .f32⟩
  | 123 => ⟨S_, .f32⟩
  | 124 => ⟨S4x32x16x1x1x277, .f32⟩
  | 125 => ⟨S4x32x16x1x1x277, .f32⟩
  | 126 => ⟨S4x32x16x1x1x277, .f32⟩
  | 127 => ⟨S_, .f32⟩
  | _ => ⟨S4x2048x4096, .f32⟩

abbrev hbmTy0_1 (i : Nat) : BufTy := match i % 128 with
  | 0 => ⟨S4x32x16x1x1, .f32⟩
  | 1 => ⟨S_, .f32⟩
  | 2 => ⟨S4x32x16x1x1, .f32⟩
  | 3 => ⟨S4x32x16x1x1, .i1⟩
  | 4 => ⟨S_, .f32⟩
  | 5 => ⟨S4x32x16x1x1, .f32⟩
  | 6 => ⟨S4x32x16x1x1, .i1⟩
  | 7 => ⟨S4x32x16x1x1, .i1⟩
  | 8 => ⟨S_, .f32⟩
  | 9 => ⟨S_, .f32⟩
  | 10 => ⟨S4x32x16x1x1, .f32⟩
  | 11 => ⟨S4x32x16x1x1, .f32⟩
  | 12 => ⟨S_, .f32⟩
  | 13 => ⟨S4x32x16x1x1, .f32⟩
  | 14 => ⟨S4x32x16x1x1, .f32⟩
  | 15 => ⟨S4x32x16x128x128, .f32⟩
  | 16 => ⟨S4x32x16x128x128, .f32⟩
  | 17 => ⟨S_, .f32⟩
  | 18 => ⟨S_, .f32⟩
  | 19 => ⟨S_, .f32⟩
  | 20 => ⟨S4x32x16x128x128, .f32⟩
  | 21 => ⟨S4x32x16x128x128, .f32⟩
  | 22 => ⟨S_, .f32⟩
  | 23 => ⟨S4x32x16x128x128, .f32⟩
  | 24 => ⟨S4x32x16x128x128, .f32⟩
  | 25 => ⟨S4x32x16, .f32⟩
  | 26 => ⟨S4x32x2048x128, .f32⟩
  | 27 => ⟨S4x32x2048x128, .f32⟩
  | 28 => ⟨S4x32x2048x2048, .f32⟩
  | 29 => ⟨S_, .f32⟩
  | 30 => ⟨S4x32x16, .f32⟩
  | 31 => ⟨S4x32x16, .f32⟩
  | 32 => ⟨S4x32x16x128, .f32⟩
  | 33 => ⟨S4x32x2048, .f32⟩
  | 34 => ⟨S4x32x16x128, .f32⟩
  | 35 => ⟨S4x32x2048, .f32⟩
  | 36 => ⟨S4x32x2048x1, .f32⟩
  | 37 => ⟨S4x32x2048x2048, .f32⟩
  | 38 => ⟨S4x32x2048x2048, .f32⟩
  | 39 => ⟨S4x32x1x2048, .f32⟩
  | 40 => ⟨S4x32x2048x2048, .f32⟩
  | 41 => ⟨S4x32x2048x2048, .f32⟩
  | 42 => ⟨S2048, .i32⟩
  | 43 => ⟨S1x2048, .i32⟩
  | 44 => ⟨S2048, .i32⟩
  | 45 => ⟨S2048x1, .i32⟩
  | 46 => ⟨S2048x2048, .i32⟩
  | 47 => ⟨S2048x2048, .i32⟩
  | 48 => ⟨S2048x2048, .i1⟩
  | 49 => ⟨S_, .f32⟩
  | 50 => ⟨S_, .f32⟩
  | 51 => ⟨S4x32x2048x2048, .i1⟩
  | 52 => ⟨S4x32x2048x2048, .f32⟩
  | 53 => ⟨S4x32x2048x2048, .f32⟩
  | 54 => ⟨S_, .f32⟩
  | 55 => ⟨S4x32x2048, .f32⟩
  | 56 => ⟨S4x32x2048x1, .f32⟩
  | 57 => ⟨S4x32x2048x2048, .f32⟩
  | 58 => ⟨S4x32x2048x2048, .f32⟩
  | 59 => ⟨S4x32x2048x2048, .f32⟩
  | 60 => ⟨S_, .f32⟩
  | 61 => ⟨S4x32x2048, .f32⟩
  | 62 => ⟨S4x32x16x128x2048, .f32⟩
  | 63 => ⟨S4x32x16x128x2048, .f32⟩
  | 64 => ⟨S_, .f32⟩
  | 65 => ⟨S4x32x16, .f32⟩
  | 66 => ⟨S4x32x16x1x1, .f32⟩
  | 67 => ⟨S_, .f32⟩
  | 68 => ⟨S4x32x16x1x1, .f32⟩
  | 69 => ⟨S4x32x16x1x1, .f32⟩
  | 70 => ⟨S4x32x16x1x1x1, .f32⟩
  | 71 => ⟨S1x1x1x1x1x277, .f32⟩
  | 72 => ⟨S4x32x16x1x1x277, .f32⟩
  | 73 => ⟨S4x32x16x1x1x277, .f32⟩
  | 74 => ⟨S4x32x16x1x1x277, .i1⟩
  | 75 => ⟨S_, .f32⟩
  | 76 => ⟨S277, .f32⟩
  | 77 => ⟨S277, .f32⟩
  | 78 => ⟨S_, .f32⟩
  | 79 => ⟨S_, .f32⟩
  | 80 => ⟨S4x32x16x1x1x277, .f32⟩
  | 81 => ⟨S4x32x16x1x1x277, .f32⟩
  | 82 => ⟨S4x32x16x1x1x277, .f32⟩
  | 83 => ⟨S_, .f32⟩
  | 84 => ⟨S4x32x16x1x1, .f32⟩
  | 85 => ⟨S_, .f32⟩
  | 86 => ⟨S4x32x16x1x1, .f32⟩
  | 87 => ⟨S4x32x16x1x1, .i1⟩
  | 88 => ⟨S_, .f32⟩
  | 89 => ⟨S4x32x16x1x1, .f32⟩
  | 90 => ⟨S4x32x16x1x1, .i1⟩
  | 91 => ⟨S4x32x16x1x1, .i1⟩
  | 92 => ⟨S_, .f32⟩
  | 93 => ⟨S_, .f32⟩
  | 94 => ⟨S4x32x16x1x1, .f32⟩
  | 95 => ⟨S4x32x16x1x1, .f32⟩
  | 96 => ⟨S_, .f32⟩
  | 97 => ⟨S4x32x16x1x1, .f32⟩
  | 98 => ⟨S4x32x16x1x1, .f32⟩
  | 99 => ⟨S4x32x16x128x2048, .f32⟩
  | 100 => ⟨S4x32x16x128x2048, .f32⟩
  | 101 => ⟨S_, .f32⟩
  | 102 => ⟨S_, .f32⟩
  | 103 => ⟨S_, .f32⟩
  | 104 => ⟨S4x32x16x128x2048, .f32⟩
  | 105 => ⟨S4x32x16x128x2048, .f32⟩
  | 106 => ⟨S_, .f32⟩
  | 107 => ⟨S4x32x16x128x2048, .f32⟩
  | 108 => ⟨S4x32x16x128x2048, .f32⟩
  | 109 => ⟨S4x32x2048x16x128, .f32⟩
  | 110 => ⟨S4x32x16x2048x128, .f32⟩
  | 111 => ⟨S4x32x16x1x1, .f32⟩
  | 112 => ⟨S4x32x16x2048x128, .f32⟩
  | 113 => ⟨S4x32x16x2048x128, .f32⟩
  | 114 => ⟨S_, .f32⟩
  | 115 => ⟨S4x32x2048x128, .f32⟩
  | 116 => ⟨S4x32x16, .f32⟩
  | 117 => ⟨S4x32x16x128, .f32⟩
  | 118 => ⟨S4x32x2048, .f32⟩
  | 119 => ⟨S4x32x2048, .f32⟩
  | 120 => ⟨S4x32x2048x1, .f32⟩
  | 121 => ⟨S4x32x2048x128, .f32⟩
  | 122 => ⟨S4x32x2048x128, .f32⟩
  | 123 => ⟨S4x32x16x128x128, .f32⟩
  | 124 => ⟨S4x16x128x32x128, .f32⟩
  | 125 => ⟨S4x2048x4096, .f32⟩
  | 126 => ⟨S4x16x128x32x128, .f32⟩
  | 127 => ⟨S4x2048x4096, .f32⟩
  | _ => ⟨S4x2048x4096, .f32⟩

abbrev hbmTy0_2 (i : Nat) : BufTy := match i % 128 with
  | 0 => ⟨S4x2048x4096, .fp8e4m3⟩
  | 1 => ⟨S4x16x128x32x128, .f32⟩
  | 2 => ⟨S4x2048x4096, .f32⟩
  | 3 => ⟨S4x2048x4096, .fp8e4m3⟩
  | 4 => ⟨S4x16x128x32x128, .f32⟩
  | 5 => ⟨S4x2048x4096, .f32⟩
  | 6 => ⟨S4x2048x4096, .fp8e4m3⟩
  | _ => ⟨S4x2048x4096, .f32⟩

abbrev hbmTy (i : Nat) : BufTy := match i / 128 with
  | 0 => hbmTy0_0 i
  | 1 => hbmTy0_1 i
  | 2 => hbmTy0_2 i
  | _ => ⟨S4x2048x4096, .f32⟩

abbrev bufTy : (tb : Table) → Fin (tcTables nBuf tb) → BufTy
  | .hbm, ⟨i, _⟩ => hbmTy i
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_cst_2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_3 : Ref sig .tc := ⟨.hbm, 10, rfl⟩
abbrev main_v3 : Ref sig .tc := ⟨.hbm, 11, rfl⟩
abbrev main_v4 : Ref sig .tc := ⟨.hbm, 12, rfl⟩
abbrev main_cst_4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_5 : Ref sig .tc := ⟨.hbm, 21, rfl⟩
abbrev main_v12 : Ref sig .tc := ⟨.hbm, 22, rfl⟩
abbrev main_v13 : Ref sig .tc := ⟨.hbm, 23, rfl⟩
abbrev main_cst_6 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v14 : Ref sig .tc := ⟨.hbm, 28, rfl⟩
abbrev main_cst_7 : Ref sig .tc := ⟨.hbm, 29, rfl⟩
abbrev main_v15 : Ref sig .tc := ⟨.hbm, 30, rfl⟩
abbrev main_cst_8 : Ref sig .tc := ⟨.hbm, 31, rfl⟩
abbrev main_v16 : Ref sig .tc := ⟨.hbm, 32, rfl⟩
abbrev main_v17 : Ref sig .tc := ⟨.hbm, 33, rfl⟩
abbrev main_cst_9 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_10 : Ref sig .tc := ⟨.hbm, 38, rfl⟩
abbrev main_call1_v0 : Ref sig .tc := ⟨.hbm, 39, rfl⟩
abbrev main_call1_v1 : Ref sig .tc := ⟨.hbm, 40, rfl⟩
abbrev main_v21 : Ref sig .tc := ⟨.hbm, 41, rfl⟩
abbrev main_cst_11 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_12 : Ref sig .tc := ⟨.hbm, 47, rfl⟩
abbrev main_cst_13 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_14 : Ref sig .tc := ⟨.hbm, 59, rfl⟩
abbrev main_v31 : Ref sig .tc := ⟨.hbm, 60, rfl⟩
abbrev main_v32 : Ref sig .tc := ⟨.hbm, 61, rfl⟩
abbrev main_cst_15 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_16 : Ref sig .tc := ⟨.hbm, 70, rfl⟩
abbrev main_v40 : Ref sig .tc := ⟨.hbm, 71, rfl⟩
abbrev main_v41 : Ref sig .tc := ⟨.hbm, 72, rfl⟩
abbrev main_cst_17 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_v42 : Ref sig .tc := ⟨.hbm, 77, rfl⟩
abbrev main_cst_18 : Ref sig .tc := ⟨.hbm, 78, rfl⟩
abbrev main_v43 : Ref sig .tc := ⟨.hbm, 79, rfl⟩
abbrev main_cst_19 : Ref sig .tc := ⟨.hbm, 80, rfl⟩
abbrev main_v44 : Ref sig .tc := ⟨.hbm, 81, rfl⟩
abbrev main_v45 : Ref sig .tc := ⟨.hbm, 82, rfl⟩
abbrev main_cst_20 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_21 : Ref sig .tc := ⟨.hbm, 87, rfl⟩
abbrev main_call4_v0 : Ref sig .tc := ⟨.hbm, 88, rfl⟩
abbrev main_call4_v1 : Ref sig .tc := ⟨.hbm, 89, rfl⟩
abbrev main_v49 : Ref sig .tc := ⟨.hbm, 90, rfl⟩
abbrev main_cst_22 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_cst_23 : Ref sig .tc := ⟨.hbm, 96, rfl⟩
abbrev main_cst_24 : Ref sig .tc := ⟨.hbm, 97, rfl⟩
abbrev main_call5_v0 : Ref sig .tc := ⟨.hbm, 98, rfl⟩
abbrev main_call5_v1 : Ref sig .tc := ⟨.hbm, 99, rfl⟩
abbrev main_call5_v2 : Ref sig .tc := ⟨.hbm, 100, rfl⟩
abbrev main_call5_v3 : Ref sig .tc := ⟨.hbm, 101, rfl⟩
abbrev main_call5_v4 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_cst_25 : Ref sig .tc := ⟨.hbm, 108, rfl⟩
abbrev main_v59 : Ref sig .tc := ⟨.hbm, 109, rfl⟩
abbrev main_v60 : Ref sig .tc := ⟨.hbm, 110, rfl⟩
abbrev main_cst_26 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_cst_27 : Ref sig .tc := ⟨.hbm, 119, rfl⟩
abbrev main_v68 : Ref sig .tc := ⟨.hbm, 120, rfl⟩
abbrev main_v69 : Ref sig .tc := ⟨.hbm, 121, rfl⟩
abbrev main_cst_28 : Ref sig .tc := ⟨.hbm, 122, rfl⟩
abbrev main_call6_v0 : Ref sig .tc := ⟨.hbm, 123, rfl⟩
abbrev main_call6_v1 : Ref sig .tc := ⟨.hbm, 124, rfl⟩
abbrev main_call6_v2 : Ref sig .tc := ⟨.hbm, 125, rfl⟩
abbrev main_v70 : Ref sig .tc := ⟨.hbm, 126, rfl⟩
abbrev main_cst_29 : Ref sig .tc := ⟨.hbm, 127, rfl⟩
abbrev main_v71 : Ref sig .tc := ⟨.hbm, 128, rfl⟩
abbrev main_cst_30 : Ref sig .tc := ⟨.hbm, 129, rfl⟩
abbrev main_v72 : Ref sig .tc := ⟨.hbm, 130, rfl⟩
abbrev main_v73 : Ref sig .tc := ⟨.hbm, 131, rfl⟩
abbrev main_cst_31 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_cst_32 : Ref sig .tc := ⟨.hbm, 136, rfl⟩
abbrev main_call7_v0 : Ref sig .tc := ⟨.hbm, 137, rfl⟩
abbrev main_call7_v1 : Ref sig .tc := ⟨.hbm, 138, rfl⟩
abbrev main_v77 : Ref sig .tc := ⟨.hbm, 139, rfl⟩
abbrev main_cst_33 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_cst_34 : Ref sig .tc := ⟨.hbm, 145, rfl⟩
abbrev main_cst_35 : Ref sig .tc := ⟨.hbm, 146, rfl⟩
abbrev main_call8_v0 : Ref sig .tc := ⟨.hbm, 147, rfl⟩
abbrev main_call8_v1 : Ref sig .tc := ⟨.hbm, 148, rfl⟩
abbrev main_call8_v2 : Ref sig .tc := ⟨.hbm, 149, rfl⟩
abbrev main_call8_v3 : Ref sig .tc := ⟨.hbm, 150, rfl⟩
abbrev main_call8_v4 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_cst_36 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_cst_37 : Ref sig .tc := ⟨.hbm, 177, rfl⟩
abbrev main_call9_v0 : Ref sig .tc := ⟨.hbm, 178, rfl⟩
abbrev main_call9_v1 : Ref sig .tc := ⟨.hbm, 179, rfl⟩
abbrev main_call9_v2 : Ref sig .tc := ⟨.hbm, 180, rfl⟩
abbrev main_v106 : Ref sig .tc := ⟨.hbm, 181, rfl⟩
abbrev main_cst_38 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_cst_39 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_cst_40 : Ref sig .tc := ⟨.hbm, 192, rfl⟩
abbrev main_v115 : Ref sig .tc := ⟨.hbm, 193, rfl⟩
abbrev main_v116 : Ref sig .tc := ⟨.hbm, 194, rfl⟩
abbrev main_cst_41 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev main_cst_42 : Ref sig .tc := ⟨.hbm, 203, rfl⟩
abbrev main_v124 : Ref sig .tc := ⟨.hbm, 204, rfl⟩
abbrev main_v125 : Ref sig .tc := ⟨.hbm, 205, rfl⟩
abbrev main_cst_43 : Ref sig .tc := ⟨.hbm, 206, rfl⟩
abbrev main_call10_v0 : Ref sig .tc := ⟨.hbm, 207, rfl⟩
abbrev main_call10_v1 : Ref sig .tc := ⟨.hbm, 208, rfl⟩
abbrev main_call10_v2 : Ref sig .tc := ⟨.hbm, 209, rfl⟩
abbrev main_v126 : Ref sig .tc := ⟨.hbm, 210, rfl⟩
abbrev main_cst_44 : Ref sig .tc := ⟨.hbm, 211, rfl⟩
abbrev main_v127 : Ref sig .tc := ⟨.hbm, 212, rfl⟩
abbrev main_cst_45 : Ref sig .tc := ⟨.hbm, 213, rfl⟩
abbrev main_v128 : Ref sig .tc := ⟨.hbm, 214, rfl⟩
abbrev main_v129 : Ref sig .tc := ⟨.hbm, 215, rfl⟩
abbrev main_cst_46 : Ref sig .tc := ⟨.hbm, 216, rfl⟩
abbrev main_v130 : Ref sig .tc := ⟨.hbm, 217, rfl⟩
abbrev main_v131 : Ref sig .tc := ⟨.hbm, 218, rfl⟩
abbrev main_v132 : Ref sig .tc := ⟨.hbm, 219, rfl⟩
abbrev main_cst_47 : Ref sig .tc := ⟨.hbm, 220, rfl⟩
abbrev main_call11_v0 : Ref sig .tc := ⟨.hbm, 221, rfl⟩
abbrev main_call11_v1 : Ref sig .tc := ⟨.hbm, 222, rfl⟩
abbrev main_v133 : Ref sig .tc := ⟨.hbm, 223, rfl⟩
abbrev main_cst_48 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_cst_49 : Ref sig .tc := ⟨.hbm, 229, rfl⟩
abbrev main_cst_50 : Ref sig .tc := ⟨.hbm, 230, rfl⟩
abbrev main_call12_v0 : Ref sig .tc := ⟨.hbm, 231, rfl⟩
abbrev main_call12_v1 : Ref sig .tc := ⟨.hbm, 232, rfl⟩
abbrev main_call12_v2 : Ref sig .tc := ⟨.hbm, 233, rfl⟩
abbrev main_call12_v3 : Ref sig .tc := ⟨.hbm, 234, rfl⟩
abbrev main_call12_v4 : Ref sig .tc := ⟨.hbm, 235, rfl⟩
abbrev main_v138 : Ref sig .tc := ⟨.hbm, 236, rfl⟩
abbrev main_v139 : Ref sig .tc := ⟨.hbm, 237, rfl⟩
abbrev main_v140 : Ref sig .tc := ⟨.hbm, 238, rfl⟩
abbrev main_v141 : Ref sig .tc := ⟨.hbm, 239, rfl⟩
abbrev main_v142 : Ref sig .tc := ⟨.hbm, 240, rfl⟩
abbrev main_v143 : Ref sig .tc := ⟨.hbm, 241, rfl⟩
abbrev main_cst_51 : Ref sig .tc := ⟨.hbm, 242, rfl⟩
abbrev main_v144 : Ref sig .tc := ⟨.hbm, 243, rfl⟩
abbrev main_v145 : Ref sig .tc := ⟨.hbm, 244, rfl⟩
abbrev main_v146 : Ref sig .tc := ⟨.hbm, 245, rfl⟩
abbrev main_v147 : Ref sig .tc := ⟨.hbm, 246, rfl⟩
abbrev main_v148 : Ref sig .tc := ⟨.hbm, 247, rfl⟩
abbrev main_v149 : Ref sig .tc := ⟨.hbm, 248, rfl⟩
abbrev main_v150 : Ref sig .tc := ⟨.hbm, 249, rfl⟩
abbrev main_v151 : Ref sig .tc := ⟨.hbm, 250, rfl⟩
abbrev main_v152 : Ref sig .tc := ⟨.hbm, 251, rfl⟩
abbrev main_v153 : Ref sig .tc := ⟨.hbm, 252, rfl⟩
abbrev main_v154 : Ref sig .tc := ⟨.hbm, 253, rfl⟩
abbrev main_v155 : Ref sig .tc := ⟨.hbm, 254, rfl⟩
abbrev main_v156 : Ref sig .tc := ⟨.hbm, 255, rfl⟩
abbrev main_v157 : Ref sig .tc := ⟨.hbm, 256, rfl⟩
abbrev main_v158 : Ref sig .tc := ⟨.hbm, 257, rfl⟩
abbrev main_v159 : Ref sig .tc := ⟨.hbm, 258, rfl⟩
abbrev main_v160 : Ref sig .tc := ⟨.hbm, 259, rfl⟩
abbrev main_v161 : Ref sig .tc := ⟨.hbm, 260, rfl⟩
abbrev main_v162 : Ref sig .tc := ⟨.hbm, 261, rfl⟩
abbrev main_v163 : Ref sig .tc := ⟨.hbm, 262, rfl⟩

abbrev nD : Nat := 1
abbrev τ : Topo := Topo.v7x

variable {F : FTy → Type} [FloatOps F]
-- ==== Proof.KernelRuns.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

/-! What the run of the printed kernel is stated over: the windows' blocks and the buffers at a point. -/

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- An argument holds its initial value when the kernel is launched. -/
theorem V_main_arg0 (c : Dev nD) : V m c main_arg0 = m ((c : Thread nD τ).loc main_arg0) := rfl
/-- An argument holds its initial value when the kernel is launched. -/
theorem V_main_arg1 (c : Dev nD) : V m c main_arg1 = m ((c : Thread nD τ).loc main_arg1) := rfl
/-- An argument holds its initial value when the kernel is launched. -/
theorem V_main_arg2 (c : Dev nD) : V m c main_arg2 = m ((c : Thread nD τ).loc main_arg2) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c))⟩) h

/-! ## The kernel body on any staging memrefs: a subtype the run finds -/

/-- Each window's current staging memref at point `t`, spelled as the pipeline passes it (`bodyAt0`), and its wholeness. -/
abbrev ms0_0 (t : Fin cfg0.N) : Memref sig .tc .vmem S1x2048x128 .f32 := win0_0.stage (cfg0.slots t 0)
/-- It is a whole buffer. -/
abbrev hs0_0 (t : Fin cfg0.N) : (ms0_0 t).IsWhole := hstage0_0 ((cfg0.slots t 0).cast nbuf0_0)
/-- A staging buffer of this window at a point. -/
abbrev ms0_1 (t : Fin cfg0.N) : Memref sig .tc .vmem S1x2048x128 .f32 := win0_1.stage (cfg0.slots t 1)
/-- It is a whole buffer. -/
abbrev hs0_1 (t : Fin cfg0.N) : (ms0_1 t).IsWhole := hstage0_1 ((cfg0.slots t 1).cast nbuf0_1)
/-- A staging buffer of this window at a point. -/
abbrev ms0_2 (t : Fin cfg0.N) : Memref sig .tc .vmem S1x2048x128 .f32 := win0_2.stage (cfg0.slots t 2)
/-- It is a whole buffer. -/
abbrev hs0_2 (t : Fin cfg0.N) : (ms0_2 t).IsWhole := hstage0_2 ((cfg0.slots t 2).cast nbuf0_2)
/-- A staging buffer of this window at a point. -/
abbrev ms0_3 (t : Fin cfg0.N) : Memref sig .tc .vmem S1x2048x128 .f32 := win0_3.stage (cfg0.slots t 3)
/-- It is a whole buffer. -/
abbrev hs0_3 (t : Fin cfg0.N) : (ms0_3 t).IsWhole := hstage0_3 ((cfg0.slots t 3).cast nbuf0_3)
/-- A staging buffer of this window at a point. -/
abbrev ms0_4 (t : Fin cfg0.N) : Memref sig .tc .vmem S1x2048x128 .fp8e4m3 := win0_4.stage (cfg0.slots t 4)
/-- It is a whole buffer. -/
abbrev hs0_4 (t : Fin cfg0.N) : (ms0_4 t).IsWhole := hstage0_4 ((cfg0.slots t 4).cast nbuf0_4)
/-- A staging buffer of this window at a point. -/
abbrev ms0_5 (t : Fin cfg0.N) : Memref sig .tc .vmem S1x32x16 .f32 := win0_5.stage (cfg0.slots t 5)
/-- It is a whole buffer. -/
abbrev hs0_5 (t : Fin cfg0.N) : (ms0_5 t).IsWhole := hstage0_5 ((cfg0.slots t 5).cast nbuf0_5)
/-- A staging buffer of this window at a point. -/
abbrev ms0_6 (t : Fin cfg0.N) : Memref sig .tc .vmem S1x2048x128 .fp8e4m3 := win0_6.stage (cfg0.slots t 6)
/-- It is a whole buffer. -/
abbrev hs0_6 (t : Fin cfg0.N) : (ms0_6 t).IsWhole := hstage0_6 ((cfg0.slots t 6).cast nbuf0_6)
/-- A staging buffer of this window at a point. -/
abbrev ms0_7 (t : Fin cfg0.N) : Memref sig .tc .vmem S1x32x16 .f32 := win0_7.stage (cfg0.slots t 7)
/-- It is a whole buffer. -/
abbrev hs0_7 (t : Fin cfg0.N) : (ms0_7 t).IsWhole := hstage0_7 ((cfg0.slots t 7).cast nbuf0_7)
/-- A staging buffer of this window at a point. -/
abbrev ms0_8 (t : Fin cfg0.N) : Memref sig .tc .vmem S1x2048x128 .fp8e4m3 := win0_8.stage (cfg0.slots t 8)
/-- It is a whole buffer. -/
abbrev hs0_8 (t : Fin cfg0.N) : (ms0_8 t).IsWhole := hstage0_8 ((cfg0.slots t 8).cast nbuf0_8)
/-- A staging buffer of this window at a point. -/
abbrev ms0_9 (t : Fin cfg0.N) : Memref sig .tc .vmem S1x32x16 .f32 := win0_9.stage (cfg0.slots t 9)
/-- It is a whole buffer. -/
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S2x2048x256 .f32 := Memref.whole cc0_scratch0
/-- A scratch buffer, whole. -/
abbrev scM0_1 : Memref sig .tc .vmem S2x2048x256 .fp8e4m3 := Memref.whole cc0_scratch1
/-- A scratch buffer, whole. -/
abbrev scM0_2 : Memref sig .tc .vmem S128x2048 .fp8e4m3 := Memref.whole cc0_scratch2
/-- A scratch buffer, whole. -/
abbrev scM0_3 : Memref sig .tc .vmem S128x128 .f32 := Memref.whole cc0_scratch3
/-- A scratch buffer, whole. -/
abbrev scM0_4 : Memref sig .tc .vmem S16x128 .f32 := Memref.whole cc0_scratch4
/-- A scratch buffer, whole. -/
abbrev scM0_5 : Memref sig .tc .vmem S16x128 .f32 := Memref.whole cc0_scratch5
/-- A scratch buffer, whole. -/
abbrev scM0_6 : Memref sig .tc .vmem S16x128 .f32 := Memref.whole cc0_scratch6
/-- A scratch buffer, whole. -/
abbrev scM0_7 : Memref sig .tc .vmem S16x128 .f32 := Memref.whole cc0_scratch7
/-- A scratch buffer, whole. -/
abbrev scM0_8 : Memref sig .tc .vmem S16x128 .f32 := Memref.whole cc0_scratch8
/-- A scratch buffer, whole. -/
abbrev scM0_9 : Memref sig .tc .vmem S16x128 .f32 := Memref.whole cc0_scratch9

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  unfold Pipeline.ΦA; rw [scopedRest0_eq]; simp only [scM0_0, scM0_1, scM0_2, scM0_3, scM0_4, scM0_5, scM0_6, scM0_7, scM0_8, scM0_9, owns_whole]; try rfl

end Cert.Kernel.Gen

end
-- ==== Proof.KernelRun.lean ====
module

public import proofs.«01_k».proof.Proof.KernelRuns

/-! The run of the printed kernel's body: on any contents of its buffers it ends, with its inputs as they were. -/

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 10696000 in
/-- The body's triple: on whole staging memrefs — the inputs' at their contents,
    the FORGOTTEN outputs' (3, 4, 5, 6, 7, 8, 9) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .fp8e4m3) (harg6 : arg6.IsWhole) (arg7 : Memref sig .tc .vmem S1x32x16 .f32) (harg7 : arg7.IsWhole) (arg8 : Memref sig .tc .vmem S1x2048x128 .fp8e4m3) (harg8 : arg8.IsWhole) (arg9 : Memref sig .tc .vmem S1x32x16 .f32) (harg9 : arg9.IsWhole) (arg10 : Memref sig .tc .vmem S1x2048x128 .fp8e4m3) (harg10 : arg10.IsWhole) (arg11 : Memref sig .tc .vmem S1x32x16 .f32) (harg11 : arg11.IsWhole) (arg12 : Memref sig .tc .vmem S2x2048x256 .f32) (harg12 : arg12.IsWhole) (arg13 : Memref sig .tc .vmem S2x2048x256 .fp8e4m3) (harg13 : arg13.IsWhole) (arg14 : Memref sig .tc .vmem S128x2048 .fp8e4m3) (harg14 : arg14.IsWhole) (arg15 : Memref sig .tc .vmem S128x128 .f32) (harg15 : arg15.IsWhole) (arg16 : Memref sig .tc .vmem S16x128 .f32) (harg16 : arg16.IsWhole) (arg17 : Memref sig .tc .vmem S16x128 .f32) (harg17 : arg17.IsWhole) (arg18 : Memref sig .tc .vmem S16x128 .f32) (harg18 : arg18.IsWhole) (arg19 : Memref sig .tc .vmem S16x128 .f32) (harg19 : arg19.IsWhole) (arg20 : Memref sig .tc .vmem S16x128 .f32) (harg20 : arg20.IsWhole) (arg21 : Memref sig .tc .vmem S16x128 .f32) (harg21 : arg21.IsWhole)
    (x0 : Vec F S1x2048x128 .f32) (x1 : Vec F S1x2048x128 .f32) (x2 : Vec F S1x2048x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
          ⊢ wp frame (wpE (defs₀ (F := F)) Variants.none c none) E (cc0_fp8_causal_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
    intro E K
    simp only [cc0_fp8_causal_attention_eq_skeleton]; unfold cc0_fp8_causal_attention_skel
    simp only [k0_part353_eq_skeleton, k0_part348_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part349_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part350_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part351_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part352_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton, k0_part344_eq_skeleton, k0_part345_eq_skeleton, k0_part346_eq_skeleton, k0_part347_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    iexists _, _; isplitr; swap; · iexact HS9
    ipureintro; rfl

end Cert.Kernel.Gen

end
-- ==== Proof.KernelFrame.lean ====
module

public import proofs.«01_k».proof.Proof.KernelRun
public import Idealize.ShloMosaic.Lib.Claim

/-! The frame of the printed kernel: the body at every point, and the launch. -/

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3, 4, 5, 6, 7, 8, 9): nothing reads what the kernel leaves in them, so nothing
    of it is named (Lib/Pipeline/Dat.lean `Dat.toRForget`). -/
def forgets0 : Fin 10 → Bool := fun w => w.val == 3 || w.val == 4 || w.val == 5 || w.val == 6 || w.val == 7 || w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- The second window holds its block after a point. -/
theorem after0_1 (c : Dev nD) (t : Fin cfg0.N) : (dats m 0 c).after 1 t = iblk m c 1 t := by dsimp only [dats]
/-- The third window holds its block after a point. -/
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- The second window holds its block before a point. -/
theorem before0_1 (c : Dev nD) (t : Fin cfg0.N) (d) : (dats m 0 c).before 1 t d = iblk m c 1 t :=
  before0_1_of m (dats m 0 c) (A_eq m c 1) (after0_1 m c) t d
/-- The third window holds its block before a point. -/
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 2000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ _ _ _ _ _ _ _ _ _ _ _ _ _ _ _ _ _ _ _ _ (iblk m c 0 t) (iblk m c 1 t) (iblk m c 2 t)) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, H3, H4, H5, H6, H7, H8, H9, HS0, HS1, HS2, HS3, HS4, HS5, HS6, HS7, HS8, HS9⟩
  isplitl [HS0 HS1 HS2 HS3 HS4 HS5 HS6 HS7 HS8 HS9 Hg]
  · isplitl [HS0 HS1 HS2 HS3 HS4 HS5 HS6 HS7 HS8 HS9]
    · isplitl [HS0]
      · iexact HS0
      isplitl [HS1]
      · iexact HS1
      isplitl [HS2]
      · iexact HS2
      isplitl [HS3]
      · iexact HS3
      isplitl [HS4]
      · iexact HS4
      isplitl [HS5]
      · iexact HS5
      isplitl [HS6]
      · iexact HS6
      isplitl [HS7]
      · iexact HS7
      isplitl [HS8]
      · iexact HS8
      iexact HS9
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5, 6, 7, 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- The frame of the printed kernel, at any reading of its floats: it ends, with its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Gen

end
-- ==== Proof.Rolled.lean ====
module

public import proofs.«01_k».proof.KernelIdeal

/-! # The kernel body with its loops

The printed body has every Python loop unrolled. Here the same body is written with its loops: a loop
over blocks is a recursion, a block's offset is an expression of the block's number. `RolledEq`
states that the two programs are the same one. -/

@[expose] public section

noncomputable section

namespace Cert.KernelIdeal.Rolled

open Idealize.ShloMosaic Idealize.SL.Sem
open Cert.KernelIdeal

variable {F : FTy → Type} [FloatOps F] [Named F] [Facts]
open Facts₀ Facts

variable (F) in
/-- A program of the kernel's core. -/
abbrev M (α : Type) := Prog (TpuEff nD τ sig (Elt F) Λ₀ .tc) α

/-- `f 0, …, f (n-1)` in this order, each on the state the one before left. -/
def loop {σ : Type} : (n : Nat) → ((j : Nat) → j < n → σ → M F σ) → σ → M F σ
  | 0, _, s => pure s
  | n + 1, f, s => loop n (fun j h => f j (Nat.lt_succ_of_lt h)) s >>= f n (Nat.lt_succ_self n)

/-- `[f 0, …, f (n-1)]`. -/
def build {α : Type} : (n : Nat) → ((j : Nat) → j < n → α) → List α
  | 0, _ => []
  | n + 1, f => build n (fun j h => f j (Nat.lt_succ_of_lt h)) ++ [f n (Nat.lt_succ_self n)]

/-- One level of a balanced fold: neighbours combined. -/
def pairUp {α : Type} (op : α → α → α) : List α → List α
  | a :: b :: l => op a b :: pairUp op l
  | l => l

/-- A balanced fold, at most `n` levels deep. -/
def tree {α : Type} (op : α → α → α) (z : α) : Nat → List α → α
  | 0, l => l.headD z
  | n + 1, l => tree op z n (pairUp op l)

/-- A left fold without a start value. -/
def foldLeft {α : Type} (op : α → α → α) (z : α) : List α → α
  | [] => z
  | a :: l => l.foldl op a

/-! ## Where the blocks lie -/

/-- A block of rows lies within its array. -/
theorem inb3 {j : Nat} (h : j < 16) : ∀ a, (![0, 128 * j, 0] : Fin 3 → Nat) a + S1x128x128.size a ≤ S1x2048x128.size a := by
  rw [Fin.forall_fin_succ, Fin.forall_fin_succ, Fin.forall_fin_succ]
  refine ⟨le_of_eq rfl, ?_, le_of_eq rfl, fun a => a.elim0⟩
  show 128 * j + 128 ≤ 2048; omega

/-- A pair of blocks of rows lies within its array. -/
theorem inb3t {p : Nat} (h : p < 8) : ∀ a, (![0, 256 * p, 0] : Fin 3 → Nat) a + S1x256x128.size a ≤ S1x2048x128.size a := by
  rw [Fin.forall_fin_succ, Fin.forall_fin_succ, Fin.forall_fin_succ]
  refine ⟨le_of_eq rfl, ?_, le_of_eq rfl, fun a => a.elim0⟩
  show 256 * p + 256 ≤ 2048; omega

/-- A row of scales lies within its array. -/
theorem inbRow {j : Nat} (h : j < 16) : ∀ a, (![j, 0] : Fin 2 → Nat) a + S1x128.size a ≤ S16x128.size a := by
  rw [Fin.forall_fin_succ, Fin.forall_fin_succ]
  refine ⟨?_, le_of_eq rfl, fun a => a.elim0⟩
  show j + 1 ≤ 16; omega

/-- A block lies within the score buffer. -/
theorem inbT {b j q : Nat} (hb : b < 2) (hj : j < 16) (hq : q < 2) :
    ∀ a, (![b, 128 * j, 128 * q] : Fin 3 → Nat) a + S1x128x128.size a ≤ S2x2048x256.size a := by
  rw [Fin.forall_fin_succ, Fin.forall_fin_succ, Fin.forall_fin_succ]
  refine ⟨?_, ?_, ?_, fun a => a.elim0⟩
  · show b + 1 ≤ 2; omega
  · show 128 * j + 128 ≤ 2048; omega
  · show 128 * q + 128 ≤ 256; omega

/-- A pair of blocks lies within the weight buffer. -/
theorem inbP {b j : Nat} (hb : b < 2) (hj : j < 16) :
    ∀ a, (![b, 128 * j, 0] : Fin 3 → Nat) a + S1x128x256.size a ≤ S2x2048x256.size a := by
  rw [Fin.forall_fin_succ, Fin.forall_fin_succ, Fin.forall_fin_succ]
  refine ⟨?_, ?_, le_of_eq rfl, fun a => a.elim0⟩
  · show b + 1 ≤ 2; omega
  · show 128 * j + 128 ≤ 2048; omega

/-- A block lies within the transposed values. -/
theorem inbV {j : Nat} (h : j < 16) : ∀ a, (![0, 128 * j] : Fin 2 → Nat) a + S128x128.size a ≤ S128x2048.size a := by
  rw [Fin.forall_fin_succ, Fin.forall_fin_succ]
  refine ⟨le_of_eq rfl, ?_, fun a => a.elim0⟩
  show 128 * j + 128 ≤ 2048; omega

/-- A block of codes is stored in whole packed rows. -/
theorem packed3 {j : Nat} (h : j < 16) : (Rect.unit (s := S1x2048x128) ![0, 128 * j, 0] S1x128x128.size (inb3 h)).PackedRows (EltTy.packing .fp8e4m3) :=
  by
  refine .inr ⟨show 2 ≤ _ by decide, rfl, .inl ⟨?_, ?_⟩⟩
  · exact (⟨32 * j, by omega⟩ : 4 ∣ 128 * j)
  · exact (by decide : 4 ∣ 128)

/-- A block of weights is stored in whole packed rows. -/
theorem packedT {b j q : Nat} (hb : b < 2) (hj : j < 16) (hq : q < 2) :
    (Rect.unit (s := S2x2048x256) ![b, 128 * j, 128 * q] S1x128x128.size (inbT hb hj hq)).PackedRows (EltTy.packing .fp8e4m3) :=
  by
  refine .inr ⟨show 2 ≤ _ by decide, rfl, .inl ⟨?_, ?_⟩⟩
  · exact (⟨32 * j, by omega⟩ : 4 ∣ 128 * j)
  · exact (by decide : 4 ∣ 128)

/-- A block of transposed codes is stored in whole packed rows. -/
theorem packedV {j : Nat} (h : j < 16) : (Rect.unit (s := S128x2048) ![0, 128 * j] S128x128.size (inbV h)).PackedRows (EltTy.packing .fp8e4m3) :=
  by
  refine .inr ⟨show 2 ≤ _ by decide, rfl, .inl ⟨?_, ?_⟩⟩
  · exact (by decide : 4 ∣ 0)
  · exact (by decide : 4 ∣ 128)

/-- Eight rows lie within a block. -/
theorem slices8 {r : Nat} (h : r < 16) : S128x128.Slices ![8 * r, 0] S8x128 := by
  refine ⟨rfl, fun a => ?_⟩
  revert a
  rw [Fin.forall_fin_succ, Fin.forall_fin_succ]
  refine ⟨?_, le_of_eq rfl, fun a => a.elim0⟩
  show 8 * r + 8 ≤ 128; omega

/-- A quarter lies within the products of two pairs. -/
theorem slicesAcc {k q : Nat} (hk : k < 2) (hq : q < 2) : S256x256.Slices ![128 * k, 128 * q] S128x128 := by
  refine ⟨rfl, fun a => ?_⟩
  revert a
  rw [Fin.forall_fin_succ, Fin.forall_fin_succ]
  refine ⟨?_, ?_, fun a => a.elim0⟩
  · show 128 * k + 128 ≤ 256; omega
  · show 128 * q + 128 ≤ 256; omega

/-! ## Pure parts -/

/-- The sixteen slices of eight rows. -/
def rows8 (x : FVec F S128x128 .f32) : List (FVec F S8x128 .f32) :=
  build 16 fun r h => extractStridedSlice S8x128 ![8 * r, 0] x (slices8 h)

/-- Eight rows: the sixteen slices of eight rows combined. -/
def foldRows (op : FVec F S8x128 .f32 → FVec F S8x128 .f32 → FVec F S8x128 .f32) (x : FVec F S128x128 .f32) : FVec F S8x128 .f32 :=
  tree op (constant S8x128 .f32 0x00000000#32) 4 (rows8 x)

/-- Each column's maximum, of eight rows. -/
def colMax (x : FVec F S8x128 .f32) : FVec F S1x128 .f32 :=
  shapeCast S1x128 (multiReduction .maximumf [0] S128 x 0xFF800000#32 reduces_S8x128_S128 (.inl rfl) rfl) shapeCasts_S128_S1x128

/-- Each column's sum, of eight rows. -/
def colSum (x : FVec F S8x128 .f32) : FVec F S1x128 .f32 :=
  shapeCast S1x128 (multiReduction .add [0] S128 x 0x00000000#32 reduces_S8x128_S128 (.inl rfl) rfl) shapeCasts_S128_S1x128

/-- One block's column maxima of absolute values. -/
def absMax (v : Vec F S1x128x128 .f32) : FVec F S1x128 .f32 :=
  colMax (foldRows maximumf (absf (shapeCast S128x128 v shapeCasts_S1x128x128_S128x128)))

/-- The sixteen blocks' maxima of absolute values. -/
def amaxOf (c : Nat → FVec F S1x128 .f32) : FVec F S16x1 .f32 :=
  shapeCast S16x1 (multiReduction .maximumf [1] S16
    (concatenate S16x128 0 [⟨S1x128, c 0⟩, ⟨S1x128, c 1⟩, ⟨S1x128, c 2⟩, ⟨S1x128, c 3⟩, ⟨S1x128, c 4⟩, ⟨S1x128, c 5⟩, ⟨S1x128, c 6⟩, ⟨S1x128, c 7⟩,
      ⟨S1x128, c 8⟩, ⟨S1x128, c 9⟩, ⟨S1x128, c 10⟩, ⟨S1x128, c 11⟩, ⟨S1x128, c 12⟩, ⟨S1x128, c 13⟩, ⟨S1x128, c 14⟩, ⟨S1x128, c 15⟩]
      concatenates_S1x128_S1x128_S1x128_S1x128_S1x128_S1x128_S1x128_S1x128_S1x128_S1x128_S1x128_S1x128_S1x128_S1x128_S1x128_S1x128_S16x128_d0)
    0xFF800000#32 reduces_S16x128_S16 (.inl rfl) rfl) shapeCasts_S16_S16x1

/-- The exponent of the scale, of the maximum of absolute values: shapes (n,1), (n,256), (n). -/
def expo (s1 s256 s0 : Shape) (io : IVec s256 32) (ax : List (Fin s256.rank)) (hb : s1.Broadcasts s256) (hr : s256.Reduces ax s0)
    (hc : s0.ShapeCasts s1) (amax : FVec F s1 .f32) : IVec s1 32 :=
  have t : FVec F s1 .f32 := mulf amax (broadcast s1 (Scalar.ofBits .f32 0x3B124925#32))
  have tiny : IVec s1 1 := cmpf .olt t (broadcast s1 (Scalar.ofBits .f32 0x00800000#32))
  have u : FVec F s1 .f32 := select tiny (mulf t (broadcast s1 (Scalar.ofBits .f32 0x4B000000#32))) t
  have w : FVec F s256 .f32 := bitcastToFloat .f32 (shli io (broadcast s256 23#32))
  have ge : IVec s256 1 := cmpf .oge (broadcastTo s256 u hb) w
  have cnt : IVec s256 32 := select ge (broadcast s256 1#32) (broadcast s256 0#32)
  have field : IVec s1 32 := subi (shapeCast s1 (multiReductionI .add ax s0 cnt 0#32 hr rfl) hc) (broadcast s1 1#32)
  have e : IVec s1 32 := addi field (select tiny (broadcast s1 4294967147#32) (broadcast s1 4294967170#32))
  have fin : IVec s1 1 := andi (cmpf .ogt t (broadcast s1 (Scalar.ofBits .f32 0x00000000#32)))
    (cmpf .olt t (broadcast s1 (Scalar.ofBits .f32 0x7F800000#32)))
  have e' : IVec s1 32 := select fin e (broadcast s1 0#32)
  select (cmpf .oeq amax (broadcast s1 (Scalar.ofBits .f32 0x00000000#32))) (broadcast s1 0#32) e'

/-- The power of two with a given exponent, as a product of two. -/
def pow2 {s : Shape} (e : IVec s 32) : FVec F s .f32 :=
  have half : IVec s 32 := shrsi e (broadcast s 1#32)
  mulf (bitcastToFloat .f32 (shli (addi half (broadcast s 127#32)) (broadcast s 23#32)))
    (bitcastToFloat .f32 (shli (addi (subi e half) (broadcast s 127#32)) (broadcast s 23#32)))

/-- The exponents of sixteen blocks' scales. -/
def expo16 (amax : FVec F S16x1 .f32) : IVec S16x1 32 :=
  expo S16x1 S16x256 S16 (iota .tc S16x256 32 [1] iota_S16x256_d1_w32) [1] broadcasts_S16x1_S16x256 reduces_S16x256_S16 shapeCasts_S16_S16x1 amax

/-- The exponent of one scale. -/
def expo1 (amax : FVec F S1x1 .f32) : IVec S1x1 32 :=
  expo S1x1 S1x256 S1 (iota .tc S1x256 32 [1] iota_S1x256_d1_w32) [1] broadcasts_S1x1_S1x256 reduces_S1x256_S1 shapeCasts_S1_S1x1 amax

/-- The inverse scales, along a row each. -/
def invOf (amax : FVec F S16x1 .f32) : FVec F S16x128 .f32 :=
  broadcastTo S16x128 (shapeCast S16x1 (pow2 (F := F) (subi (broadcast S16x1 0#32) (expo16 amax))) shapeCasts_S16x1_S16x1) broadcasts_S16x1_S16x128

/-- The scales, along a row each. -/
def scOf (amax : FVec F S16x1 .f32) : FVec F S16x128 .f32 :=
  broadcastTo S16x128 (shapeCast S16x1 (pow2 (F := F) (expo16 amax)) shapeCasts_S16x1_S16x1) broadcasts_S16x1_S16x128

/-- The scales as one row of sixteen: the diagonal of `scOf`. -/
def scRow (sc : FVec F S16x128 .f32) : FVec F S1x1x16 .f32 :=
  shapeCast S1x1x16 (extractStridedSlice S1x16 ![0, 0]
    (shapeCast S1x128 (multiReduction .add [0] S128
      (select (cmpi .eq (iota .tc S16x128 32 [0] iota_S16x128_d0_w32) (iota .tc S16x128 32 [1] iota_S16x128_d1_w32)) sc
        (broadcast S16x128 (Scalar.ofBits .f32 0x00000000#32)))
      0x00000000#32 reduces_S16x128_S128 (.inl rfl) rfl) shapeCasts_S128_S1x128) slices_S1x128_o0_0_S1x16) shapeCasts_S1x16_S1x1x16

/-- Clipped to the range of the codes. -/
def clip (x : FVec F S128x128 .f32) : FVec F S128x128 .f32 :=
  minimumf (broadcast S128x128 (Scalar.ofBits .f32 0x43E00000#32)) (maximumf (broadcast S128x128 (Scalar.ofBits .f32 0xC3E00000#32)) x)

/-- One block's codes before the cast. -/
def scaled (v : Vec F S1x128x128 .f32) (inv : Vec F S1x128 .f32) : FVec F S128x128 .f32 :=
  clip (mulf (shapeCast S128x128 v shapeCasts_S1x128x128_S128x128) (broadcastTo S128x128 inv broadcasts_S1x128_S128x128))

/-! ## Loads and stores -/

/-- Block `j` of a head's columns. -/
def ldBlk {e : EltTy} (m : Memref sig .tc .vmem S1x2048x128 e) (j : Nat) (h : j < 16) : M F (Vec F S1x128x128 e) :=
  Prog.lift (.load m (Rect.unit (s := S1x2048x128) ![0, 128 * j, 0] S1x128x128.size (inb3 h)).toLoadRect (View.loadsAt_vmem h_S1x128x128))

/-- Tile `p` of a head's columns. -/
def ldTile (m : Memref sig .tc .vmem S1x2048x128 .fp8e4m3) (p : Nat) (h : p < 8) : M F (Vec F S1x256x128 .fp8e4m3) :=
  Prog.lift (.load m (Rect.unit (s := S1x2048x128) ![0, 256 * p, 0] S1x256x128.size (inb3t h)).toLoadRect (View.loadsAt_vmem h_S1x256x128))

/-- Row `j` of the sixteen. -/
def ldRow (m : Memref sig .tc .vmem S16x128 .f32) (j : Nat) (h : j < 16) : M F (Vec F S1x128 .f32) :=
  Prog.lift (.load m (Rect.unit (s := S16x128) ![j, 0] S1x128.size (inbRow h)).toLoadRect (View.loadsAt_vmem h_S1x128))

/-- All the sixteen rows. -/
def ld16 (m : Memref sig .tc .vmem S16x128 .f32) : M F (Vec F S16x128 .f32) :=
  Prog.lift (.load m (Rect.unit (s := S16x128) ![0, 0] S16x128.size inb_S16x128_S16x128_0_0).toLoadRect (View.loadsAt_vmem h_S16x128))

/-- The sixteen rows overwritten. -/
def st16 (m : Memref sig .tc .vmem S16x128 .f32) (w : FVec F S16x128 .f32) : M F PUnit := do
  let _ ← ld16 m
  Prog.lift (.store m (Rect.unit (s := S16x128) ![0, 0] S16x128.size inb_S16x128_S16x128_0_0) (shapeCast S16x128 w shapeCasts_S16x128_S16x128) Finset.univ (View.stores_vmem_bits_univ h_S16x128 rfl) (.inl rfl))

/-- Block `j` of the codes overwritten. -/
def stCodes (m : Memref sig .tc .vmem S1x2048x128 .fp8e4m3) (hm : m.IsWhole) (j : Nat) (h : j < 16) (w : FVec F S128x128 .fp8e4m3) : M F PUnit := do
  let _ ← ldBlk m j h
  Prog.lift (.store m (Rect.unit (s := S1x2048x128) ![0, 128 * j, 0] S1x128x128.size (inb3 h)) (shapeCast S1x128x128 w shapeCasts_S128x128_S1x128x128) Finset.univ (View.stores_vmem h_S1x128x128 (hm.storeExact_slice rfl _ (packed3 h)) (fun _ => rfl)) (.inl rfl))

/-- Block `j` of the result overwritten. -/
def stY (m : Memref sig .tc .vmem S1x2048x128 .f32) (j : Nat) (h : j < 16) (w : FVec F S128x128 .f32) : M F PUnit := do
  let _ ← ldBlk m j h
  Prog.lift (.store m (Rect.unit (s := S1x2048x128) ![0, 128 * j, 0] S1x128x128.size (inb3 h)) (shapeCast S1x128x128 w shapeCasts_S128x128_S1x128x128) Finset.univ (View.stores_vmem_bits_univ h_S1x128x128 rfl) (.inl rfl))

/-- A block of the scores or of the weights. -/
def ldT {e : EltTy} (m : Memref sig .tc .vmem S2x2048x256 e) (b j q : Nat) (hb : b < 2) (hj : j < 16) (hq : q < 2) : M F (Vec F S1x128x128 e) :=
  Prog.lift (.load m (Rect.unit (s := S2x2048x256) ![b, 128 * j, 128 * q] S1x128x128.size (inbT hb hj hq)).toLoadRect (View.loadsAt_vmem h_S1x128x128))

/-- A block of the scores overwritten. -/
def stT (m : Memref sig .tc .vmem S2x2048x256 .f32) (b j q : Nat) (hb : b < 2) (hj : j < 16) (hq : q < 2) (w : FVec F S128x128 .f32) : M F PUnit := do
  let _ ← ldT m b j q hb hj hq
  Prog.lift (.store m (Rect.unit (s := S2x2048x256) ![b, 128 * j, 128 * q] S1x128x128.size (inbT hb hj hq)) (shapeCast S1x128x128 w shapeCasts_S128x128_S1x128x128) Finset.univ (View.stores_vmem_bits_univ h_S1x128x128 rfl) (.inl rfl))

/-- A block of the weights overwritten. -/
def stP (m : Memref sig .tc .vmem S2x2048x256 .fp8e4m3) (hm : m.IsWhole) (b j q : Nat) (hb : b < 2) (hj : j < 16) (hq : q < 2) (w : FVec F S128x128 .fp8e4m3) : M F PUnit := do
  let _ ← ldT m b j q hb hj hq
  Prog.lift (.store m (Rect.unit (s := S2x2048x256) ![b, 128 * j, 128 * q] S1x128x128.size (inbT hb hj hq)) (shapeCast S1x128x128 w shapeCasts_S128x128_S1x128x128) Finset.univ (View.stores_vmem h_S1x128x128 (hm.storeExact_slice rfl _ (packedT hb hj hq)) (fun _ => rfl)) (.inl rfl))

/-- Both halves of a row of weights' blocks. -/
def ldP2 (m : Memref sig .tc .vmem S2x2048x256 .fp8e4m3) (b j : Nat) (hb : b < 2) (hj : j < 16) : M F (Vec F S1x128x256 .fp8e4m3) :=
  Prog.lift (.load m (Rect.unit (s := S2x2048x256) ![b, 128 * j, 0] S1x128x256.size (inbP hb hj)).toLoadRect (View.loadsAt_vmem h_S1x128x256))

/-- Block `j` of the transposed codes. -/
def ldV (m : Memref sig .tc .vmem S128x2048 .fp8e4m3) (j : Nat) (h : j < 16) : M F (Vec F S128x128 .fp8e4m3) :=
  Prog.lift (.load m (Rect.unit (s := S128x2048) ![0, 128 * j] S128x128.size (inbV h)).toLoadRect (View.loadsAt_vmem h_S128x128))

/-- Block `j` of the transposed codes overwritten. -/
def stV (m : Memref sig .tc .vmem S128x2048 .fp8e4m3) (hm : m.IsWhole) (j : Nat) (h : j < 16) (w : FVec F S128x128 .fp8e4m3) : M F PUnit := do
  let _ ← ldV m j h
  Prog.lift (.store m (Rect.unit (s := S128x2048) ![0, 128 * j] S128x128.size (inbV h)) (shapeCast S128x128 w shapeCasts_S128x128_S128x128) Finset.univ (View.stores_vmem h_S128x128 (hm.storeExact_slice rfl _ (packedV h)) (fun _ => rfl)) (.inl rfl))

/-- The mask of a diagonal block. -/
def ldBias (m : Memref sig .tc .vmem S128x128 .f32) : M F (Vec F S128x128 .f32) :=
  Prog.lift (.load m (Rect.unit (s := S128x128) ![0, 0] S128x128.size inb_S128x128_S128x128_0_0).toLoadRect (View.loadsAt_vmem h_S128x128))

/-! ## The body -/

/-- The mask of a diagonal block: 0 where the key is not after the query, else −∞. -/
def biasVal : FVec F S128x128 .f32 :=
  select (cmpi .sle (iota .tc S128x128 32 [0] iota_S128x128_d0_w32) (iota .tc S128x128 32 [1] iota_S128x128_d1_w32))
    (broadcast S128x128 (Scalar.ofBits .f32 0x00000000#32)) (broadcast S128x128 (Scalar.ofBits .f32 0xFF800000#32))

/-- The mask is written. -/
def bias (m : Memref sig .tc .vmem S128x128 .f32) : M F PUnit := do
  let _ ← ldBias m
  Prog.lift (.store m (Rect.unit (s := S128x128) ![0, 0] S128x128.size inb_S128x128_S128x128_0_0) (shapeCast S128x128 biasVal shapeCasts_S128x128_S128x128) Finset.univ (View.stores_vmem_bits_univ h_S128x128 rfl) (.inl rfl))

/-- The blocks' maxima of absolute values are collected. -/
def maxima (src : Memref sig .tc .vmem S1x2048x128 .f32) : M F (Nat → FVec F S1x128 .f32) :=
  loop 16 (fun j h s => do
    let v ← ldBlk src j h
    pure fun k => bif Nat.beq k j then absMax v else s k) (fun _ => constant S1x128 .f32 0x00000000#32)

/-- The codes are written, block by block. -/
def codes (src : Memref sig .tc .vmem S1x2048x128 .f32) (dst : Memref sig .tc .vmem S1x2048x128 .fp8e4m3) (hdst : dst.IsWhole)
    (inv : Memref sig .tc .vmem S16x128 .f32) : M F PUnit :=
  loop 16 (fun j h _ => do
    let v ← ldBlk src j h
    let i ← ldRow inv j h
    stCodes dst hdst j h (truncf .fp8e4m3 (scaled v i) bitsLt_fp8e4m3_f32)) ⟨⟩

/-- One input quantised: `off` is the place of the head's row in the scales' window. -/
def quantise (off : Fin 3 → Nat) (hoff : ∀ a, off a + S1x1x16.size a ≤ S1x32x16.size a)
    (src : Memref sig .tc .vmem S1x2048x128 .f32) (dst : Memref sig .tc .vmem S1x2048x128 .fp8e4m3) (hdst : dst.IsWhole)
    (out : Memref sig .tc .vmem S1x32x16 .f32) (inv sc : Memref sig .tc .vmem S16x128 .f32) : M F PUnit := do
  let c ← maxima src
  st16 inv (invOf (amaxOf c))
  st16 sc (scOf (amaxOf c))
  let _ : Vec F S1x1x16 .f32 ← Prog.lift (.load out (Rect.unit (s := S1x32x16) off S1x1x16.size hoff).toLoadRect (View.loadsAt_vmem h_S1x1x16))
  Prog.lift (.store out (Rect.unit (s := S1x32x16) off S1x1x16.size hoff) (scRow (scOf (amaxOf c))) Finset.univ (View.stores_vmem_bits_univ h_S1x1x16 rfl) (.inl rfl))
  codes src dst hdst inv

/-- The values' codes are written transposed. -/
def transposed (src : Memref sig .tc .vmem S1x2048x128 .f32) (dst : Memref sig .tc .vmem S128x2048 .fp8e4m3) (hdst : dst.IsWhole)
    (inv : Memref sig .tc .vmem S16x128 .f32) : M F PUnit :=
  loop 16 (fun j h _ => do
    let v ← ldBlk src j h
    let i ← ldRow inv j h
    stV dst hdst j h (truncf .fp8e4m3 (transpose S128x128 [1, 0] (scaled v i) transposes_S128x128_p1_0_S128x128) bitsLt_fp8e4m3_f32)) ⟨⟩

/-- A block of scores: its part of the product of the codes, times the two scales. -/
def score (k q : Nat) (hk : k < 2) (hq : q < 2) (acc : FVec F S256x256 .f32) (qm ks : FVec F S1x128 .f32) : FVec F S128x128 .f32 :=
  mulf (extractStridedSlice S128x128 ![128 * k, 128 * q] acc (slicesAcc hk hq)) (broadcastTo S128x128 (mulf qm ks) broadcasts_S1x128_S128x128)

/-- The column maxima, in eight rows each, of the scores so far: of the tile's two blocks of queries. -/
abbrev Maxs (F : FTy → Type) [FloatOps F] := List (FVec F S8x128 .f32) × List (FVec F S8x128 .f32)

/-- The scores of a block of keys that lies before the queries. -/
def scorePlain (arg12 : Memref sig .tc .vmem S2x2048x256 .f32) (arg19 : Memref sig .tc .vmem S16x128 .f32)
    (b j k q : Nat) (hb : b < 2) (hj : j < 16) (hk : k < 2) (hq : q < 2) (acc : FVec F S256x256 .f32) (qm : FVec F S1x128 .f32) : M F (FVec F S8x128 .f32) := do
  let ks ← ldRow arg19 j hj
  stT arg12 b j q hb hj hq (score k q hk hq acc qm ks)
  pure (foldRows maximumf (score k q hk hq acc qm ks))

/-- The scores of a diagonal block. -/
def scoreDiag (arg12 : Memref sig .tc .vmem S2x2048x256 .f32) (arg15 : Memref sig .tc .vmem S128x128 .f32) (arg19 : Memref sig .tc .vmem S16x128 .f32)
    (b j k q : Nat) (hb : b < 2) (hj : j < 16) (hk : k < 2) (hq : q < 2) (acc : FVec F S256x256 .f32) (qm : FVec F S1x128 .f32) : M F (FVec F S8x128 .f32) := do
  let ks ← ldRow arg19 j hj
  let bi ← ldBias arg15
  stT arg12 b j q hb hj hq (addf (score k q hk hq acc qm ks) bi)
  pure (foldRows maximumf (addf (score k q hk hq acc qm ks) bi))

/-- The product of a tile of keys' codes and the tile of queries' codes. -/
def accOf (k2 : Vec F S1x256x128 .fp8e4m3) (q2 : Vec F S1x256x128 .fp8e4m3) : FVec F S256x256 .f32 :=
  matmul dot_S256x128_S256x128_S256x256_1_1_0_0_n_n none (shapeCast S256x128 k2 shapeCasts_S1x256x128_S256x128)
    (shapeCast S256x128 q2 shapeCasts_S1x256x128_S256x128) (constant S256x256 .f32 0x00000000#32)

/-- The scores of tile `p`'s queries and the keys of the tiles before. -/
def scoresBefore (arg8 : Memref sig .tc .vmem S1x2048x128 .fp8e4m3) (arg12 : Memref sig .tc .vmem S2x2048x256 .f32) (arg19 : Memref sig .tc .vmem S16x128 .f32)
    (p : Nat) (hp : p < 8) (q2 : Vec F S1x256x128 .fp8e4m3) (qm0 qm1 : FVec F S1x128 .f32) : M F (Maxs F) :=
  loop p (fun c hc s => do
    let k2 ← ldTile arg8 c (by omega)
    let m00 ← scorePlain arg12 arg19 (p % 2) (2 * c) 0 0 (by omega) (by omega) (by omega) (by omega) (accOf k2 q2) qm0
    let m01 ← scorePlain arg12 arg19 (p % 2) (2 * c) 0 1 (by omega) (by omega) (by omega) (by omega) (accOf k2 q2) qm1
    let m10 ← scorePlain arg12 arg19 (p % 2) (2 * c + 1) 1 0 (by omega) (by omega) (by omega) (by omega) (accOf k2 q2) qm0
    let m11 ← scorePlain arg12 arg19 (p % 2) (2 * c + 1) 1 1 (by omega) (by omega) (by omega) (by omega) (accOf k2 q2) qm1
    pure (s.1 ++ [m00] ++ [m10], s.2 ++ [m01] ++ [m11])) ([], [])

/-- The scores of tile `p`'s queries and keys. -/
def scoresHere (arg8 : Memref sig .tc .vmem S1x2048x128 .fp8e4m3) (arg12 : Memref sig .tc .vmem S2x2048x256 .f32) (arg15 : Memref sig .tc .vmem S128x128 .f32)
    (arg19 : Memref sig .tc .vmem S16x128 .f32)
    (p : Nat) (hp : p < 8) (q2 : Vec F S1x256x128 .fp8e4m3) (qm0 qm1 : FVec F S1x128 .f32) (s : Maxs F) : M F (Maxs F) := do
  let k2 ← ldTile arg8 p hp
  let m00 ← scoreDiag arg12 arg15 arg19 (p % 2) (2 * p) 0 0 (by omega) (by omega) (by omega) (by omega) (accOf k2 q2) qm0
  let m01 ← scorePlain arg12 arg19 (p % 2) (2 * p) 0 1 (by omega) (by omega) (by omega) (by omega) (accOf k2 q2) qm1
  let m11 ← scoreDiag arg12 arg15 arg19 (p % 2) (2 * p + 1) 1 1 (by omega) (by omega) (by omega) (by omega) (accOf k2 q2) qm1
  pure (s.1 ++ [m00], s.2 ++ [m01] ++ [m11])

/-- The maximum of each query's scores. -/
def rowMax (l : List (FVec F S8x128 .f32)) : FVec F S1x128 .f32 :=
  colMax (tree maximumf (constant S8x128 .f32 0x00000000#32) 4 l)

/-- The maximum of the weights before scaling. -/
def pmax (m : FVec F S1x128 .f32) : FVec F S1x1 .f32 :=
  shapeCast S1x1 (multiReduction .maximumf [1] S1 (exp2 (subf m m)) 0xFF800000#32 reduces_S1x128_S1 (.inl rfl) rfl) shapeCasts_S1_S1x1

/-- The weights' scale. -/
def pScale (m : FVec F S1x128 .f32) : FVec F S1x1 .f32 := pow2 (F := F) (expo1 (pmax m))

/-- What is taken off the scores: the maximum plus the scale's exponent. -/
def shift (m : FVec F S1x128 .f32) : FVec F S1x128 .f32 :=
  addf m (broadcastTo S1x128 (sitofp .f32 (expo1 (pmax m))) broadcasts_S1x1_S1x128)

/-- A block of weights. -/
def weight (t : Vec F S1x128x128 .f32) (sh : FVec F S1x128 .f32) : FVec F S128x128 .f32 :=
  exp2 (subf (shapeCast S128x128 t shapeCasts_S1x128x128_S128x128) (broadcastTo S128x128 sh broadcasts_S1x128_S128x128))

/-- A block of weights is formed, its codes are written; its column sums, in eight rows, are the result. -/
def weigh (arg12 : Memref sig .tc .vmem S2x2048x256 .f32) (arg13 : Memref sig .tc .vmem S2x2048x256 .fp8e4m3) (harg13 : arg13.IsWhole)
    (b j q : Nat) (hb : b < 2) (hj : j < 16) (hq : q < 2) (sh : FVec F S1x128 .f32) : M F (FVec F S8x128 .f32) := do
  let t ← ldT arg12 b j q hb hj hq
  stP arg13 harg13 b j q hb hj hq (truncf .fp8e4m3 (clip (weight t sh)) bitsLt_fp8e4m3_f32)
  pure (foldRows addf (weight t sh))

/-- The product of both query blocks' weights and a block of values, times the values' scale. -/
def part2 (v : Vec F S128x128 .fp8e4m3) (w : Vec F S1x128x256 .fp8e4m3) (vs : Vec F S1x128 .f32) : FVec F S128x256 .f32 :=
  mulf (matmul dot_S128x128_S128x256_S128x256_1_0_0_1_n_n none v (shapeCast S128x256 w shapeCasts_S1x128x256_S128x256) (constant S128x256 .f32 0x00000000#32))
    (broadcastTo S128x256 (extractStridedSlice S1x1 ![0, 0] vs slices_S1x128_o0_0_S1x1) broadcasts_S1x1_S128x256)

/-- The product of one query block's weights and a block of values, times the values' scale. -/
def part1 (v : Vec F S128x128 .fp8e4m3) (w : Vec F S1x128x128 .fp8e4m3) (vs : Vec F S1x128 .f32) : FVec F S128x128 .f32 :=
  mulf (matmul dot_S128x128_S128x128_S128x128_1_0_0_1_n_n none v (shapeCast S128x128 w shapeCasts_S1x128x128_S128x128) (constant S128x128 .f32 0x00000000#32))
    (broadcastTo S128x128 (extractStridedSlice S1x1 ![0, 0] vs slices_S1x128_o0_0_S1x1) broadcasts_S1x1_S128x128)

/-- The column sums and the parts of the output so far, of one block of queries. -/
structure Acc (F : FTy → Type) [FloatOps F] where
  sums : List (FVec F S8x128 .f32)
  outs : List (FVec F S128x128 .f32)

/-- The weights and products of the blocks of keys up to the first block of queries. -/
def weighBoth (arg12 : Memref sig .tc .vmem S2x2048x256 .f32) (arg13 : Memref sig .tc .vmem S2x2048x256 .fp8e4m3) (harg13 : arg13.IsWhole)
    (arg14 : Memref sig .tc .vmem S128x2048 .fp8e4m3) (arg21 : Memref sig .tc .vmem S16x128 .f32)
    (p : Nat) (hp : p < 8) (sh0 sh1 : FVec F S1x128 .f32) : M F (Acc F × Acc F) :=
  loop (2 * p + 1) (fun j hj s => do
    let s0 ← weigh arg12 arg13 harg13 (p % 2) j 0 (by omega) (by omega) (by omega) sh0
    let s1 ← weigh arg12 arg13 harg13 (p % 2) j 1 (by omega) (by omega) (by omega) sh1
    let v ← ldV arg14 j (by omega)
    let w ← ldP2 arg13 (p % 2) j (by omega) (by omega)
    let vs ← ldRow arg21 j (by omega)
    pure (⟨s.1.sums ++ [s0], s.1.outs ++ [extractStridedSlice S128x128 ![0, 0] (part2 v w vs) slices_S128x256_o0_0_S128x128]⟩,
      ⟨s.2.sums ++ [s1], s.2.outs ++ [extractStridedSlice S128x128 ![0, 128] (part2 v w vs) slices_S128x256_o0_128_S128x128]⟩)) (⟨[], []⟩, ⟨[], []⟩)

/-- The weights and products of the last block of keys, of the second block of queries. -/
def weighLast (arg12 : Memref sig .tc .vmem S2x2048x256 .f32) (arg13 : Memref sig .tc .vmem S2x2048x256 .fp8e4m3) (harg13 : arg13.IsWhole)
    (arg14 : Memref sig .tc .vmem S128x2048 .fp8e4m3) (arg21 : Memref sig .tc .vmem S16x128 .f32)
    (p : Nat) (hp : p < 8) (sh1 : FVec F S1x128 .f32) (s : Acc F) : M F (Acc F) := do
  let s1 ← weigh arg12 arg13 harg13 (p % 2) (2 * p + 1) 1 (by omega) (by omega) (by omega) sh1
  let v ← ldV arg14 (2 * p + 1) (by omega)
  let w ← ldT arg13 (p % 2) (2 * p + 1) 1 (by omega) (by omega) (by omega)
  let vs ← ldRow arg21 (2 * p + 1) (by omega)
  pure ⟨s.sums ++ [s1], s.outs ++ [part1 v w vs]⟩

/-- A block of the result. -/
def outBlk (ps : FVec F S1x1 .f32) (a : Acc F) : FVec F S128x128 .f32 :=
  transpose S128x128 [1, 0]
    (mulf (foldLeft addf (constant S128x128 .f32 0x00000000#32) a.outs)
      (broadcastTo S128x128 (divf (broadcastTo S1x128 ps broadcasts_S1x1_S1x128)
        (mulf (colSum (tree addf (constant S8x128 .f32 0x00000000#32) 4 a.sums)) (broadcastTo S1x128 ps broadcasts_S1x1_S1x128))) broadcasts_S1x128_S128x128))
    transposes_S128x128_p1_0_S128x128

/-- A row of scales times the score's factor. -/
def qMul (r : Vec F S1x128 .f32) : FVec F S1x128 .f32 := mulf r (broadcast S1x128 (Named.named κ "score_scale" 0x3E0293EE#32))

/-- One tile of queries. -/
def tile (arg5 : Memref sig .tc .vmem S1x2048x128 .f32) (arg6 arg8 : Memref sig .tc .vmem S1x2048x128 .fp8e4m3)
    (arg12 : Memref sig .tc .vmem S2x2048x256 .f32) (arg13 : Memref sig .tc .vmem S2x2048x256 .fp8e4m3) (harg13 : arg13.IsWhole)
    (arg14 : Memref sig .tc .vmem S128x2048 .fp8e4m3) (arg15 : Memref sig .tc .vmem S128x128 .f32) (arg17 arg19 arg21 : Memref sig .tc .vmem S16x128 .f32)
    (p : Nat) (hp : p < 8) : M F PUnit := do
  let q2 ← ldTile arg6 p hp
  let r0 ← ldRow arg17 (2 * p) (by omega)
  let r1 ← ldRow arg17 (2 * p + 1) (by omega)
  let mb ← scoresBefore arg8 arg12 arg19 p hp q2 (qMul r0) (qMul r1)
  let mx ← scoresHere arg8 arg12 arg15 arg19 p hp q2 (qMul r0) (qMul r1) mb
  let ab ← weighBoth arg12 arg13 harg13 arg14 arg21 p hp (shift (rowMax mx.1)) (shift (rowMax mx.2))
  let a1 ← weighLast arg12 arg13 harg13 arg14 arg21 p hp (shift (rowMax mx.2)) ab.2
  stY arg5 (2 * p) (by omega) (outBlk (pScale (rowMax mx.1)) ab.1)
  stY arg5 (2 * p + 1) (by omega) (outBlk (pScale (rowMax mx.2)) a1)

/-- The attention of the quantised inputs. -/
def attention (arg5 : Memref sig .tc .vmem S1x2048x128 .f32) (arg6 arg8 : Memref sig .tc .vmem S1x2048x128 .fp8e4m3)
    (arg12 : Memref sig .tc .vmem S2x2048x256 .f32) (arg13 : Memref sig .tc .vmem S2x2048x256 .fp8e4m3) (harg13 : arg13.IsWhole)
    (arg14 : Memref sig .tc .vmem S128x2048 .fp8e4m3) (arg15 : Memref sig .tc .vmem S128x128 .f32) (arg17 arg19 arg21 : Memref sig .tc .vmem S16x128 .f32) : M F PUnit :=
  loop 8 (fun p hp _ => tile arg5 arg6 arg8 arg12 arg13 harg13 arg14 arg15 arg17 arg19 arg21 p hp) ⟨⟩

/-- The whole body. -/
def body (i : grid0.Coords) (arg2 arg3 arg4 arg5 : Memref sig .tc .vmem S1x2048x128 .f32)
    (arg6 : Memref sig .tc .vmem S1x2048x128 .fp8e4m3) (harg6 : arg6.IsWhole) (arg7 : Memref sig .tc .vmem S1x32x16 .f32)
    (arg8 : Memref sig .tc .vmem S1x2048x128 .fp8e4m3) (harg8 : arg8.IsWhole) (arg9 : Memref sig .tc .vmem S1x32x16 .f32)
    (arg10 : Memref sig .tc .vmem S1x2048x128 .fp8e4m3) (harg10 : arg10.IsWhole) (arg11 : Memref sig .tc .vmem S1x32x16 .f32)
    (arg12 : Memref sig .tc .vmem S2x2048x256 .f32) (arg13 : Memref sig .tc .vmem S2x2048x256 .fp8e4m3) (harg13 : arg13.IsWhole)
    (arg14 : Memref sig .tc .vmem S128x2048 .fp8e4m3) (harg14 : arg14.IsWhole) (arg15 : Memref sig .tc .vmem S128x128 .f32)
    (arg16 arg17 arg18 arg19 arg20 arg21 : Memref sig .tc .vmem S16x128 .f32) : M F PUnit := do
  bias arg15
  quantise (k0_off1 i) (k0_off1_inb i) arg2 arg6 harg6 arg7 arg16 arg17
  quantise (k0_off1 i) (k0_off1_inb i) arg3 arg8 harg8 arg9 arg18 arg19
  quantise (k0_off1 i) (k0_off1_inb i) arg4 arg10 harg10 arg11 arg20 arg21
  transposed arg4 arg14 harg14 arg20
  attention arg5 arg6 arg8 arg12 arg13 harg13 arg14 arg15 arg17 arg19 arg21

end Cert.KernelIdeal.Rolled
-- ==== Proof.RolledEq.lean ====
module

public import proofs.«01_k».proof.Proof.Rolled
public import Idealize.ShloMosaic.Lib.Tactic

/-! # The printed body is the body with its loops -/

@[expose] public section

namespace Cert.KernelIdeal.Rolled

open Idealize.ShloMosaic Idealize.SL.Sem
open Cert.KernelIdeal

variable {F : FTy → Type} [FloatOps F] [Named F] [Facts]

/-- The printed body and the body with its loops are the same program: both unfold to one sequence of
    loads and stores. -/
theorem printed_eq_body (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .fp8e4m3) (harg6 : arg6.IsWhole) (arg7 : Memref sig .tc .vmem S1x32x16 .f32) (harg7 : arg7.IsWhole) (arg8 : Memref sig .tc .vmem S1x2048x128 .fp8e4m3) (harg8 : arg8.IsWhole) (arg9 : Memref sig .tc .vmem S1x32x16 .f32) (harg9 : arg9.IsWhole) (arg10 : Memref sig .tc .vmem S1x2048x128 .fp8e4m3) (harg10 : arg10.IsWhole) (arg11 : Memref sig .tc .vmem S1x32x16 .f32) (harg11 : arg11.IsWhole) (arg12 : Memref sig .tc .vmem S2x2048x256 .f32) (harg12 : arg12.IsWhole) (arg13 : Memref sig .tc .vmem S2x2048x256 .fp8e4m3) (harg13 : arg13.IsWhole) (arg14 : Memref sig .tc .vmem S128x2048 .fp8e4m3) (harg14 : arg14.IsWhole) (arg15 : Memref sig .tc .vmem S128x128 .f32) (harg15 : arg15.IsWhole) (arg16 : Memref sig .tc .vmem S16x128 .f32) (harg16 : arg16.IsWhole) (arg17 : Memref sig .tc .vmem S16x128 .f32) (harg17 : arg17.IsWhole) (arg18 : Memref sig .tc .vmem S16x128 .f32) (harg18 : arg18.IsWhole) (arg19 : Memref sig .tc .vmem S16x128 .f32) (harg19 : arg19.IsWhole) (arg20 : Memref sig .tc .vmem S16x128 .f32) (harg20 : arg20.IsWhole) (arg21 : Memref sig .tc .vmem S16x128 .f32) (harg21 : arg21.IsWhole) :
    cc0_fp8_causal_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21
      = body (F := F) i arg2 arg3 arg4 arg5 arg6 harg6 arg7 arg8 harg8 arg9 arg10 harg10 arg11 arg12 arg13 harg13 arg14 harg14 arg15 arg16 arg17 arg18 arg19 arg20 arg21 := by
  sl_kernel_rfl

end Cert.KernelIdeal.Rolled
-- ==== Proof.Exec.lean ====
module

public import proofs.«01_k».proof.Proof.RolledEq
public import Idealize.ShloMosaic.Lib.Memref
public import Idealize.ShloMosaic.Rules.Step
public import Idealize.ShloMosaic.Lib.Pipeline.FrameBody

/-! # Running the body

The body touches twenty buffers: three inputs, seven outputs, ten of scratch. `St` is what they hold, `Own` owns
them all at that, and `Ok P s Φ` says that `P`, run from `s`, ends with a value and contents of which `Φ` holds.
A load, a store, a sequence and a loop have a rule each; everything about the body is then proved of plain contents. -/

@[expose] public section

noncomputable section

namespace Cert.KernelIdeal.Rolled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.KernelIdeal

variable {F : FTy → Type} [FloatOps F] [Named F] [Facts]
open Facts₀ Facts

local notation "𝕄" => MT nD τ sig Unit (Elt F) ℕ (UR sig nD τ) ℕ

/-- The body's twenty buffers. -/
structure Args where
  a2 : Memref sig .tc .vmem S1x2048x128 .f32
  a3 : Memref sig .tc .vmem S1x2048x128 .f32
  a4 : Memref sig .tc .vmem S1x2048x128 .f32
  a5 : Memref sig .tc .vmem S1x2048x128 .f32
  a6 : Memref sig .tc .vmem S1x2048x128 .fp8e4m3
  a7 : Memref sig .tc .vmem S1x32x16 .f32
  a8 : Memref sig .tc .vmem S1x2048x128 .fp8e4m3
  a9 : Memref sig .tc .vmem S1x32x16 .f32
  a10 : Memref sig .tc .vmem S1x2048x128 .fp8e4m3
  a11 : Memref sig .tc .vmem S1x32x16 .f32
  a12 : Memref sig .tc .vmem S2x2048x256 .f32
  a13 : Memref sig .tc .vmem S2x2048x256 .fp8e4m3
  a14 : Memref sig .tc .vmem S128x2048 .fp8e4m3
  a15 : Memref sig .tc .vmem S128x128 .f32
  a16 : Memref sig .tc .vmem S16x128 .f32
  a17 : Memref sig .tc .vmem S16x128 .f32
  a18 : Memref sig .tc .vmem S16x128 .f32
  a19 : Memref sig .tc .vmem S16x128 .f32
  a20 : Memref sig .tc .vmem S16x128 .f32
  a21 : Memref sig .tc .vmem S16x128 .f32

variable (F) in
/-- What the twenty buffers hold. -/
structure St where
  x2 : Vec F S1x2048x128 .f32
  x3 : Vec F S1x2048x128 .f32
  x4 : Vec F S1x2048x128 .f32
  x5 : Vec F S1x2048x128 .f32
  x6 : Vec F S1x2048x128 .fp8e4m3
  x7 : Vec F S1x32x16 .f32
  x8 : Vec F S1x2048x128 .fp8e4m3
  x9 : Vec F S1x32x16 .f32
  x10 : Vec F S1x2048x128 .fp8e4m3
  x11 : Vec F S1x32x16 .f32
  x12 : Vec F S2x2048x256 .f32
  x13 : Vec F S2x2048x256 .fp8e4m3
  x14 : Vec F S128x2048 .fp8e4m3
  x15 : Vec F S128x128 .f32
  x16 : Vec F S16x128 .f32
  x17 : Vec F S16x128 .f32
  x18 : Vec F S16x128 .f32
  x19 : Vec F S16x128 .f32
  x20 : Vec F S16x128 .f32
  x21 : Vec F S16x128 .f32

/-- The twenty buffers owned, at the contents `s`. -/
def Own (c : Dev nD) (A : Args) (s : St F) : sProp 𝕄 :=
  iprop(owns (c : Thread nD τ) A.a2 fullShare s.x2 ∗ owns (c : Thread nD τ) A.a3 fullShare s.x3
    ∗ owns (c : Thread nD τ) A.a4 fullShare s.x4 ∗ owns (c : Thread nD τ) A.a5 fullShare s.x5
    ∗ owns (c : Thread nD τ) A.a6 fullShare s.x6 ∗ owns (c : Thread nD τ) A.a7 fullShare s.x7
    ∗ owns (c : Thread nD τ) A.a8 fullShare s.x8 ∗ owns (c : Thread nD τ) A.a9 fullShare s.x9
    ∗ owns (c : Thread nD τ) A.a10 fullShare s.x10 ∗ owns (c : Thread nD τ) A.a11 fullShare s.x11
    ∗ owns (c : Thread nD τ) A.a12 fullShare s.x12 ∗ owns (c : Thread nD τ) A.a13 fullShare s.x13
    ∗ owns (c : Thread nD τ) A.a14 fullShare s.x14 ∗ owns (c : Thread nD τ) A.a15 fullShare s.x15
    ∗ owns (c : Thread nD τ) A.a16 fullShare s.x16 ∗ owns (c : Thread nD τ) A.a17 fullShare s.x17
    ∗ owns (c : Thread nD τ) A.a18 fullShare s.x18 ∗ owns (c : Thread nD τ) A.a19 fullShare s.x19
    ∗ owns (c : Thread nD τ) A.a20 fullShare s.x20 ∗ owns (c : Thread nD τ) A.a21 fullShare s.x21)

/-- One of the twenty buffers: where its contents stand in `St`, and that `Own` gives it out and takes it back. -/
structure Cell (F : FTy → Type) [FloatOps F] [Named F] [Facts] (A : Args) {sh : Shape} {e : EltTy} (m : Memref sig .tc .vmem sh e) where
  get : St F → Vec F sh e
  set : St F → Vec F sh e → St F
  set_get : ∀ s, set s (get s) = s
  get_set : ∀ s X, get (set s X) = X
  set_set : ∀ s X Y, set (set s X) Y = set s Y
  split : ∀ (c : Dev nD) s, Own c A s ⊢ iprop(owns (c : Thread nD τ) m fullShare (get s)
    ∗ (∀ X, owns (c : Thread nD τ) m fullShare X -∗ Own c A (set s X)))

/-- The queries' block. -/
def cell2 (A : Args) : Cell F A A.a2 where
  get s := s.x2
  set s X := { s with x2 := X }
  set_get _ := rfl
  get_set _ _ := rfl
  set_set _ _ _ := rfl
  split c s := by
    unfold Own
    iintro ⟨H2, H3, H4, H5, H6, H7, H8, H9, H10, H11, H12, H13, H14, H15, H16, H17, H18, H19, H20, H21⟩
    isplitl [H2]; · iexact H2
    iintro %X H2
    iframe

/-- The keys' block. -/
def cell3 (A : Args) : Cell F A A.a3 where
  get s := s.x3
  set s X := { s with x3 := X }
  set_get _ := rfl
  get_set _ _ := rfl
  set_set _ _ _ := rfl
  split c s := by
    unfold Own
    iintro ⟨H2, H3, H4, H5, H6, H7, H8, H9, H10, H11, H12, H13, H14, H15, H16, H17, H18, H19, H20, H21⟩
    isplitl [H3]; · iexact H3
    iintro %X H3
    iframe

/-- The values' block. -/
def cell4 (A : Args) : Cell F A A.a4 where
  get s := s.x4
  set s X := { s with x4 := X }
  set_get _ := rfl
  get_set _ _ := rfl
  set_set _ _ _ := rfl
  split c s := by
    unfold Own
    iintro ⟨H2, H3, H4, H5, H6, H7, H8, H9, H10, H11, H12, H13, H14, H15, H16, H17, H18, H19, H20, H21⟩
    isplitl [H4]; · iexact H4
    iintro %X H4
    iframe

/-- The result's block. -/
def cell5 (A : Args) : Cell F A A.a5 where
  get s := s.x5
  set s X := { s with x5 := X }
  set_get _ := rfl
  get_set _ _ := rfl
  set_set _ _ _ := rfl
  split c s := by
    unfold Own
    iintro ⟨H2, H3, H4, H5, H6, H7, H8, H9, H10, H11, H12, H13, H14, H15, H16, H17, H18, H19, H20, H21⟩
    isplitl [H5]; · iexact H5
    iintro %X H5
    iframe

/-- The queries' codes. -/
def cell6 (A : Args) : Cell F A A.a6 where
  get s := s.x6
  set s X := { s with x6 := X }
  set_get _ := rfl
  get_set _ _ := rfl
  set_set _ _ _ := rfl
  split c s := by
    unfold Own
    iintro ⟨H2, H3, H4, H5, H6, H7, H8, H9, H10, H11, H12, H13, H14, H15, H16, H17, H18, H19, H20, H21⟩
    isplitl [H6]; · iexact H6
    iintro %X H6
    iframe

/-- The queries' scales. -/
def cell7 (A : Args) : Cell F A A.a7 where
  get s := s.x7
  set s X := { s with x7 := X }
  set_get _ := rfl
  get_set _ _ := rfl
  set_set _ _ _ := rfl
  split c s := by
    unfold Own
    iintro ⟨H2, H3, H4, H5, H6, H7, H8, H9, H10, H11, H12, H13, H14, H15, H16, H17, H18, H19, H20, H21⟩
    isplitl [H7]; · iexact H7
    iintro %X H7
    iframe

/-- The keys' codes. -/
def cell8 (A : Args) : Cell F A A.a8 where
  get s := s.x8
  set s X := { s with x8 := X }
  set_get _ := rfl
  get_set _ _ := rfl
  set_set _ _ _ := rfl
  split c s := by
    unfold Own
    iintro ⟨H2, H3, H4, H5, H6, H7, H8, H9, H10, H11, H12, H13, H14, H15, H16, H17, H18, H19, H20, H21⟩
    isplitl [H8]; · iexact H8
    iintro %X H8
    iframe

/-- The keys' scales. -/
def cell9 (A : Args) : Cell F A A.a9 where
  get s := s.x9
  set s X := { s with x9 := X }
  set_get _ := rfl
  get_set _ _ := rfl
  set_set _ _ _ := rfl
  split c s := by
    unfold Own
    iintro ⟨H2, H3, H4, H5, H6, H7, H8, H9, H10, H11, H12, H13, H14, H15, H16, H17, H18, H19, H20, H21⟩
    isplitl [H9]; · iexact H9
    iintro %X H9
    iframe

/-- The values' codes. -/
def cell10 (A : Args) : Cell F A A.a10 where
  get s := s.x10
  set s X := { s with x10 := X }
  set_get _ := rfl
  get_set _ _ := rfl
  set_set _ _ _ := rfl
  split c s := by
    unfold Own
    iintro ⟨H2, H3, H4, H5, H6, H7, H8, H9, H10, H11, H12, H13, H14, H15, H16, H17, H18, H19, H20, H21⟩
    isplitl [H10]; · iexact H10
    iintro %X H10
    iframe

/-- The values' scales. -/
def cell11 (A : Args) : Cell F A A.a11 where
  get s := s.x11
  set s X := { s with x11 := X }
  set_get _ := rfl
  get_set _ _ := rfl
  set_set _ _ _ := rfl
  split c s := by
    unfold Own
    iintro ⟨H2, H3, H4, H5, H6, H7, H8, H9, H10, H11, H12, H13, H14, H15, H16, H17, H18, H19, H20, H21⟩
    isplitl [H11]; · iexact H11
    iintro %X H11
    iframe

/-- The scores. -/
def cell12 (A : Args) : Cell F A A.a12 where
  get s := s.x12
  set s X := { s with x12 := X }
  set_get _ := rfl
  get_set _ _ := rfl
  set_set _ _ _ := rfl
  split c s := by
    unfold Own
    iintro ⟨H2, H3, H4, H5, H6, H7, H8, H9, H10, H11, H12, H13, H14, H15, H16, H17, H18, H19, H20, H21⟩
    isplitl [H12]; · iexact H12
    iintro %X H12
    iframe

/-- The weights' codes. -/
def cell13 (A : Args) : Cell F A A.a13 where
  get s := s.x13
  set s X := { s with x13 := X }
  set_get _ := rfl
  get_set _ _ := rfl
  set_set _ _ _ := rfl
  split c s := by
    unfold Own
    iintro ⟨H2, H3, H4, H5, H6, H7, H8, H9, H10, H11, H12, H13, H14, H15, H16, H17, H18, H19, H20, H21⟩
    isplitl [H13]; · iexact H13
    iintro %X H13
    iframe

/-- The values' codes, transposed. -/
def cell14 (A : Args) : Cell F A A.a14 where
  get s := s.x14
  set s X := { s with x14 := X }
  set_get _ := rfl
  get_set _ _ := rfl
  set_set _ _ _ := rfl
  split c s := by
    unfold Own
    iintro ⟨H2, H3, H4, H5, H6, H7, H8, H9, H10, H11, H12, H13, H14, H15, H16, H17, H18, H19, H20, H21⟩
    isplitl [H14]; · iexact H14
    iintro %X H14
    iframe

/-- The diagonal mask. -/
def cell15 (A : Args) : Cell F A A.a15 where
  get s := s.x15
  set s X := { s with x15 := X }
  set_get _ := rfl
  get_set _ _ := rfl
  set_set _ _ _ := rfl
  split c s := by
    unfold Own
    iintro ⟨H2, H3, H4, H5, H6, H7, H8, H9, H10, H11, H12, H13, H14, H15, H16, H17, H18, H19, H20, H21⟩
    isplitl [H15]; · iexact H15
    iintro %X H15
    iframe

/-- The queries' inverse scales. -/
def cell16 (A : Args) : Cell F A A.a16 where
  get s := s.x16
  set s X := { s with x16 := X }
  set_get _ := rfl
  get_set _ _ := rfl
  set_set _ _ _ := rfl
  split c s := by
    unfold Own
    iintro ⟨H2, H3, H4, H5, H6, H7, H8, H9, H10, H11, H12, H13, H14, H15, H16, H17, H18, H19, H20, H21⟩
    isplitl [H16]; · iexact H16
    iintro %X H16
    iframe

/-- The queries' scales, along rows. -/
def cell17 (A : Args) : Cell F A A.a17 where
  get s := s.x17
  set s X := { s with x17 := X }
  set_get _ := rfl
  get_set _ _ := rfl
  set_set _ _ _ := rfl
  split c s := by
    unfold Own
    iintro ⟨H2, H3, H4, H5, H6, H7, H8, H9, H10, H11, H12, H13, H14, H15, H16, H17, H18, H19, H20, H21⟩
    isplitl [H17]; · iexact H17
    iintro %X H17
    iframe

/-- The keys' inverse scales. -/
def cell18 (A : Args) : Cell F A A.a18 where
  get s := s.x18
  set s X := { s with x18 := X }
  set_get _ := rfl
  get_set _ _ := rfl
  set_set _ _ _ := rfl
  split c s := by
    unfold Own
    iintro ⟨H2, H3, H4, H5, H6, H7, H8, H9, H10, H11, H12, H13, H14, H15, H16, H17, H18, H19, H20, H21⟩
    isplitl [H18]; · iexact H18
    iintro %X H18
    iframe

/-- The keys' scales, along rows. -/
def cell19 (A : Args) : Cell F A A.a19 where
  get s := s.x19
  set s X := { s with x19 := X }
  set_get _ := rfl
  get_set _ _ := rfl
  set_set _ _ _ := rfl
  split c s := by
    unfold Own
    iintro ⟨H2, H3, H4, H5, H6, H7, H8, H9, H10, H11, H12, H13, H14, H15, H16, H17, H18, H19, H20, H21⟩
    isplitl [H19]; · iexact H19
    iintro %X H19
    iframe

/-- The values' inverse scales. -/
def cell20 (A : Args) : Cell F A A.a20 where
  get s := s.x20
  set s X := { s with x20 := X }
  set_get _ := rfl
  get_set _ _ := rfl
  set_set _ _ _ := rfl
  split c s := by
    unfold Own
    iintro ⟨H2, H3, H4, H5, H6, H7, H8, H9, H10, H11, H12, H13, H14, H15, H16, H17, H18, H19, H20, H21⟩
    isplitl [H20]; · iexact H20
    iintro %X H20
    iframe

/-- The values' scales, along rows. -/
def cell21 (A : Args) : Cell F A A.a21 where
  get s := s.x21
  set s X := { s with x21 := X }
  set_get _ := rfl
  get_set _ _ := rfl
  set_set _ _ _ := rfl
  split c s := by
    unfold Own
    iintro ⟨H2, H3, H4, H5, H6, H7, H8, H9, H10, H11, H12, H13, H14, H15, H16, H17, H18, H19, H20, H21⟩
    isplitl [H21]; · iexact H21
    iintro %X H21
    iframe

/-- The rule of a load. -/
theorem load_rule (c : Dev nD) {A : Args} {sh : Shape} {e : EltTy} {m : Memref sig .tc .vmem sh e} (C : Cell F A m)
    {r : Rect sh} {hl : m.view.LoadsAt r.toLoadRect} {α : Type} {k : (r.shape.Idx → Elt F e) → M F α}
    {E : Set ℕ} {Q : α → sProp 𝕄} (s : St F) :
    iprop(Own c A s ∗ (Own c A s -∗ wp frame (wpE (defs₀ (F := F)) Variants.none c none) E (k (fun y => C.get s (r.emb y))) Q))
      ⊢ wp frame (wpE (defs₀ (F := F)) Variants.none c none) E (.op (.load m r.toLoadRect hl) k) Q := by
  iintro ⟨H, Hk⟩
  ihave H := (C.split c s) $$ H
  icases H with ⟨Hm, Hr⟩
  unfold owns
  icases Hm with ⟨%f, %hf, Hm⟩
  iapply (wp_load_rect Variants.none (c : Thread nD τ) none E (m := m) (r := r) (hl := hl) (k := k) (S := m.view.set) (q := fullShare) (f := f) (View.set_slice_subset m.view r)) $$ Hm
  iintro Hm
  have e : (m.access r).read (Elt F) f = fun y => C.get s (r.emb y) := by
    rw [← hf]; rfl
  rw [e]
  iapply Hk
  have e2 : Own c A (C.set s (C.get s)) = Own c A s := by rw [C.set_get]
  rw [← e2]
  iapply Hr
  iexists f
  isplitr
  · ipureintro; exact hf
  iexact Hm

/-- The rule of a store. -/
theorem store_rule (c : Dev nD) {A : Args} {sh : Shape} {e : EltTy} {m : Memref sig .tc .vmem sh e} (C : Cell F A m)
    {r : Rect sh} {w : r.shape.Idx → Elt F e} {hx : (m.access r).Stores Finset.univ} {hm : Finset.univ = Finset.univ ∨ ∀ a, r.stride a = 1}
    {α : Type} {k : PUnit → M F α} {E : Set ℕ} {Q : α → sProp 𝕄} (s : St F) :
    iprop(Own c A s ∗ (Own c A (C.set s (r.overlay (C.get s) w)) -∗ wp frame (wpE (defs₀ (F := F)) Variants.none c none) E (k ⟨⟩) Q))
      ⊢ wp frame (wpE (defs₀ (F := F)) Variants.none c none) E (.op (.store m r w Finset.univ hx hm) k) Q := by
  iintro ⟨H, Hk⟩
  ihave H := (C.split c s) $$ H
  icases H with ⟨Hm, Hr⟩
  unfold owns
  icases Hm with ⟨%f, %hf, Hm⟩
  iapply (wp_store Variants.none (c : Thread nD τ) none E (m := m) (r := r) (hx := hx) (hm := hm) (k := k) (S := m.view.set) (f := f) (View.set_slice_subset m.view r)) $$ Hm
  iintro Hm
  iapply Hk
  iapply Hr
  iexists _
  isplitr [Hm]
  rotate_left
  · iexact Hm
  ipureintro
  funext y
  by_cases hy : y ∈ r.set
  · obtain ⟨x, -, rfl⟩ := Finset.mem_map.mp (show y ∈ Finset.univ.map r.emb by rw [Rect.map_emb_univ]; exact hy)
    rw [Rect.overlay_emb]
    exact View.read_slice_write_emb r f w (Finset.mem_univ x)
  · rw [Rect.overlay_of_not_mem _ _ _ hy, ← hf]
    exact View.read_slice_write_of_not_mem r f w Finset.univ (by rw [Rect.map_emb_univ]; exact hy)

/-- `P`, run from the contents `s`, ends, with a value and contents of which `Φ` holds. -/
def Ok (c : Dev nD) (A : Args) {α : Type} (P : M F α) (s : St F) (Φ : α → St F → Prop) : Prop :=
  ∀ (E : Set ℕ) (Q : α → sProp 𝕄),
    iprop(Own c A s ∗ (∀ v, ∀ s', ⌜Φ v s'⌝ -∗ Own c A s' -∗ Q v)) ⊢ wp frame (wpE (defs₀ (F := F)) Variants.none c none) E P Q

variable {c : Dev nD} {A : Args} {α β : Type}

/-- A value. -/
theorem Ok.pure {v : α} {s : St F} {Φ : α → St F → Prop} (h : Φ v s) : Ok c A (Pure.pure v : M F α) s Φ := by
  intro E Q
  iintro ⟨H, Hk⟩
  simp only [wp_pure]
  iapply fupd_intro
  ispecialize Hk $$ %v %s
  iapply Hk
  · ipureintro; exact h
  iexact H

/-- A sequence. -/
theorem Ok.bind {P : M F α} {k : α → M F β} {s : St F} {Φ : α → St F → Prop} {Ψ : β → St F → Prop}
    (h : Ok c A P s Φ) (hk : ∀ v s', Φ v s' → Ok c A (k v) s' Ψ) : Ok c A (P >>= k) s Ψ := by
  intro E Q
  iintro ⟨H, Hk⟩
  rw [wp_bind]
  iapply (h E _)
  isplitl [H]
  · iexact H
  iintro %v %s' %hv Hs
  iapply (hk v s' hv E Q)
  isplitl [Hs]
  · iexact Hs
  iexact Hk

/-- A weaker post. -/
theorem Ok.mono {P : M F α} {s : St F} {Φ Ψ : α → St F → Prop} (h : Ok c A P s Φ) (hi : ∀ v s', Φ v s' → Ψ v s') : Ok c A P s Ψ := by
  intro E Q
  iintro ⟨H, Hk⟩
  iapply (h E _)
  isplitl [H]
  · iexact H
  iintro %v %s' %hv Hs
  iapply Hk
  · ipureintro; exact hi v s' hv
  iexact Hs

/-- A loop, by an invariant. -/
theorem Ok.loop {σ : Type} (I : Nat → σ → St F → Prop) : (n : Nat) → (f : (j : Nat) → j < n → σ → M F σ) → {v : σ} → {s : St F} → I 0 v s →
    (∀ j (h : j < n) v s, I j v s → Ok c A (f j h v) s (I (j + 1))) → Ok c A (loop n f v) s (I n)
  | 0, _, _, _, h0, _ => Ok.pure h0
  | n + 1, f, _, _, h0, hf => (Ok.loop I n (fun j h => f j (Nat.lt_succ_of_lt h)) h0 (fun j h => hf j (Nat.lt_succ_of_lt h))).bind
      (hf n (Nat.lt_succ_self n))

/-- A load. -/
theorem Ok.load {sh : Shape} {e : EltTy} {m : Memref sig .tc .vmem sh e} (C : Cell F A m) {r : Rect sh} {hl : m.view.LoadsAt r.toLoadRect}
    {s : St F} {Φ : Vec F r.shape e → St F → Prop} (h : Φ (fun y => C.get s (r.emb y)) s) :
    Ok c A (Prog.lift (.load m r.toLoadRect hl) : M F (Vec F r.shape e)) s Φ := by
  intro E Q
  iintro ⟨H, Hk⟩
  iapply (load_rule c C s)
  isplitl [H]
  · iexact H
  iintro H
  simp only [wp_ret]
  iapply fupd_intro
  iapply Hk
  · ipureintro; exact h
  iexact H

/-- A store. -/
theorem Ok.store {sh : Shape} {e : EltTy} {m : Memref sig .tc .vmem sh e} (C : Cell F A m) {r : Rect sh} {w : r.shape.Idx → Elt F e}
    {hx : (m.access r).Stores Finset.univ} {hm : Finset.univ = Finset.univ ∨ ∀ a, r.stride a = 1}
    {s : St F} {Φ : PUnit → St F → Prop} (h : Φ ⟨⟩ (C.set s (r.overlay (C.get s) w))) :
    Ok c A (Prog.lift (.store m r w Finset.univ hx hm) : M F PUnit) s Φ := by
  intro E Q
  iintro ⟨H, Hk⟩
  iapply (store_rule c C s)
  isplitl [H]
  · iexact H
  iintro H
  simp only [wp_ret]
  iapply fupd_intro
  iapply Hk
  · ipureintro; exact h
  iexact H

end Cert.KernelIdeal.Rolled
-- ==== Proof.Blocks.lean ====
module

public import proofs.«01_k».proof.Proof.Exec
public import Idealize.ShloMosaic.Lib.Pointwise

/-! # Blocks of the buffers

What a load of a block reads and what a store of a block leaves, at an index. -/

set_option maxRecDepth 16384

@[expose] public section

noncomputable section

namespace Cert.KernelIdeal.Rolled

open Idealize.ShloMosaic Idealize.SL.Sem
open Cert.KernelIdeal

/-- A store read at an index: the stored value inside the rectangle, the old contents outside. -/
theorem overlay_eq {sh : Shape} {α : Type} (r : Rect sh) (X : sh.Idx → α) (w : r.shape.Idx → α) (y : sh.Idx) (G : α)
    (hin : ∀ x, r.emb x = y → w x = G) (hout : y ∉ r.set → X y = G) : r.overlay X w y = G := by
  by_cases hy : y ∈ r.set
  · obtain ⟨x, -, rfl⟩ := Finset.mem_map.mp (show y ∈ Finset.univ.map r.emb by rw [Rect.map_emb_univ]; exact hy)
    rw [Rect.overlay_emb]
    exact hin x rfl
  · rw [Rect.overlay_of_not_mem _ _ _ hy]
    exact hout hy

/-- A place is in the rectangle that has it at `x`. -/
theorem emb_mem {sh : Shape} (r : Rect sh) (x : r.shape.Idx) : r.emb x ∈ r.set := by
  rw [← Rect.map_emb_univ]; exact Finset.mem_map_of_mem _ (Finset.mem_univ x)

/-- A coordinate of a place in a rectangle of stride one. -/
theorem emb_unit {sh : Shape} {off size : Fin sh.rank → Nat} (inb : ∀ a, off a + size a ≤ sh.size a) (x : (Rect.unit (s := sh) off size inb).shape.Idx)
    (a : Fin sh.rank) : ((Rect.unit (s := sh) off size inb).emb x a).val = off a + (x a).val := by
  show off a + 1 * (x a).val = _
  rw [one_mul]

variable {F : FTy → Type} [FloatOps F] [Named F] [Facts]
open Facts₀ Facts

/-- Block `j` of a head's columns. -/
def blk {α : Type} (x : S1x2048x128.Idx → α) (j : Nat) (h : j < 16) : S1x128x128.Idx → α :=
  fun y => x ((Rect.unit (s := S1x2048x128) ![0, 128 * j, 0] S1x128x128.size (inb3 h)).emb y)

/-- A block of rows, read at an index. -/
theorem blk_apply {α : Type} (x : S1x2048x128.Idx → α) (j : Nat) (h : j < 16) (a : Fin 1) (b c : Fin 128) :
    blk x j h (ix3 a b c) = x (ix3 0 ⟨128 * j + b.val, by omega⟩ c) := by
  unfold blk
  congr 1
  refine (eq_ix3 _).trans ?_
  congr 1
  · exact Subsingleton.elim _ _
  · exact Fin.ext (emb_unit (inb3 h) _ 1)
  · exact Fin.ext ((emb_unit (inb3 h) _ 2).trans (by show 0 + c.val = c.val; omega))

/-- Tile `p` of a head's columns. -/
def tile2 {α : Type} (x : S1x2048x128.Idx → α) (p : Nat) (h : p < 8) : S1x256x128.Idx → α :=
  fun y => x ((Rect.unit (s := S1x2048x128) ![0, 256 * p, 0] S1x256x128.size (inb3t h)).emb y)

/-- Two neighbouring blocks of rows, read at an index. -/
theorem tile2_apply {α : Type} (x : S1x2048x128.Idx → α) (p : Nat) (h : p < 8) (a : Fin 1) (b : Fin 256) (c : Fin 128) :
    tile2 x p h (ix3 a b c) = x (ix3 0 ⟨256 * p + b.val, by omega⟩ c) := by
  unfold tile2
  congr 1
  refine (eq_ix3 _).trans ?_
  congr 1
  · exact Subsingleton.elim _ _
  · exact Fin.ext (emb_unit (inb3t h) _ 1)
  · exact Fin.ext ((emb_unit (inb3t h) _ 2).trans (by show 0 + c.val = c.val; omega))

/-- Row `j` of the sixteen. -/
def row {α : Type} (x : S16x128.Idx → α) (j : Nat) (h : j < 16) : S1x128.Idx → α :=
  fun y => x ((Rect.unit (s := S16x128) ![j, 0] S1x128.size (inbRow h)).emb y)

/-- A row of scales, read at an index. -/
theorem row_apply {α : Type} (x : S16x128.Idx → α) (j : Nat) (h : j < 16) (a : Fin 1) (b : Fin 128) :
    row x j h (ix2 a b) = x (ix2 ⟨j, h⟩ b) := by
  unfold row
  congr 1
  refine (eq_ix2 _).trans ?_
  congr 1
  · exact Fin.ext ((emb_unit (inbRow h) _ 0).trans (by show j + a.val = j; omega))
  · exact Fin.ext ((emb_unit (inbRow h) _ 1).trans (by show 0 + b.val = b.val; omega))

/-- Block `j` of a head's columns overwritten. -/
theorem overlay_blk {α : Type} (X : S1x2048x128.Idx → α) (j : Nat) (h : j < 16) (w : S1x128x128.Idx → α) (r : Fin 2048) (c : Fin 128) :
    (Rect.unit (s := S1x2048x128) ![0, 128 * j, 0] S1x128x128.size (inb3 h)).overlay X w (ix3 0 r c)
      = if r.val / 128 = j then w (ix3 0 ⟨r.val % 128, Nat.mod_lt _ (by decide)⟩ c) else X (ix3 0 r c) := by
  refine overlay_eq _ _ _ _ _ (fun x hx => ?_) (fun hn => ?_)
  · have h1 : 128 * j + (x 1).val = r.val := (emb_unit (inb3 h) x 1).symm.trans (congrArg (fun y : S1x2048x128.Idx => (y 1).val) hx)
    have h2 : 0 + (x 2).val = c.val := (emb_unit (inb3 h) x 2).symm.trans (congrArg (fun y : S1x2048x128.Idx => (y 2).val) hx)
    have hb : (x 1).val < 128 := (x 1).isLt
    rw [if_pos (by omega)]
    congr 1
    refine (eq_ix3 x).trans ?_
    congr 1
    · exact Subsingleton.elim _ _
    · exact Fin.ext (by show (x 1).val = r.val % 128; omega)
    · exact Fin.ext (by omega)
  · rw [if_neg]
    intro hj
    apply hn
    have e : (Rect.unit (s := S1x2048x128) ![0, 128 * j, 0] S1x128x128.size (inb3 h)).emb (ix3 0 ⟨r.val % 128, Nat.mod_lt _ (by decide)⟩ c) = ix3 0 r c := by
      exact (eq_ix3 _).trans ((ix3_inj _ _ _ _ _ _).mpr ⟨Subsingleton.elim _ _,
        Fin.ext ((emb_unit (inb3 h) _ 1).trans (by show 128 * j + r.val % 128 = r.val; omega)),
        Fin.ext ((emb_unit (inb3 h) _ 2).trans (by show 0 + c.val = c.val; omega))⟩)
    rw [← e]; exact emb_mem _ _

/-- All the sixteen rows overwritten. -/
theorem overlay_16 {α : Type} (X : S16x128.Idx → α) (w : S16x128.Idx → α) :
    (Rect.unit (s := S16x128) ![0, 0] S16x128.size inb_S16x128_S16x128_0_0).overlay X w = w := by
  funext y
  have e : (Rect.unit (s := S16x128) ![0, 0] S16x128.size inb_S16x128_S16x128_0_0).emb y = y := by
    funext a
    refine Fin.ext ((emb_unit inb_S16x128_S16x128_0_0 y a).trans ?_)
    revert a
    rw [Fin.forall_fin_succ, Fin.forall_fin_succ]
    exact ⟨Nat.zero_add _, Nat.zero_add _, fun a => a.elim0⟩
  conv_lhs => rw [← e]
  rw [Rect.overlay_emb]

/-- The mask overwritten. -/
theorem overlay_bias {α : Type} (X : S128x128.Idx → α) (w : S128x128.Idx → α) :
    (Rect.unit (s := S128x128) ![0, 0] S128x128.size inb_S128x128_S128x128_0_0).overlay X w = w := by
  funext y
  have e : (Rect.unit (s := S128x128) ![0, 0] S128x128.size inb_S128x128_S128x128_0_0).emb y = y := by
    funext a
    refine Fin.ext ((emb_unit inb_S128x128_S128x128_0_0 y a).trans ?_)
    revert a
    rw [Fin.forall_fin_succ, Fin.forall_fin_succ]
    exact ⟨Nat.zero_add _, Nat.zero_add _, fun a => a.elim0⟩
  conv_lhs => rw [← e]
  rw [Rect.overlay_emb]

/-- The mask read. -/
theorem read_bias {α : Type} (X : S128x128.Idx → α) :
    (fun y => X ((Rect.unit (s := S128x128) ![0, 0] S128x128.size inb_S128x128_S128x128_0_0).emb y)) = X := by
  funext y
  congr 1
  funext a
  refine Fin.ext ((emb_unit inb_S128x128_S128x128_0_0 y a).trans ?_)
  revert a
  rw [Fin.forall_fin_succ, Fin.forall_fin_succ]
  exact ⟨Nat.zero_add _, Nat.zero_add _, fun a => a.elim0⟩

end Cert.KernelIdeal.Rolled
-- ==== Proof.Quantise.lean ====
module

public import proofs.«01_k».proof.Proof.Blocks

/-! # Quantising

What the body's first part leaves: the mask, and for each input its codes, its scales and their inverses; then the
values' codes transposed. -/

set_option maxRecDepth 16384

@[expose] public section

noncomputable section

namespace Cert.KernelIdeal.Rolled

open Idealize.ShloMosaic Idealize.SL.Sem
open Cert.KernelIdeal

variable {F : FTy → Type} [FloatOps F] [Named F] [Facts]
open Facts₀ Facts

/-- The maxima of absolute values, of sixteen blocks. -/
def amaxV (x : Vec F S1x2048x128 .f32) : FVec F S16x1 .f32 :=
  amaxOf fun j => if h : j < 16 then absMax (blk x j h) else constant S1x128 .f32 0x00000000#32

/-- The maxima of the sixteen blocks depend on the sixteen only. -/
theorem amaxOf_congr {f g : Nat → FVec F S1x128 .f32} (h : ∀ j, j < 16 → f j = g j) : amaxOf f = amaxOf g := by
  unfold amaxOf
  rw [h 0 (by decide), h 1 (by decide), h 2 (by decide), h 3 (by decide), h 4 (by decide), h 5 (by decide), h 6 (by decide), h 7 (by decide),
    h 8 (by decide), h 9 (by decide), h 10 (by decide), h 11 (by decide), h 12 (by decide), h 13 (by decide), h 14 (by decide), h 15 (by decide)]

/-- One block's codes. -/
def codeB (x : Vec F S1x2048x128 .f32) (j : Nat) (h : j < 16) : FVec F S128x128 .f32 := scaled (blk x j h) (row (invOf (amaxV x)) j h)

/-- The codes. -/
def codesV (x : Vec F S1x2048x128 .f32) : Vec F S1x2048x128 .fp8e4m3 := fun y =>
  truncf .fp8e4m3 (codeB x ((y 1).val / 128) (Nat.div_lt_of_lt_mul (y 1).isLt)) bitsLt_fp8e4m3_f32
    (ix2 ⟨(y 1).val % 128, Nat.mod_lt _ (by decide)⟩ (y 2))

attribute [local irreducible] loop Ok amaxV invOf scOf scRow absMax scaled amaxOf

variable {c : Dev nD} {A : Args}

/-- The sixteen rows overwritten. -/
theorem st16_ok {m : Memref sig .tc .vmem S16x128 .f32} (C : Cell F A m) (w : FVec F S16x128 .f32) (s : St F) :
    Ok c A (st16 m w) s (fun _ s' => s' = C.set s w) := by
  unfold st16
  refine Ok.bind (Ok.load C (Φ := fun _ s' => s' = s) rfl) ?_
  rintro v s' rfl
  refine Ok.store C ?_
  rw [overlay_16, shapeCast_id]

/-- The maxima, collected. -/
theorem maxima_ok {src : Memref sig .tc .vmem S1x2048x128 .f32} (C : Cell F A src) (s : St F) :
    Ok c A (maxima src) s (fun v s' => s' = s ∧ amaxOf v = amaxV (C.get s)) := by
  unfold maxima
  refine Ok.mono (Φ := fun (v : Nat → FVec F S1x128 .f32) s' => s' = s ∧ ∀ j (h : j < 16), j < 16 → v j = absMax (blk (C.get s) j h))
    (Ok.loop (fun n (v : Nat → FVec F S1x128 .f32) s' => s' = s ∧ ∀ j (h : j < 16), j < n → v j = absMax (blk (C.get s) j h)) 16 _ ?_ ?_) ?_
  · exact ⟨rfl, fun j _ h => absurd h (Nat.not_lt_zero j)⟩
  · rintro j h v s0 ⟨h0, hv⟩
    rw [h0]
    refine Ok.bind (Ok.load C (Φ := fun w s'' => s'' = s ∧ w = blk (C.get s) j h) ⟨rfl, rfl⟩) ?_
    rintro _ _ ⟨rfl, rfl⟩
    refine Ok.pure ⟨rfl, fun k hk hkj => ?_⟩
    by_cases e : k = j
    · subst e
      show (bif Nat.beq k k then _ else _) = _
      rw [Nat.beq_refl]; rfl
    · show (bif Nat.beq k j then _ else _) = _
      have : Nat.beq k j = false := by
        rw [← Bool.not_eq_true, Nat.beq_eq]; exact e
      rw [this]
      exact hv k hk (by omega)
  · rintro v s' ⟨h0, hv⟩
    refine ⟨h0, ?_⟩
    unfold amaxV
    refine amaxOf_congr fun j hj => ?_
    rw [hv j hj hj, dif_pos hj]

/-- A block of codes overwritten. -/
theorem stCodes_ok {m : Memref sig .tc .vmem S1x2048x128 .fp8e4m3} (hm : m.IsWhole) (C : Cell F A m) (j : Nat) (h : j < 16)
    (w : FVec F S128x128 .fp8e4m3) (s : St F) :
    Ok c A (stCodes m hm j h w) s (fun _ s' => s' = C.set s ((Rect.unit (s := S1x2048x128) ![0, 128 * j, 0] S1x128x128.size (inb3 h)).overlay
      (C.get s) (shapeCast S1x128x128 w shapeCasts_S128x128_S1x128x128))) := by
  unfold stCodes
  refine Ok.bind (Ok.load C (Φ := fun _ s' => s' = s) rfl) ?_
  rintro v s' rfl
  exact Ok.store C rfl

/-- The codes, written. -/
theorem codes_ok {src : Memref sig .tc .vmem S1x2048x128 .f32} {dst : Memref sig .tc .vmem S1x2048x128 .fp8e4m3} (hdst : dst.IsWhole)
    {inv : Memref sig .tc .vmem S16x128 .f32} (Cs : Cell F A src) (Cd : Cell F A dst) (Ci : Cell F A inv)
    (hs : ∀ s X, Cs.get (Cd.set s X) = Cs.get s) (hi : ∀ s X, Ci.get (Cd.set s X) = Ci.get s) (s : St F)
    (hinv : Ci.get s = invOf (amaxV (Cs.get s))) :
    Ok c A (codes src dst hdst inv) s (fun _ s' => s' = Cd.set s (codesV (Cs.get s))) := by
  unfold codes
  refine Ok.mono (Φ := fun _ s' => ∃ X, s' = Cd.set s X ∧ ∀ (r : Fin 2048) (l : Fin 128), r.val < 128 * 16 → X (ix3 0 r l) = codesV (Cs.get s) (ix3 0 r l))
    (Ok.loop (fun n _ s' => ∃ X, s' = Cd.set s X ∧ ∀ (r : Fin 2048) (l : Fin 128), r.val < 128 * n → X (ix3 0 r l) = codesV (Cs.get s) (ix3 0 r l)) 16 _ ?_ ?_) ?_
  · exact ⟨Cd.get s, (Cd.set_get s).symm, fun r _ h => absurd h (by omega)⟩
  · rintro j h _ _ ⟨X, rfl, hX⟩
    refine Ok.bind (Ok.load Cs (Φ := fun w s'' => s'' = Cd.set s X ∧ w = blk (Cs.get s) j h) ⟨rfl, by rw [hs]; rfl⟩) ?_
    rintro _ _ ⟨rfl, rfl⟩
    refine Ok.bind (Ok.load Ci (Φ := fun w s'' => s'' = Cd.set s X ∧ w = row (invOf (amaxV (Cs.get s))) j h) ⟨rfl, by rw [hi, hinv]; rfl⟩) ?_
    rintro _ _ ⟨rfl, rfl⟩
    refine (stCodes_ok hdst Cd j h _ _).mono ?_
    rintro _ _ rfl
    rw [Cd.set_set, Cd.get_set]
    refine ⟨_, rfl, fun r l hr => ?_⟩
    rw [overlay_blk _ j h]
    by_cases e : r.val / 128 = j
    · subst e
      rw [if_pos rfl]
      generalize hT : (truncf .fp8e4m3 (scaled (blk (Cs.get s) (r.val / 128) h) (row (invOf (amaxV (Cs.get s))) (r.val / 128) h)) bitsLt_fp8e4m3_f32 : FVec F S128x128 .fp8e4m3) = T
      have e2 : codesV (Cs.get s) (ix3 0 r l) = T (ix2 ⟨r.val % 128, Nat.mod_lt _ (by decide)⟩ l) := by rw [← hT]; rfl
      rw [e2]
      pointwise
    · rw [if_neg e]
      exact hX r l (by omega)
  · rintro _ _ ⟨X, rfl, hX⟩
    congr 1
    funext y
    have e : y = ix3 0 (y 1) (y 2) := (eq_ix3 y).trans ((ix3_inj _ _ _ _ _ _).mpr ⟨Subsingleton.elim _ _, rfl, rfl⟩)
    rw [e]
    exact hX _ _ (y 1).isLt

/-- One input, quantised. -/
theorem quantise_ok {off : Fin 3 → Nat} {hoff : ∀ a, off a + S1x1x16.size a ≤ S1x32x16.size a}
    {src : Memref sig .tc .vmem S1x2048x128 .f32} {dst : Memref sig .tc .vmem S1x2048x128 .fp8e4m3} (hdst : dst.IsWhole)
    {out : Memref sig .tc .vmem S1x32x16 .f32} {inv sc : Memref sig .tc .vmem S16x128 .f32}
    (Cs : Cell F A src) (Cd : Cell F A dst) (Co : Cell F A out) (Ci : Cell F A inv) (Cc : Cell F A sc)
    (h1 : ∀ s X, Cs.get (Cd.set s X) = Cs.get s) (h2 : ∀ s X, Ci.get (Cd.set s X) = Ci.get s)
    (h3 : ∀ s X, Cs.get (Co.set s X) = Cs.get s) (h4 : ∀ s X, Cs.get (Ci.set s X) = Cs.get s) (h5 : ∀ s X, Cs.get (Cc.set s X) = Cs.get s)
    (h6 : ∀ s X, Ci.get (Co.set s X) = Ci.get s) (h7 : ∀ s X, Ci.get (Cc.set s X) = Ci.get s)
    (h8 : ∀ s X, Co.get (Cc.set s X) = Co.get s) (h9 : ∀ s X, Co.get (Ci.set s X) = Co.get s) (s : St F) :
    Ok c A (quantise off hoff src dst hdst out inv sc) s (fun _ s' => s' = Cd.set (Co.set (Cc.set (Ci.set s (invOf (amaxV (Cs.get s)))) (scOf (amaxV (Cs.get s))))
      ((Rect.unit (s := S1x32x16) off S1x1x16.size hoff).overlay (Co.get s) (scRow (scOf (amaxV (Cs.get s)))))) (codesV (Cs.get s))) := by
  unfold quantise
  refine Ok.bind (maxima_ok Cs s) ?_
  rintro v s' ⟨h0, hv⟩
  rw [hv, h0]
  refine Ok.bind (st16_ok Ci _ _) ?_
  rintro _ _ rfl
  refine Ok.bind (st16_ok Cc _ _) ?_
  rintro _ _ rfl
  refine Ok.bind (Ok.load Co (Φ := fun _ s'' => s'' = Cc.set (Ci.set s (invOf (amaxV (Cs.get s)))) (scOf (amaxV (Cs.get s)))) rfl) ?_
  rintro _ _ rfl
  refine Ok.bind (Ok.store Co (Φ := fun _ s'' => s'' = Co.set (Cc.set (Ci.set s (invOf (amaxV (Cs.get s)))) (scOf (amaxV (Cs.get s))))
    ((Rect.unit (s := S1x32x16) off S1x1x16.size hoff).overlay (Co.get s) (scRow (scOf (amaxV (Cs.get s)))))) (by rw [h8, h9])) ?_
  rintro _ _ rfl
  refine (codes_ok hdst Cs Cd Ci h1 h2 _ ?_).mono ?_
  · rw [h6, h7, Ci.get_set, h3, h5, h4]
  · rintro _ _ rfl
    rw [h3, h5, h4]

end Cert.KernelIdeal.Rolled
-- ==== Proof.Attend.lean ====
module

public import proofs.«01_k».proof.Proof.Quantise

/-! # The attention of the codes

The scores' blocks and the weights' blocks live in two buffers that the tiles share; a tile reads only what it has
written itself, so what it leaves is a function of the codes, the scales and the mask. -/

set_option maxRecDepth 16384

@[expose] public section

noncomputable section

namespace Cert.KernelIdeal.Rolled

open Idealize.ShloMosaic Idealize.SL.Sem
open Cert.KernelIdeal

variable {F : FTy → Type} [FloatOps F] [Named F] [Facts]
open Facts₀ Facts

/-- A block of the scores' or of the weights' buffer. -/
def rdT {α : Type} (x : S2x2048x256.Idx → α) (b j q : Nat) (hb : b < 2) (hj : j < 16) (hq : q < 2) : S1x128x128.Idx → α :=
  fun y => x ((Rect.unit (s := S2x2048x256) ![b, 128 * j, 128 * q] S1x128x128.size (inbT hb hj hq)).emb y)

/-- A block of the score buffer, read at an index. -/
theorem rdT_apply {α : Type} (x : S2x2048x256.Idx → α) (b j q : Nat) (hb : b < 2) (hj : j < 16) (hq : q < 2) (a : Fin 1) (r l : Fin 128) :
    rdT x b j q hb hj hq (ix3 a r l) = x (ix3 ⟨b, hb⟩ ⟨128 * j + r.val, by omega⟩ ⟨128 * q + l.val, by omega⟩) := by
  unfold rdT
  congr 1
  exact (eq_ix3 _).trans ((ix3_inj _ _ _ _ _ _).mpr ⟨Fin.ext ((emb_unit (inbT hb hj hq) _ 0).trans (by show b + a.val = b; omega)),
    Fin.ext (emb_unit (inbT hb hj hq) _ 1), Fin.ext (emb_unit (inbT hb hj hq) _ 2)⟩)

/-- Both halves of a row of blocks. -/
def rdP {α : Type} (x : S2x2048x256.Idx → α) (b j : Nat) (hb : b < 2) (hj : j < 16) : S1x128x256.Idx → α :=
  fun y => x ((Rect.unit (s := S2x2048x256) ![b, 128 * j, 0] S1x128x256.size (inbP hb hj)).emb y)

/-- A pair of blocks of the weight buffer, read at an index. -/
theorem rdP_apply {α : Type} (x : S2x2048x256.Idx → α) (b j : Nat) (hb : b < 2) (hj : j < 16) (a : Fin 1) (r : Fin 128) (l : Fin 256) :
    rdP x b j hb hj (ix3 a r l) = x (ix3 ⟨b, hb⟩ ⟨128 * j + r.val, by omega⟩ l) := by
  unfold rdP
  congr 1
  exact (eq_ix3 _).trans ((ix3_inj _ _ _ _ _ _).mpr ⟨Fin.ext ((emb_unit (inbP hb hj) _ 0).trans (by show b + a.val = b; omega)),
    Fin.ext (emb_unit (inbP hb hj) _ 1), Fin.ext ((emb_unit (inbP hb hj) _ 2).trans (by show 0 + l.val = l.val; omega))⟩)

/-- A block overwritten, at an index. -/
theorem overlay_T {α : Type} (X : S2x2048x256.Idx → α) (b j q : Nat) (hb : b < 2) (hj : j < 16) (hq : q < 2) (w : S1x128x128.Idx → α)
    (b' : Fin 2) (r : Fin 2048) (l : Fin 256) :
    (Rect.unit (s := S2x2048x256) ![b, 128 * j, 128 * q] S1x128x128.size (inbT hb hj hq)).overlay X w (ix3 b' r l)
      = if b'.val = b ∧ r.val / 128 = j ∧ l.val / 128 = q then
          w (ix3 0 ⟨r.val % 128, Nat.mod_lt _ (by decide)⟩ ⟨l.val % 128, Nat.mod_lt _ (by decide)⟩)
        else X (ix3 b' r l) := by
  refine overlay_eq _ _ _ _ _ (fun x hx => ?_) (fun hn => ?_)
  · have h0 : b + (x 0).val = b'.val := (emb_unit (inbT hb hj hq) x 0).symm.trans (congrArg (fun y : S2x2048x256.Idx => (y 0).val) hx)
    have h1 : 128 * j + (x 1).val = r.val := (emb_unit (inbT hb hj hq) x 1).symm.trans (congrArg (fun y : S2x2048x256.Idx => (y 1).val) hx)
    have h2 : 128 * q + (x 2).val = l.val := (emb_unit (inbT hb hj hq) x 2).symm.trans (congrArg (fun y : S2x2048x256.Idx => (y 2).val) hx)
    have g0 : (x 0).val < 1 := (x 0).isLt
    have g1 : (x 1).val < 128 := (x 1).isLt
    have g2 : (x 2).val < 128 := (x 2).isLt
    rw [if_pos (by omega)]
    congr 1
    exact (eq_ix3 x).trans ((ix3_inj _ _ _ _ _ _).mpr ⟨Subsingleton.elim _ _, Fin.ext (by show (x 1).val = r.val % 128; omega),
      Fin.ext (by show (x 2).val = l.val % 128; omega)⟩)
  · rw [if_neg]
    rintro ⟨e0, e1, e2⟩
    apply hn
    have e : (Rect.unit (s := S2x2048x256) ![b, 128 * j, 128 * q] S1x128x128.size (inbT hb hj hq)).emb
        (ix3 0 ⟨r.val % 128, Nat.mod_lt _ (by decide)⟩ ⟨l.val % 128, Nat.mod_lt _ (by decide)⟩) = ix3 b' r l := by
      exact (eq_ix3 _).trans ((ix3_inj _ _ _ _ _ _).mpr ⟨Fin.ext ((emb_unit (inbT hb hj hq) _ 0).trans (by show b + 0 = b'.val; omega)),
        Fin.ext ((emb_unit (inbT hb hj hq) _ 1).trans (by show 128 * j + r.val % 128 = r.val; omega)),
        Fin.ext ((emb_unit (inbT hb hj hq) _ 2).trans (by show 128 * q + l.val % 128 = l.val; omega))⟩)
    rw [← e]; exact emb_mem _ _

/-- The block overwritten reads as what was written. -/
theorem rdT_same {α : Type} (X : S2x2048x256.Idx → α) (b j q : Nat) (hb : b < 2) (hj : j < 16) (hq : q < 2) (w : S1x128x128.Idx → α) :
    rdT ((Rect.unit (s := S2x2048x256) ![b, 128 * j, 128 * q] S1x128x128.size (inbT hb hj hq)).overlay X w) b j q hb hj hq = w := by
  funext y
  exact Rect.overlay_emb _ _ _ _

/-- Another block reads as before. -/
theorem rdT_other {α : Type} (X : S2x2048x256.Idx → α) (b j q : Nat) (hb : b < 2) (hj : j < 16) (hq : q < 2) (w : S1x128x128.Idx → α)
    (b' j' q' : Nat) (hb' : b' < 2) (hj' : j' < 16) (hq' : q' < 2) (h : ¬ (j' = j ∧ q' = q)) :
    rdT ((Rect.unit (s := S2x2048x256) ![b, 128 * j, 128 * q] S1x128x128.size (inbT hb hj hq)).overlay X w) b' j' q' hb' hj' hq'
      = rdT X b' j' q' hb' hj' hq' := by
  funext y
  obtain ⟨a, r, l, rfl⟩ : ∃ (a : Fin 1) (r l : Fin 128), y = ix3 a r l := ⟨y 0, y 1, y 2, eq_ix3 y⟩
  rw [rdT_apply, rdT_apply, overlay_T _ b j q hb hj hq, if_neg]
  rintro ⟨-, e1, e2⟩
  apply h
  have e1 : (128 * j' + r.val) / 128 = j := e1
  have e2 : (128 * q' + l.val) / 128 = q := e2
  omega

/-- Two blocks side by side. -/
def join {α : Type} (w0 w1 : S1x128x128.Idx → α) : S1x128x256.Idx → α := fun y =>
  if (y 2).val / 128 = 0 then w0 (ix3 0 (y 1) ⟨(y 2).val % 128, Nat.mod_lt _ (by decide)⟩) else w1 (ix3 0 (y 1) ⟨(y 2).val % 128, Nat.mod_lt _ (by decide)⟩)

/-- Both halves overwritten read as what was written. -/
theorem rdP_join {α : Type} (X : S2x2048x256.Idx → α) (b j : Nat) (hb : b < 2) (hj : j < 16) (w0 w1 : S1x128x128.Idx → α) :
    rdP ((Rect.unit (s := S2x2048x256) ![b, 128 * j, 128 * 1] S1x128x128.size (inbT hb hj (by decide))).overlay
      ((Rect.unit (s := S2x2048x256) ![b, 128 * j, 128 * 0] S1x128x128.size (inbT hb hj (by decide))).overlay X w0) w1) b j hb hj = join w0 w1 := by
  funext y
  obtain ⟨a, r, l, rfl⟩ : ∃ (a : Fin 1) (r : Fin 128) (l : Fin 256), y = ix3 a r l := ⟨y 0, y 1, y 2, eq_ix3 y⟩
  rw [rdP_apply, overlay_T _ b j 1 hb hj (by decide), overlay_T _ b j 0 hb hj (by decide)]
  have e1 : (128 * j + r.val) / 128 = j := by omega
  have e2 : (128 * j + r.val) % 128 = r.val := by omega
  by_cases e : l.val / 128 = 0
  · rw [if_neg (by rintro ⟨-, -, h⟩; omega), if_pos ⟨rfl, e1, e⟩]
    refine Eq.trans ?_ (if_pos e).symm
    congr 1
    exact (ix3_inj _ _ _ _ _ _).mpr ⟨rfl, Fin.ext e2, rfl⟩
  · rw [if_pos ⟨rfl, e1, by omega⟩]
    refine Eq.trans ?_ (if_neg e).symm
    congr 1
    exact (ix3_inj _ _ _ _ _ _).mpr ⟨rfl, Fin.ext e2, rfl⟩

/-- Block `j` of the transposed codes. -/
def rdV {α : Type} (x : S128x2048.Idx → α) (j : Nat) (h : j < 16) : S128x128.Idx → α :=
  fun y => x ((Rect.unit (s := S128x2048) ![0, 128 * j] S128x128.size (inbV h)).emb y)

/-- Block `j` of the transposed codes overwritten reads as what was written; another block as before. -/
theorem rdV_overlay {α : Type} (X : S128x2048.Idx → α) (j : Nat) (h : j < 16) (w : S128x128.Idx → α) (k : Nat) (hk : k < 16) :
    rdV ((Rect.unit (s := S128x2048) ![0, 128 * j] S128x128.size (inbV h)).overlay X w) k hk = if k = j then w else rdV X k hk := by
  by_cases e : k = j
  · subst e
    rw [if_pos rfl]
    funext y
    exact Rect.overlay_emb _ _ _ _
  · rw [if_neg e]
    funext y
    unfold rdV
    refine overlay_eq _ _ _ _ _ (fun x hx => ?_) (fun _ => rfl)
    exfalso
    have h1 : 128 * j + (x 1).val = 128 * k + (y 1).val :=
      (emb_unit (inbV h) x 1).symm.trans ((congrArg (fun z : S128x2048.Idx => (z 1).val) hx).trans
        (emb_unit (sh := S128x2048) (off := ![0, 128 * k]) (size := S128x128.size) (inbV hk) y 1))
    have g1 : (x 1).val < 128 := (x 1).isLt
    have g2 : (y 1).val < 128 := (y 1).isLt
    omega

/-- What the attention reads: codes of queries and keys, the values' codes by blocks and transposed, the mask, the three
    inputs' scales along rows. -/
structure Data (F : FTy → Type) [FloatOps F] where
  q : Vec F S1x2048x128 .fp8e4m3
  k : Vec F S1x2048x128 .fp8e4m3
  v : Nat → Vec F S128x128 .fp8e4m3
  b : Vec F S128x128 .f32
  qs : Vec F S16x128 .f32
  ks : Vec F S16x128 .f32
  vs : Vec F S16x128 .f32

/-- The contents hold the data. -/
structure Holds (d : Data F) (s : St F) : Prop where
  q : s.x6 = d.q
  k : s.x8 = d.k
  v : ∀ j (h : j < 16), rdV s.x14 j h = d.v j
  b : s.x15 = d.b
  qs : s.x17 = d.qs
  ks : s.x19 = d.ks
  vs : s.x21 = d.vs

/-- A block of scores: of keys' block `j` and of the `q`-th block of queries of tile `p`. -/
def scoreB (d : Data F) (p : Nat) (hp : p < 8) (j : Nat) (hj : j < 16) (q : Nat) (hq : q < 2) : FVec F S128x128 .f32 :=
  have s := score (j % 2) q (Nat.mod_lt _ (by decide)) hq (accOf (tile2 d.k (j / 2) (by omega)) (tile2 d.q p hp)) (qMul (row d.qs (2 * p + q) (by omega))) (row d.ks j hj)
  if j = 2 * p + q then addf s d.b else s

/-- The blocks of scores that the `q`-th block of queries of tile `p` has: the first `n`. -/
def scoreL (d : Data F) (p : Nat) (hp : p < 8) (q : Nat) (hq : q < 2) (n : Nat) (hn : n ≤ 16) : List (FVec F S128x128 .f32) :=
  build n fun j h => scoreB d p hp j (Nat.lt_of_lt_of_le h hn) q hq

variable {c : Dev nD} {A : Args}

attribute [local irreducible] loop Ok scoreB score foldRows accOf qMul weight clip part1 part2 outBlk rowMax shift pScale rdT rdP rdV row tile2

/-- The first elements and the next one. -/
theorem build_succ {α : Type} (n : Nat) (f : (j : Nat) → j < n + 1 → α) :
    build (n + 1) f = build n (fun j h => f j (Nat.lt_succ_of_lt h)) ++ [f n (Nat.lt_succ_self n)] := rfl

/-- A block of scores overwritten. -/
def put12 (s : St F) (b j q : Nat) (hb : b < 2) (hj : j < 16) (hq : q < 2) (w : FVec F S128x128 .f32) : St F :=
  { s with x12 := (Rect.unit (s := S2x2048x256) ![b, 128 * j, 128 * q] S1x128x128.size (inbT hb hj hq)).overlay s.x12 (shapeCast S1x128x128 w shapeCasts_S128x128_S1x128x128) }

/-- A block of weights' codes overwritten. -/
def put13 (s : St F) (b j q : Nat) (hb : b < 2) (hj : j < 16) (hq : q < 2) (w : FVec F S128x128 .fp8e4m3) : St F :=
  { s with x13 := (Rect.unit (s := S2x2048x256) ![b, 128 * j, 128 * q] S1x128x128.size (inbT hb hj hq)).overlay s.x13 (shapeCast S1x128x128 w shapeCasts_S128x128_S1x128x128) }

/-- The scores after a block is overwritten. -/
theorem put12_x12 (s : St F) (b j q : Nat) (hb : b < 2) (hj : j < 16) (hq : q < 2) (w : FVec F S128x128 .f32) :
    (put12 s b j q hb hj hq w).x12 = (Rect.unit (s := S2x2048x256) ![b, 128 * j, 128 * q] S1x128x128.size (inbT hb hj hq)).overlay s.x12
      (shapeCast S1x128x128 w shapeCasts_S128x128_S1x128x128) := by
  unfold put12
  rfl

/-- A block of scores is stored. -/
theorem stT_ok (b j q : Nat) (hb : b < 2) (hj : j < 16) (hq : q < 2) (w : FVec F S128x128 .f32) (s : St F) :
    Ok c A (stT A.a12 b j q hb hj hq w) s (fun _ s' => s' = put12 s b j q hb hj hq w) := by
  unfold stT
  refine Ok.bind (Ok.load (cell12 A) (Φ := fun _ s' => s' = s) rfl) ?_
  rintro _ s' h1
  rw [h1]
  exact Ok.store (cell12 A) rfl

/-- A block of weights' codes is stored. -/
theorem stP_ok (hm : A.a13.IsWhole) (b j q : Nat) (hb : b < 2) (hj : j < 16) (hq : q < 2) (w : FVec F S128x128 .fp8e4m3) (s : St F) :
    Ok c A (stP A.a13 hm b j q hb hj hq w) s (fun _ s' => s' = put13 s b j q hb hj hq w) := by
  unfold stP
  refine Ok.bind (Ok.load (cell13 A) (Φ := fun _ s' => s' = s) rfl) ?_
  rintro _ s' h1
  rw [h1]
  exact Ok.store (cell13 A) rfl

/-- A block of scores before the diagonal. -/
theorem scorePlain_ok (b j k q : Nat) (hb : b < 2) (hj : j < 16) (hk : k < 2) (hq : q < 2) (acc : FVec F S256x256 .f32) (qm : FVec F S1x128 .f32) (s : St F) :
    Ok c A (scorePlain A.a12 A.a19 b j k q hb hj hk hq acc qm) s (fun v s' => v = foldRows maximumf (score k q hk hq acc qm (row s.x19 j hj))
      ∧ s' = put12 s b j q hb hj hq (score k q hk hq acc qm (row s.x19 j hj))) := by
  unfold scorePlain
  refine Ok.bind (Ok.load (cell19 A) (Φ := fun w s' => s' = s ∧ w = row s.x19 j hj) ⟨rfl, by unfold row; rfl⟩) ?_
  rintro w s' ⟨h0, hw⟩
  rw [h0, hw]
  refine Ok.bind (stT_ok b j q hb hj hq _ _) ?_
  rintro _ s' h1
  exact Ok.pure ⟨rfl, h1⟩

/-- A diagonal block of scores. -/
theorem scoreDiag_ok (b j k q : Nat) (hb : b < 2) (hj : j < 16) (hk : k < 2) (hq : q < 2) (acc : FVec F S256x256 .f32) (qm : FVec F S1x128 .f32) (s : St F) :
    Ok c A (scoreDiag A.a12 A.a15 A.a19 b j k q hb hj hk hq acc qm) s (fun v s' => v = foldRows maximumf (addf (score k q hk hq acc qm (row s.x19 j hj)) s.x15)
      ∧ s' = put12 s b j q hb hj hq (addf (score k q hk hq acc qm (row s.x19 j hj)) s.x15)) := by
  unfold scoreDiag
  refine Ok.bind (Ok.load (cell19 A) (Φ := fun w s' => s' = s ∧ w = row s.x19 j hj) ⟨rfl, by unfold row; rfl⟩) ?_
  rintro w s' ⟨h0, hw⟩
  rw [h0, hw]
  refine Ok.bind (Ok.load (cell15 A) (Φ := fun w s' => s' = s ∧ w = s.x15) ⟨rfl, read_bias _⟩) ?_
  rintro w s' ⟨h0, hw⟩
  rw [h0, hw]
  refine Ok.bind (stT_ok b j q hb hj hq _ _) ?_
  rintro _ s' h1
  exact Ok.pure ⟨rfl, h1⟩

/-- The scores' buffer holds the first `n` blocks of scores of the `q`-th block of queries of tile `p`. -/
def Scored (d : Data F) (p : Nat) (hp : p < 8) (q : Nat) (hq : q < 2) (n : Nat) (x : Vec F S2x2048x256 .f32) : Prop :=
  ∀ j (hj : j < 16), j < n → rdT x (p % 2) j q (Nat.mod_lt _ (by decide)) hj hq = shapeCast S1x128x128 (scoreB d p hp j hj q hq) shapeCasts_S128x128_S1x128x128

/-- The data stay where they are when the scores change. -/
theorem Holds.of12 {d : Data F} {s : St F} (h : Holds d s) (b j q : Nat) (hb : b < 2) (hj : j < 16) (hq : q < 2) (w : FVec F S128x128 .f32) :
    Holds d (put12 s b j q hb hj hq w) := by
  unfold Rolled.put12
  exact ⟨h.q, h.k, h.v, h.b, h.qs, h.ks, h.vs⟩

/-- The data stay where they are when the weights change. -/
theorem Holds.of13 {d : Data F} {s : St F} (h : Holds d s) (b j q : Nat) (hb : b < 2) (hj : j < 16) (hq : q < 2) (w : FVec F S128x128 .fp8e4m3) :
    Holds d (put13 s b j q hb hj hq w) := by
  unfold Rolled.put13
  exact ⟨h.q, h.k, h.v, h.b, h.qs, h.ks, h.vs⟩

/-- The next block of scores stored. -/
theorem Scored.same {d : Data F} {p : Nat} {hp : p < 8} {q : Nat} {hq : q < 2} {n : Nat} {s : St F} (h : Scored d p hp q hq n s.x12)
    (hn : n < 16) (hb : p % 2 < 2) {w : FVec F S128x128 .f32} (hw : w = scoreB d p hp n hn q hq) :
    Scored d p hp q hq (n + 1) (Rolled.put12 s (p % 2) n q hb hn hq w).x12 := by
  intro j hj hjn
  rw [put12_x12]
  by_cases e : j = n
  · subst e
    rw [← hw]
    exact rdT_same _ _ _ _ _ _ _ _
  · exact (rdT_other _ _ _ _ hb hn hq _ _ _ _ _ _ _ (fun hh => e hh.1)).trans (h j hj (by omega))

/-- A block of the other queries' scores stored. -/
theorem Scored.other {d : Data F} {p : Nat} {hp : p < 8} {q : Nat} {hq : q < 2} {n : Nat} {s : St F} (h : Scored d p hp q hq n s.x12)
    (b j' q' : Nat) (hb : b < 2) (hj' : j' < 16) (hq' : q' < 2) (hne : q ≠ q') (w : FVec F S128x128 .f32) :
    Scored d p hp q hq n (Rolled.put12 s b j' q' hb hj' hq' w).x12 := by
  intro j hj hjn
  rw [put12_x12]
  exact (rdT_other _ _ _ _ hb hj' hq' _ _ _ _ _ _ _ (fun hh => hne hh.2)).trans (h j hj hjn)

/-- The scores' column maxima, of the first `n` blocks. -/
def maxL (d : Data F) (p : Nat) (hp : p < 8) (q : Nat) (hq : q < 2) (n : Nat) (hn : n ≤ 16) : List (FVec F S8x128 .f32) :=
  build n fun j h => foldRows maximumf (scoreB d p hp j (Nat.lt_of_lt_of_le h hn) q hq)

end Cert.KernelIdeal.Rolled
-- ==== Proof.Tile.lean ====
module

public import proofs.«01_k».proof.Proof.Attend

/-! # One tile of queries, and all of them

A tile forms its scores, their maxima, its weights and its products; its two blocks of the result are functions of the
data. -/

set_option maxRecDepth 16384

@[expose] public section

noncomputable section

namespace Cert.KernelIdeal.Rolled

open Idealize.ShloMosaic Idealize.SL.Sem
open Cert.KernelIdeal

variable {F : FTy → Type} [FloatOps F] [Named F] [Facts]
open Facts₀ Facts

variable {c : Dev nD} {A : Args}

/-- A block of weights, the scores being `scoreB`. -/
def wB (d : Data F) (p : Nat) (hp : p < 8) (j : Nat) (hj : j < 16) (q : Nat) (hq : q < 2) (sh : FVec F S1x128 .f32) : FVec F S128x128 .f32 :=
  weight (shapeCast S1x128x128 (scoreB d p hp j hj q hq) shapeCasts_S128x128_S1x128x128) sh

/-- A block of weights' codes. -/
def codeW (d : Data F) (p : Nat) (hp : p < 8) (j : Nat) (hj : j < 16) (q : Nat) (hq : q < 2) (sh : FVec F S1x128 .f32) : S1x128x128.Idx → F .fp8e4m3 :=
  shapeCast S1x128x128 (truncf .fp8e4m3 (clip (wB d p hp j hj q hq sh)) bitsLt_fp8e4m3_f32) shapeCasts_S128x128_S1x128x128

/-- The product of a block of values and both blocks of weights' codes. -/
def prod2 (d : Data F) (p : Nat) (hp : p < 8) (j : Nat) (hj : j < 16) (sh0 sh1 : FVec F S1x128 .f32) : FVec F S128x256 .f32 :=
  part2 (d.v j) (join (codeW d p hp j hj 0 (by decide) sh0) (codeW d p hp j hj 1 (by decide) sh1)) (row d.vs j hj)

/-- The parts of the first `n` blocks of keys, of the first block of queries. -/
def acc0 (d : Data F) (p : Nat) (hp : p < 8) (n : Nat) (hn : n ≤ 16) (sh0 sh1 : FVec F S1x128 .f32) : Acc F :=
  ⟨build n fun j h => foldRows addf (wB d p hp j (Nat.lt_of_lt_of_le h hn) 0 (by decide) sh0),
    build n fun j h => extractStridedSlice S128x128 ![0, 0] (prod2 d p hp j (Nat.lt_of_lt_of_le h hn) sh0 sh1) slices_S128x256_o0_0_S128x128⟩

/-- The parts of the first `n` blocks of keys, of the second block of queries. -/
def acc1 (d : Data F) (p : Nat) (hp : p < 8) (n : Nat) (hn : n ≤ 16) (sh0 sh1 : FVec F S1x128 .f32) : Acc F :=
  ⟨build n fun j h => foldRows addf (wB d p hp j (Nat.lt_of_lt_of_le h hn) 1 (by decide) sh1),
    build n fun j h => extractStridedSlice S128x128 ![0, 128] (prod2 d p hp j (Nat.lt_of_lt_of_le h hn) sh0 sh1) slices_S128x256_o0_128_S128x128⟩

/-- The maxima of the scores of a block of queries. -/
def mx (d : Data F) (p : Nat) (hp : p < 8) (q : Nat) (hq : q < 2) : FVec F S1x128 .f32 := rowMax (maxL d p hp q hq (2 * p + 1 + q) (by omega))

/-- The parts of the last block of keys added, of the second block of queries. -/
def acc1' (d : Data F) (p : Nat) (hp : p < 8) (sh0 sh1 : FVec F S1x128 .f32) : Acc F :=
  ⟨(acc1 d p hp (2 * p + 1) (by omega) sh0 sh1).sums ++ [foldRows addf (wB d p hp (2 * p + 1) (by omega) 1 (by decide) sh1)],
    (acc1 d p hp (2 * p + 1) (by omega) sh0 sh1).outs ++ [part1 (d.v (2 * p + 1)) (codeW d p hp (2 * p + 1) (by omega) 1 (by decide) sh1) (row d.vs (2 * p + 1) (by omega))]⟩

/-- The first block of the result. -/
def yB0 (d : Data F) (p : Nat) (hp : p < 8) : FVec F S128x128 .f32 :=
  outBlk (pScale (mx d p hp 0 (by decide))) (acc0 d p hp (2 * p + 1) (by omega) (shift (mx d p hp 0 (by decide))) (shift (mx d p hp 1 (by decide))))

/-- The second block of the result. -/
def yB1 (d : Data F) (p : Nat) (hp : p < 8) : FVec F S128x128 .f32 :=
  outBlk (pScale (mx d p hp 1 (by decide))) (acc1' d p hp (shift (mx d p hp 0 (by decide))) (shift (mx d p hp 1 (by decide))))

/-- A block of the result. -/
def yBlk (d : Data F) (j : Nat) (hj : j < 16) : FVec F S128x128 .f32 := if j % 2 = 0 then yB0 d (j / 2) (by omega) else yB1 d (j / 2) (by omega)

/-- The result. -/
def yV (d : Data F) : Vec F S1x2048x128 .f32 := fun y =>
  yBlk d ((y 1).val / 128) (Nat.div_lt_of_lt_mul (y 1).isLt) (ix2 ⟨(y 1).val % 128, Nat.mod_lt _ (by decide)⟩ (y 2))

attribute [local irreducible] loop Ok scoreB score foldRows accOf qMul weight clip part1 part2 outBlk rowMax shift pScale rdT rdP rdV row tile2 wB codeW prod2 mx

/-- One block of maxima more. -/
theorem maxL_succ (d : Data F) (p : Nat) (hp : p < 8) (q : Nat) (hq : q < 2) (n : Nat) (hn : n + 1 ≤ 16) :
    maxL d p hp q hq (n + 1) hn = maxL d p hp q hq n (Nat.le_of_succ_le hn) ++ [foldRows maximumf (scoreB d p hp n hn q hq)] := rfl

/-- One block of keys more, for the first block of queries. -/
theorem acc0_succ (d : Data F) (p : Nat) (hp : p < 8) (n : Nat) (hn : n + 1 ≤ 16) (sh0 sh1 : FVec F S1x128 .f32) :
    acc0 d p hp (n + 1) hn sh0 sh1 = ⟨(acc0 d p hp n (Nat.le_of_succ_le hn) sh0 sh1).sums ++ [foldRows addf (wB d p hp n hn 0 (by decide) sh0)],
      (acc0 d p hp n (Nat.le_of_succ_le hn) sh0 sh1).outs ++ [extractStridedSlice S128x128 ![0, 0] (prod2 d p hp n hn sh0 sh1) slices_S128x256_o0_0_S128x128]⟩ := rfl

/-- One block of keys more, for the second block of queries. -/
theorem acc1_succ (d : Data F) (p : Nat) (hp : p < 8) (n : Nat) (hn : n + 1 ≤ 16) (sh0 sh1 : FVec F S1x128 .f32) :
    acc1 d p hp (n + 1) hn sh0 sh1 = ⟨(acc1 d p hp n (Nat.le_of_succ_le hn) sh0 sh1).sums ++ [foldRows addf (wB d p hp n hn 1 (by decide) sh1)],
      (acc1 d p hp n (Nat.le_of_succ_le hn) sh0 sh1).outs ++ [extractStridedSlice S128x128 ![0, 128] (prod2 d p hp n hn sh0 sh1) slices_S128x256_o0_128_S128x128]⟩ := rfl

/-- Only scores and weights differ. -/
def Keeps (s s' : St F) : Prop := ∃ T P, s' = { s with x12 := T, x13 := P }

/-- A state keeps itself. -/
theorem Keeps.refl (s : St F) : Keeps s s := ⟨s.x12, s.x13, rfl⟩

/-- Keeping is transitive. -/
theorem Keeps.trans {s s' s'' : St F} (h : Keeps s s') (h' : Keeps s' s'') : Keeps s s'' := by
  obtain ⟨T, P, rfl⟩ := h
  obtain ⟨T', P', rfl⟩ := h'
  exact ⟨T', P', rfl⟩

/-- A store of scores keeps the rest. -/
theorem keeps12 (s : St F) (b j q : Nat) (hb : b < 2) (hj : j < 16) (hq : q < 2) (w : FVec F S128x128 .f32) : Keeps s (put12 s b j q hb hj hq w) :=
  ⟨(put12 s b j q hb hj hq w).x12, s.x13, rfl⟩

/-- A store of weights keeps the rest. -/
theorem keeps13 (s : St F) (b j q : Nat) (hb : b < 2) (hj : j < 16) (hq : q < 2) (w : FVec F S128x128 .fp8e4m3) : Keeps s (put13 s b j q hb hj hq w) :=
  ⟨s.x12, (put13 s b j q hb hj hq w).x13, rfl⟩

/-- What the attention reads is still held after stores of scores and weights. -/
theorem Holds.keeps {d : Data F} {s s' : St F} (h : Holds d s) (hk : Keeps s s') : Holds d s' := by
  obtain ⟨T, P, rfl⟩ := hk
  exact ⟨h.q, h.k, h.v, h.b, h.qs, h.ks, h.vs⟩

/-- A block of scores before the diagonal, of the data. -/
theorem scoreB_plain (d : Data F) (p : Nat) (hp : p < 8) (j : Nat) (hj : j < 16) (t : Nat) (ht : t < 8) (k : Nat) (hk : k < 2) (q : Nat) (hq : q < 2)
    (h1 : t = j / 2) (h2 : k = j % 2) (h3 : j ≠ 2 * p + q) :
    score k q hk hq (accOf (tile2 d.k t ht) (tile2 d.q p hp)) (qMul (row d.qs (2 * p + q) (by omega))) (row d.ks j hj) = scoreB d p hp j hj q hq := by
  subst h1
  subst h2
  unfold scoreB
  exact (if_neg h3).symm

/-- A diagonal block of scores, of the data. -/
theorem scoreB_diag (d : Data F) (p : Nat) (hp : p < 8) (j : Nat) (hj : j < 16) (t : Nat) (ht : t < 8) (k : Nat) (hk : k < 2) (q : Nat) (hq : q < 2)
    (h1 : t = j / 2) (h2 : k = j % 2) (h3 : j = 2 * p + q) :
    addf (score k q hk hq (accOf (tile2 d.k t ht) (tile2 d.q p hp)) (qMul (row d.qs (2 * p + q) (by omega))) (row d.ks j hj)) d.b = scoreB d p hp j hj q hq := by
  subst h1
  subst h2
  unfold scoreB
  exact (if_pos h3).symm

/-- The next block of scores before the diagonal. -/
theorem plain_ok (d : Data F) {s : St F} (hd : Holds d s) (p : Nat) (hp : p < 8) (j : Nat) (hj : j < 16) (t : Nat) (ht : t < 8) (k : Nat) (hk : k < 2)
    (q : Nat) (hq : q < 2) (h1 : t = j / 2) (h2 : k = j % 2) (h3 : j ≠ 2 * p + q) (hb : p % 2 < 2) (qm : FVec F S1x128 .f32) (hqm : qm = qMul (row d.qs (2 * p + q) (by omega))) :
    Ok c A (scorePlain A.a12 A.a19 (p % 2) j k q hb hj hk hq (accOf (tile2 d.k t ht) (tile2 d.q p hp)) qm) s
      (fun v s' => v = foldRows maximumf (scoreB d p hp j hj q hq) ∧ s' = put12 s (p % 2) j q hb hj hq (scoreB d p hp j hj q hq)) := by
  rw [hqm, ← scoreB_plain d p hp j hj t ht k hk q hq h1 h2 h3, ← hd.ks]
  exact scorePlain_ok ..

/-- The next block of scores, on the diagonal. -/
theorem diag_ok (d : Data F) {s : St F} (hd : Holds d s) (p : Nat) (hp : p < 8) (j : Nat) (hj : j < 16) (t : Nat) (ht : t < 8) (k : Nat) (hk : k < 2)
    (q : Nat) (hq : q < 2) (h1 : t = j / 2) (h2 : k = j % 2) (h3 : j = 2 * p + q) (hb : p % 2 < 2) (qm : FVec F S1x128 .f32) (hqm : qm = qMul (row d.qs (2 * p + q) (by omega))) :
    Ok c A (scoreDiag A.a12 A.a15 A.a19 (p % 2) j k q hb hj hk hq (accOf (tile2 d.k t ht) (tile2 d.q p hp)) qm) s
      (fun v s' => v = foldRows maximumf (scoreB d p hp j hj q hq) ∧ s' = put12 s (p % 2) j q hb hj hq (scoreB d p hp j hj q hq)) := by
  rw [hqm, ← scoreB_diag d p hp j hj t ht k hk q hq h1 h2 h3, ← hd.ks, ← hd.b]
  exact scoreDiag_ok ..

/-- The state of the scores after `n` blocks of keys for the first block of queries and `n'` for the second. -/
def Scores (d : Data F) (p : Nat) (hp : p < 8) (s : St F) (n n' : Nat) (s' : St F) : Prop :=
  Keeps s s' ∧ Scored d p hp 0 (by decide) n s'.x12 ∧ Scored d p hp 1 (by decide) n' s'.x12

/-- One block of scores more, of the first block of queries. -/
theorem Scores.step0 {d : Data F} {p : Nat} {hp : p < 8} {s : St F} {n n' : Nat} {s' : St F} (h : Scores d p hp s n n' s') (hn : n < 16) (hb : p % 2 < 2) (hq : 0 < 2) :
    Scores d p hp s (n + 1) n' (put12 s' (p % 2) n 0 hb hn hq (scoreB d p hp n hn 0 hq)) :=
  ⟨h.1.trans (keeps12 ..), h.2.1.same hn hb rfl, h.2.2.other _ _ _ _ _ _ (by decide) _⟩

/-- One block of scores more, of the second block of queries. -/
theorem Scores.step1 {d : Data F} {p : Nat} {hp : p < 8} {s : St F} {n n' : Nat} {s' : St F} (h : Scores d p hp s n n' s') (hn : n' < 16) (hb : p % 2 < 2) (hq : 1 < 2) :
    Scores d p hp s n (n' + 1) (put12 s' (p % 2) n' 1 hb hn hq (scoreB d p hp n' hn 1 hq)) :=
  ⟨h.1.trans (keeps12 ..), h.2.1.other _ _ _ _ _ _ (by decide) _, h.2.2.same hn hb rfl⟩

/-- The scores of the tiles before. -/
theorem scoresBefore_ok (d : Data F) {s : St F} (hd : Holds d s) (p : Nat) (hp : p < 8) (qm0 qm1 : FVec F S1x128 .f32)
    (hq0 : qm0 = qMul (row d.qs (2 * p) (by omega))) (hq1 : qm1 = qMul (row d.qs (2 * p + 1) (by omega))) :
    Ok c A (scoresBefore A.a8 A.a12 A.a19 p hp (tile2 d.q p hp) qm0 qm1) s (fun v s' => Scores d p hp s (2 * p) (2 * p) s'
      ∧ v = (maxL d p hp 0 (by decide) (2 * p) (by omega), maxL d p hp 1 (by decide) (2 * p) (by omega))) := by
  unfold scoresBefore
  refine Ok.mono (Φ := fun v s' => ∃ h : 2 * p ≤ 16, Scores d p hp s (2 * p) (2 * p) s' ∧ v = (maxL d p hp 0 (by decide) (2 * p) h, maxL d p hp 1 (by decide) (2 * p) h))
    (Ok.loop (fun n (v : Maxs F) s' => ∃ h : 2 * n ≤ 16, Scores d p hp s (2 * n) (2 * n) s' ∧ v = (maxL d p hp 0 (by decide) (2 * n) h, maxL d p hp 1 (by decide) (2 * n) h)) p _ ?_ ?_) ?_
  · exact ⟨by decide, ⟨Keeps.refl s, fun j _ h => absurd h (Nat.not_lt_zero j), fun j _ h => absurd h (Nat.not_lt_zero j)⟩, rfl⟩
  · rintro n hn v s1 ⟨hn', h1, hv⟩
    refine Ok.bind (Ok.load (cell8 A) (Φ := fun w s' => s' = s1 ∧ w = tile2 d.k n (by omega)) ⟨rfl, ?_⟩) ?_
    · rw [← (hd.keeps h1.1).k]; unfold tile2; rfl
    rintro w s' ⟨hs', hw⟩
    rw [hs', hw]
    refine Ok.bind (plain_ok d (hd.keeps h1.1) p hp (2 * n) (by omega) n (by omega) 0 (by decide) 0 (by decide) (by omega) (by omega) (by omega) _ _ hq0) ?_
    rintro m00 s2 ⟨hm00, hs2⟩
    have h2 := h1.step0 (by omega) (Nat.mod_lt _ (by decide)) (by decide)
    rw [← hs2] at h2
    refine Ok.bind (plain_ok d (hd.keeps h2.1) p hp (2 * n) (by omega) n (by omega) 0 (by decide) 1 (by decide) (by omega) (by omega) (by omega) _ _ hq1) ?_
    rintro m01 s3 ⟨hm01, hs3⟩
    have h3 := h2.step1 (by omega) (Nat.mod_lt _ (by decide)) (by decide)
    rw [← hs3] at h3
    refine Ok.bind (plain_ok d (hd.keeps h3.1) p hp (2 * n + 1) (by omega) n (by omega) 1 (by decide) 0 (by decide) (by omega) (by omega) (by omega) _ _ hq0) ?_
    rintro m10 s4 ⟨hm10, hs4⟩
    have h4 := h3.step0 (by omega) (Nat.mod_lt _ (by decide)) (by decide)
    rw [← hs4] at h4
    refine Ok.bind (plain_ok d (hd.keeps h4.1) p hp (2 * n + 1) (by omega) n (by omega) 1 (by decide) 1 (by decide) (by omega) (by omega) (by omega) _ _ hq1) ?_
    rintro m11 s5 ⟨hm11, hs5⟩
    have h5 := h4.step1 (by omega) (Nat.mod_lt _ (by decide)) (by decide)
    rw [← hs5] at h5
    refine Ok.pure ⟨by omega, h5, ?_⟩
    rw [hv, hm00, hm01, hm10, hm11]
    rfl
  · rintro v s' ⟨_, h1, hv⟩
    exact ⟨h1, hv⟩

/-- The scores of the tile's own keys. -/
theorem scoresHere_ok (d : Data F) {s s1 : St F} (hd : Holds d s) (p : Nat) (hp : p < 8) (qm0 qm1 : FVec F S1x128 .f32)
    (hq0 : qm0 = qMul (row d.qs (2 * p) (by omega))) (hq1 : qm1 = qMul (row d.qs (2 * p + 1) (by omega)))
    (h1 : Scores d p hp s (2 * p) (2 * p) s1) (v : Maxs F) (hv : v = (maxL d p hp 0 (by decide) (2 * p) (by omega), maxL d p hp 1 (by decide) (2 * p) (by omega))) :
    Ok c A (scoresHere A.a8 A.a12 A.a15 A.a19 p hp (tile2 d.q p hp) qm0 qm1 v) s1 (fun v s' => Scores d p hp s (2 * p + 1) (2 * p + 1 + 1) s'
      ∧ v = (maxL d p hp 0 (by decide) (2 * p + 1) (by omega), maxL d p hp 1 (by decide) (2 * p + 1 + 1) (by omega))) := by
  unfold scoresHere
  refine Ok.bind (Ok.load (cell8 A) (Φ := fun w s' => s' = s1 ∧ w = tile2 d.k p (by omega)) ⟨rfl, ?_⟩) ?_
  · rw [← (hd.keeps h1.1).k]; unfold tile2; rfl
  rintro w s' ⟨hs', hw⟩
  rw [hs', hw]
  refine Ok.bind (diag_ok d (hd.keeps h1.1) p hp (2 * p) (by omega) p (by omega) 0 (by decide) 0 (by decide) (by omega) (by omega) (by omega) _ _ hq0) ?_
  rintro m00 s2 ⟨hm00, hs2⟩
  have h2 := h1.step0 (by omega) (Nat.mod_lt _ (by decide)) (by decide)
  rw [← hs2] at h2
  refine Ok.bind (plain_ok d (hd.keeps h2.1) p hp (2 * p) (by omega) p (by omega) 0 (by decide) 1 (by decide) (by omega) (by omega) (by omega) _ _ hq1) ?_
  rintro m01 s3 ⟨hm01, hs3⟩
  have h3 := h2.step1 (by omega) (Nat.mod_lt _ (by decide)) (by decide)
  rw [← hs3] at h3
  refine Ok.bind (diag_ok d (hd.keeps h3.1) p hp (2 * p + 1) (by omega) p (by omega) 1 (by decide) 1 (by decide) (by omega) (by omega) (by omega) _ _ hq1) ?_
  rintro m11 s4 ⟨hm11, hs4⟩
  have h4 := h3.step1 (by omega) (Nat.mod_lt _ (by decide)) (by decide)
  rw [← hs4] at h4
  refine Ok.pure ⟨h4, ?_⟩
  rw [hv, hm00, hm01, hm11]
  rfl

/-- A block of weights is formed and stored. -/
theorem weigh_ok (d : Data F) {s : St F} (hm : A.a13.IsWhole) (p : Nat) (hp : p < 8) (j : Nat) (hj : j < 16) (q : Nat) (hq : q < 2) (hb : p % 2 < 2)
    (sh : FVec F S1x128 .f32) {n : Nat} (hs : Scored d p hp q hq n s.x12) (hn : j < n) :
    Ok c A (weigh A.a12 A.a13 hm (p % 2) j q hb hj hq sh) s (fun v s' => v = foldRows addf (wB d p hp j hj q hq sh)
      ∧ s' = put13 s (p % 2) j q hb hj hq (truncf .fp8e4m3 (clip (wB d p hp j hj q hq sh)) bitsLt_fp8e4m3_f32)) := by
  unfold weigh
  refine Ok.bind (Ok.load (cell12 A) (Φ := fun w s' => s' = s ∧ w = shapeCast S1x128x128 (scoreB d p hp j hj q hq) shapeCasts_S128x128_S1x128x128)
    ⟨rfl, by rw [← hs j hj hn]; unfold rdT; rfl⟩) ?_
  rintro w s' ⟨hs', hw⟩
  rw [hs', hw]
  have e : weight (shapeCast S1x128x128 (scoreB d p hp j hj q hq) shapeCasts_S128x128_S1x128x128) sh = wB d p hp j hj q hq sh := by unfold wB; rfl
  rw [e]
  refine Ok.bind (stP_ok hm _ _ _ _ _ _ _ _) ?_
  rintro _ s' h1
  exact Ok.pure ⟨rfl, h1⟩

end Cert.KernelIdeal.Rolled
-- ==== Proof.Whole.lean ====
module

public import proofs.«01_k».proof.Proof.Tile

/-! # The whole body

The weights and products of a tile, its two blocks of the result, all the tiles, and with the quantising before them
the whole body. -/

set_option maxRecDepth 16384

@[expose] public section

noncomputable section

namespace Cert.KernelIdeal.Rolled

open Idealize.ShloMosaic Idealize.SL.Sem
open Cert.KernelIdeal

variable {F : FTy → Type} [FloatOps F] [Named F] [Facts]
open Facts₀ Facts

variable {c : Dev nD} {A : Args}

attribute [local irreducible] loop Ok scoreB score foldRows accOf qMul weight clip part1 part2 outBlk rowMax shift pScale rdT rdP rdV row tile2 wB codeW prod2 mx

/-- The weights after a block is overwritten. -/
theorem put13_x13 (s : St F) (b j q : Nat) (hb : b < 2) (hj : j < 16) (hq : q < 2) (w : FVec F S128x128 .fp8e4m3) :
    (put13 s b j q hb hj hq w).x13 = (Rect.unit (s := S2x2048x256) ![b, 128 * j, 128 * q] S1x128x128.size (inbT hb hj hq)).overlay s.x13
      (shapeCast S1x128x128 w shapeCasts_S128x128_S1x128x128) := by
  unfold put13
  rfl

/-- A store of weights leaves the scores. -/
theorem put13_x12 (s : St F) (b j q : Nat) (hb : b < 2) (hj : j < 16) (hq : q < 2) (w : FVec F S128x128 .fp8e4m3) :
    (put13 s b j q hb hj hq w).x12 = s.x12 := by
  unfold put13
  rfl

/-- Both blocks of weights' codes just stored, read together. -/
theorem read_both (d : Data F) (s : St F) (p : Nat) (hp : p < 8) (j : Nat) (hj : j < 16) (hb : p % 2 < 2) (sh0 sh1 : FVec F S1x128 .f32) :
    rdP (put13 (put13 s (p % 2) j 0 hb hj (by decide) (truncf .fp8e4m3 (clip (wB d p hp j hj 0 (by decide) sh0)) bitsLt_fp8e4m3_f32)) (p % 2) j 1 hb hj (by decide)
      (truncf .fp8e4m3 (clip (wB d p hp j hj 1 (by decide) sh1)) bitsLt_fp8e4m3_f32)).x13 (p % 2) j hb hj
      = join (codeW d p hp j hj 0 (by decide) sh0) (codeW d p hp j hj 1 (by decide) sh1) := by
  rw [put13_x13, put13_x13]
  unfold codeW
  exact rdP_join _ _ _ _ _ _ _

/-- The block of weights' codes just stored, read. -/
theorem read_one (d : Data F) (s : St F) (p : Nat) (hp : p < 8) (j : Nat) (hj : j < 16) (hb : p % 2 < 2) (sh1 : FVec F S1x128 .f32) :
    rdT (put13 s (p % 2) j 1 hb hj (by decide) (truncf .fp8e4m3 (clip (wB d p hp j hj 1 (by decide) sh1)) bitsLt_fp8e4m3_f32)).x13 (p % 2) j 1 hb hj (by decide)
      = codeW d p hp j hj 1 (by decide) sh1 := by
  rw [put13_x13]
  unfold codeW
  exact rdT_same _ _ _ _ _ _ _ _

/-- The weights and products of the blocks of keys up to the first block of queries. -/
theorem weighBoth_ok (d : Data F) {s s1 : St F} (hm : A.a13.IsWhole) (hd : Holds d s) (p : Nat) (hp : p < 8) (sh0 sh1 : FVec F S1x128 .f32)
    (h1 : Scores d p hp s (2 * p + 1) (2 * p + 1 + 1) s1) :
    Ok c A (weighBoth A.a12 A.a13 hm A.a14 A.a21 p hp sh0 sh1) s1 (fun v s' => Scores d p hp s (2 * p + 1) (2 * p + 1 + 1) s'
      ∧ v = (acc0 d p hp (2 * p + 1) (by omega) sh0 sh1, acc1 d p hp (2 * p + 1) (by omega) sh0 sh1)) := by
  unfold weighBoth
  refine Ok.mono (Φ := fun (v : Acc F × Acc F) s' => ∃ h : 2 * p + 1 ≤ 16, Scores d p hp s (2 * p + 1) (2 * p + 1 + 1) s' ∧ v = (acc0 d p hp (2 * p + 1) h sh0 sh1, acc1 d p hp (2 * p + 1) h sh0 sh1))
    (Ok.loop (fun n (v : Acc F × Acc F) s' => ∃ h : n ≤ 16, Scores d p hp s (2 * p + 1) (2 * p + 1 + 1) s' ∧ v = (acc0 d p hp n h sh0 sh1, acc1 d p hp n h sh0 sh1)) (2 * p + 1) _ ?_ ?_) ?_
  · exact ⟨by decide, h1, rfl⟩
  · rintro n hn v s2 ⟨hn', h2, hv⟩
    refine Ok.bind (weigh_ok d hm p hp n (by omega) 0 (by decide) (Nat.mod_lt _ (by decide)) sh0 h2.2.1 (by omega)) ?_
    rintro m0 s3 ⟨hm0, hs3⟩
    have e3 : s3.x12 = s2.x12 := by rw [hs3, put13_x12]
    have h3 : Scores d p hp s (2 * p + 1) (2 * p + 1 + 1) s3 := ⟨by rw [hs3]; exact h2.1.trans (keeps13 ..), by rw [e3]; exact h2.2.1, by rw [e3]; exact h2.2.2⟩
    refine Ok.bind (weigh_ok d hm p hp n (by omega) 1 (by decide) (Nat.mod_lt _ (by decide)) sh1 h3.2.2 (by omega)) ?_
    rintro m1 s4 ⟨hm1, hs4⟩
    have e4 : s4.x12 = s3.x12 := by rw [hs4, put13_x12]
    have h4 : Scores d p hp s (2 * p + 1) (2 * p + 1 + 1) s4 := ⟨by rw [hs4]; exact h3.1.trans (keeps13 ..), by rw [e4]; exact h3.2.1, by rw [e4]; exact h3.2.2⟩
    have hd4 := hd.keeps h4.1
    refine Ok.bind (Ok.load (cell14 A) (Φ := fun w s' => s' = s4 ∧ w = d.v n) ⟨rfl, ?_⟩) ?_
    · rw [← hd4.v n (by omega)]; unfold rdV; rfl
    rintro w s' ⟨hs', hw⟩
    rw [hs', hw]
    refine Ok.bind (Ok.load (cell13 A) (Φ := fun w s' => s' = s4 ∧ w = join (codeW d p hp n (by omega) 0 (by decide) sh0) (codeW d p hp n (by omega) 1 (by decide) sh1)) ⟨rfl, ?_⟩) ?_
    · rw [← read_both d s2 p hp n (by omega) (Nat.mod_lt _ (by decide)) sh0 sh1, hs4, hs3]; unfold rdP; rfl
    rintro w s' ⟨hs', hw⟩
    rw [hs', hw]
    refine Ok.bind (Ok.load (cell21 A) (Φ := fun w s' => s' = s4 ∧ w = row d.vs n (by omega)) ⟨rfl, ?_⟩) ?_
    · rw [← hd4.vs]; unfold row; rfl
    rintro w s' ⟨hs', hw⟩
    rw [hs', hw]
    refine Ok.pure ⟨by omega, h4, ?_⟩
    have e : part2 (d.v n) (join (codeW d p hp n (by omega) 0 (by decide) sh0) (codeW d p hp n (by omega) 1 (by decide) sh1)) (row d.vs n (by omega)) = prod2 d p hp n (by omega) sh0 sh1 := by
      unfold prod2; rfl
    rw [hv, hm0, hm1, e, acc0_succ d p hp n (by omega), acc1_succ d p hp n (by omega)]
  · rintro v s' ⟨_, h1, hv⟩
    exact ⟨h1, hv⟩

/-- The weights and products of the last block of keys. -/
theorem weighLast_ok (d : Data F) {s s1 : St F} (hm : A.a13.IsWhole) (hd : Holds d s) (p : Nat) (hp : p < 8) (sh0 sh1 : FVec F S1x128 .f32)
    (h1 : Scores d p hp s (2 * p + 1) (2 * p + 1 + 1) s1) :
    Ok c A (weighLast A.a12 A.a13 hm A.a14 A.a21 p hp sh1 (acc1 d p hp (2 * p + 1) (by omega) sh0 sh1)) s1 (fun v s' => Keeps s s' ∧ v = acc1' d p hp sh0 sh1) := by
  unfold weighLast
  refine Ok.bind (weigh_ok d hm p hp (2 * p + 1) (by omega) 1 (by decide) (Nat.mod_lt _ (by decide)) sh1 h1.2.2 (by omega)) ?_
  rintro m1 s4 ⟨hm1, hs4⟩
  have h4 : Keeps s s4 := by rw [hs4]; exact h1.1.trans (keeps13 ..)
  have hd4 := hd.keeps h4
  refine Ok.bind (Ok.load (cell14 A) (Φ := fun w s' => s' = s4 ∧ w = d.v (2 * p + 1)) ⟨rfl, ?_⟩) ?_
  · rw [← hd4.v (2 * p + 1) (by omega)]; unfold rdV; rfl
  rintro w s' ⟨hs', hw⟩
  rw [hs', hw]
  refine Ok.bind (Ok.load (cell13 A) (Φ := fun w s' => s' = s4 ∧ w = codeW d p hp (2 * p + 1) (by omega) 1 (by decide) sh1) ⟨rfl, ?_⟩) ?_
  · rw [← read_one d s1 p hp (2 * p + 1) (by omega) (Nat.mod_lt _ (by decide)) sh1, hs4]; unfold rdT; rfl
  rintro w s' ⟨hs', hw⟩
  rw [hs', hw]
  refine Ok.bind (Ok.load (cell21 A) (Φ := fun w s' => s' = s4 ∧ w = row d.vs (2 * p + 1) (by omega)) ⟨rfl, ?_⟩) ?_
  · rw [← hd4.vs]; unfold row; rfl
  rintro w s' ⟨hs', hw⟩
  rw [hs', hw]
  refine Ok.pure ⟨h4, ?_⟩
  rw [hm1]
  rfl

/-- The result's block overwritten by block `j`. -/
def put5 (Y : Vec F S1x2048x128 .f32) (j : Nat) (h : j < 16) (w : FVec F S128x128 .f32) : Vec F S1x2048x128 .f32 :=
  (Rect.unit (s := S1x2048x128) ![0, 128 * j, 0] S1x128x128.size (inb3 h)).overlay Y (shapeCast S1x128x128 w shapeCasts_S128x128_S1x128x128)

/-- The output after a store of a block, read at an index. -/
theorem put5_apply (Y : Vec F S1x2048x128 .f32) (j : Nat) (h : j < 16) (w : FVec F S128x128 .f32) (r : Fin 2048) (l : Fin 128) :
    put5 Y j h w (ix3 0 r l) = if r.val / 128 = j then w (ix2 ⟨r.val % 128, Nat.mod_lt _ (by decide)⟩ l) else Y (ix3 0 r l) := by
  unfold put5
  rw [overlay_blk Y j h]
  by_cases e : r.val / 128 = j
  · rw [if_pos e, if_pos e]
    pointwise
  · rw [if_neg e, if_neg e]

/-- A block of the result is stored. -/
theorem stY_ok (j : Nat) (h : j < 16) (w : FVec F S128x128 .f32) (s : St F) :
    Ok c A (stY A.a5 j h w) s (fun _ s' => s' = { s with x5 := put5 s.x5 j h w }) := by
  unfold stY
  refine Ok.bind (Ok.load (cell5 A) (Φ := fun _ s' => s' = s) rfl) ?_
  rintro _ s' h1
  rw [h1]
  exact Ok.store (cell5 A) rfl

attribute [local irreducible] scoresBefore scoresHere weighBoth weighLast stY put5 yB0 yB1 acc0 acc1 acc1'

/-- One tile. -/
theorem tile_ok (d : Data F) {s : St F} (hm : A.a13.IsWhole) (hd : Holds d s) (p : Nat) (hp : p < 8) :
    Ok c A (tile A.a5 A.a6 A.a8 A.a12 A.a13 hm A.a14 A.a15 A.a17 A.a19 A.a21 p hp) s (fun _ s' => ∃ T P,
      s' = { s with x5 := put5 (put5 s.x5 (2 * p) (by omega) (yB0 d p hp)) (2 * p + 1) (by omega) (yB1 d p hp), x12 := T, x13 := P }) := by
  unfold tile
  refine Ok.bind (Ok.load (cell6 A) (Φ := fun w s' => s' = s ∧ w = tile2 d.q p hp) ⟨rfl, ?_⟩) ?_
  · rw [← hd.q]; unfold tile2; rfl
  rintro w s' ⟨hs', hw⟩
  rw [hs', hw]
  refine Ok.bind (Ok.load (cell17 A) (Φ := fun w s' => s' = s ∧ w = row d.qs (2 * p) (by omega)) ⟨rfl, ?_⟩) ?_
  · rw [← hd.qs]; unfold row; rfl
  rintro w s' ⟨hs', hw⟩
  rw [hs', hw]
  refine Ok.bind (Ok.load (cell17 A) (Φ := fun w s' => s' = s ∧ w = row d.qs (2 * p + 1) (by omega)) ⟨rfl, ?_⟩) ?_
  · rw [← hd.qs]; unfold row; rfl
  rintro w s' ⟨hs', hw⟩
  rw [hs', hw]
  refine Ok.bind (scoresBefore_ok d hd p hp _ _ rfl rfl) ?_
  rintro mb s1 ⟨h1, hmb⟩
  refine Ok.bind (scoresHere_ok d hd p hp _ _ rfl rfl h1 mb hmb) ?_
  rintro m s2 ⟨h2, hmx⟩
  have e0 : rowMax m.1 = mx d p hp 0 (by decide) := by rw [hmx]; unfold mx; rfl
  have e1 : rowMax m.2 = mx d p hp 1 (by decide) := by rw [hmx]; unfold mx; rfl
  rw [e0, e1]
  refine Ok.bind (weighBoth_ok d hm hd p hp _ _ h2) ?_
  rintro ab s3 ⟨h3, hab⟩
  rw [hab]
  refine Ok.bind (weighLast_ok d hm hd p hp _ _ h3) ?_
  rintro a1 s4 ⟨⟨T, P, h4⟩, ha1⟩
  rw [ha1, h4]
  refine Ok.bind (stY_ok _ _ _ _) ?_
  rintro _ s5 h5
  rw [h5]
  refine (stY_ok _ _ _ _).mono ?_
  rintro _ s6 h6
  refine ⟨T, P, ?_⟩
  rw [h6]
  unfold yB0 yB1
  rfl

/-- All the tiles. -/
theorem attention_ok (d : Data F) {s : St F} (hm : A.a13.IsWhole) (hd : Holds d s) :
    Ok c A (attention A.a5 A.a6 A.a8 A.a12 A.a13 hm A.a14 A.a15 A.a17 A.a19 A.a21) s (fun _ s' => ∃ T P, s' = { s with x5 := yV d, x12 := T, x13 := P }) := by
  unfold attention
  refine Ok.mono (Φ := fun _ s' => ∃ Y T P, s' = { s with x5 := Y, x12 := T, x13 := P } ∧ ∀ (r : Fin 2048) (l : Fin 128), r.val < 256 * 8 → Y (ix3 0 r l) = yV d (ix3 0 r l))
    (Ok.loop (fun n _ s' => ∃ Y T P, s' = { s with x5 := Y, x12 := T, x13 := P } ∧ ∀ (r : Fin 2048) (l : Fin 128), r.val < 256 * n → Y (ix3 0 r l) = yV d (ix3 0 r l)) 8 _ ?_ ?_) ?_
  · exact ⟨s.x5, s.x12, s.x13, rfl, fun r _ h => absurd h (by omega)⟩
  · rintro p hp _ s1 ⟨Y, T, P, h1, hY⟩
    rw [h1]
    refine (tile_ok d (s := { s with x5 := Y, x12 := T, x13 := P }) hm ⟨hd.q, hd.k, hd.v, hd.b, hd.qs, hd.ks, hd.vs⟩ p hp).mono ?_
    rintro _ s2 ⟨T', P', h2⟩
    refine ⟨_, T', P', h2, fun r l hr => ?_⟩
    show put5 (put5 Y (2 * p) _ (yB0 d p hp)) (2 * p + 1) _ (yB1 d p hp) (ix3 0 r l) = _
    rw [put5_apply _ (2 * p + 1), put5_apply _ (2 * p)]
    have e : yV d (ix3 0 r l) = yBlk d (r.val / 128) (Nat.div_lt_of_lt_mul r.isLt) (ix2 ⟨r.val % 128, Nat.mod_lt _ (by decide)⟩ l) := rfl
    rw [e]
    by_cases c1 : r.val / 128 = 2 * p + 1
    · rw [if_pos c1]
      unfold yBlk
      rw [if_neg (by omega)]
      have : r.val / 128 / 2 = p := by omega
      simp only [this]
    · rw [if_neg c1]
      by_cases c0 : r.val / 128 = 2 * p
      · rw [if_pos c0]
        unfold yBlk
        rw [if_pos (by omega)]
        have : r.val / 128 / 2 = p := by omega
        simp only [this]
      · rw [if_neg c0, ← e]
        exact hY r l (by omega)
  · rintro _ s' ⟨Y, T, P, h1, hY⟩
    refine ⟨T, P, ?_⟩
    rw [h1]
    congr 1
    funext y
    obtain ⟨a, r, l, rfl⟩ : ∃ (a : Fin 1) (r : Fin 2048) (l : Fin 128), y = ix3 a r l := ⟨y 0, y 1, y 2, eq_ix3 y⟩
    have ha : a = 0 := Subsingleton.elim _ _
    rw [ha]
    exact hY r l r.isLt

/-- A block of the values' codes before the cast, transposed. -/
def vT (x : Vec F S1x2048x128 .f32) (j : Nat) : FVec F S128x128 .fp8e4m3 :=
  if h : j < 16 then truncf .fp8e4m3 (transpose S128x128 [1, 0] (codeB x j h) transposes_S128x128_p1_0_S128x128) bitsLt_fp8e4m3_f32
  else truncf .fp8e4m3 (constant S128x128 .f32 0x00000000#32) bitsLt_fp8e4m3_f32

/-- A block of the transposed codes is stored. -/
theorem stV_ok (hm : A.a14.IsWhole) (j : Nat) (h : j < 16) (w : FVec F S128x128 .fp8e4m3) (s : St F) :
    Ok c A (stV A.a14 hm j h w) s (fun _ s' => s' = { s with x14 := (Rect.unit (s := S128x2048) ![0, 128 * j] S128x128.size (inbV h)).overlay s.x14 w }) := by
  unfold stV
  refine Ok.bind (Ok.load (cell14 A) (Φ := fun _ s' => s' = s) rfl) ?_
  rintro _ s' h1
  rw [h1]
  refine Ok.store (cell14 A) ?_
  rw [shapeCast_id]
  rfl

/-- The values' codes, transposed. -/
theorem transposed_ok (hm : A.a14.IsWhole) (s : St F) (hinv : s.x20 = invOf (amaxV s.x4)) :
    Ok c A (transposed A.a4 A.a14 hm A.a20) s (fun _ s' => ∃ V, s' = { s with x14 := V } ∧ ∀ j (h : j < 16), rdV V j h = vT s.x4 j) := by
  unfold transposed
  refine Ok.mono (Φ := fun _ s' => ∃ V, s' = { s with x14 := V } ∧ ∀ j (h : j < 16), j < 16 → rdV V j h = vT s.x4 j)
    (Ok.loop (fun n _ s' => ∃ V, s' = { s with x14 := V } ∧ ∀ j (h : j < 16), j < n → rdV V j h = vT s.x4 j) 16 _ ?_ ?_) ?_
  · exact ⟨s.x14, rfl, fun j _ h => absurd h (Nat.not_lt_zero j)⟩
  · rintro n hn _ s1 ⟨V, h1, hV⟩
    rw [h1]
    refine Ok.bind (Ok.load (cell4 A) (Φ := fun w s' => s' = { s with x14 := V } ∧ w = blk s.x4 n hn) ⟨rfl, rfl⟩) ?_
    rintro w s' ⟨hs', hw⟩
    rw [hs', hw]
    refine Ok.bind (Ok.load (cell20 A) (Φ := fun w s' => s' = { s with x14 := V } ∧ w = row (invOf (amaxV s.x4)) n hn) ⟨rfl, by rw [← hinv]; unfold row; rfl⟩) ?_
    rintro w s' ⟨hs', hw⟩
    rw [hs', hw]
    refine (stV_ok hm n hn _ _).mono ?_
    rintro _ s2 h2
    refine ⟨(Rect.unit (s := S128x2048) ![0, 128 * n] S128x128.size (inbV hn)).overlay V (truncf .fp8e4m3 (transpose S128x128 [1, 0] (scaled (blk s.x4 n hn) (row (invOf (amaxV s.x4)) n hn)) transposes_S128x128_p1_0_S128x128) bitsLt_fp8e4m3_f32), h2, fun j hj hjn => ?_⟩
    rw [rdV_overlay V n hn _ j hj]
    by_cases e : j = n
    · subst e
      rw [if_pos rfl]
      unfold vT
      rw [dif_pos hj]
      rfl
    · rw [if_neg e]
      exact hV j hj (by omega)
  · rintro _ s' ⟨V, h1, hV⟩
    exact ⟨V, h1, fun j hj => hV j hj hj⟩

/-- The mask, written. -/
theorem bias_ok (s : St F) : Ok c A (bias A.a15) s (fun _ s' => s' = { s with x15 := biasVal }) := by
  unfold bias
  refine Ok.bind (Ok.load (cell15 A) (Φ := fun _ s' => s' = s) rfl) ?_
  rintro _ s' h1
  rw [h1]
  refine Ok.store (cell15 A) ?_
  rw [overlay_bias, shapeCast_id]
  rfl

/-- What the attention reads, of the three inputs. -/
def dataOf (x k v : Vec F S1x2048x128 .f32) : Data F :=
  ⟨codesV x, codesV k, vT v, biasVal, scOf (amaxV x), scOf (amaxV k), scOf (amaxV v)⟩

/-- A window of scales with the row at `off` overwritten by an input's scales. -/
def scRowAt (off : Fin 3 → Nat) (hoff : ∀ a, off a + S1x1x16.size a ≤ S1x32x16.size a) (Y : Vec F S1x32x16 .f32) (x : Vec F S1x2048x128 .f32) : Vec F S1x32x16 .f32 :=
  (Rect.unit (s := S1x32x16) off S1x1x16.size hoff).overlay Y (scRow (scOf (amaxV x)))

attribute [local irreducible] quantise transposed attention bias codesV amaxV invOf scOf scRow yV vT biasVal Rect.overlay

/-- What stays of the buffers while other cells are written: the three inputs, and of the rest those named. -/
theorem quantiseQ_ok (i : grid0.Coords) (A : Args) (h6 : A.a6.IsWhole) (s : St F) :
    Ok c A (quantise (k0_off1 i) (k0_off1_inb i) A.a2 A.a6 h6 A.a7 A.a16 A.a17) s (fun _ s' =>
      (s'.x2 = s.x2 ∧ s'.x3 = s.x3 ∧ s'.x4 = s.x4 ∧ s'.x9 = s.x9 ∧ s'.x11 = s.x11 ∧ s'.x15 = s.x15)
        ∧ s'.x6 = codesV s.x2 ∧ s'.x7 = scRowAt (k0_off1 i) (k0_off1_inb i) s.x7 s.x2 ∧ s'.x17 = scOf (amaxV s.x2)) := by
  refine (quantise_ok h6 (cell2 A) (cell6 A) (cell7 A) (cell16 A) (cell17 A) (fun _ _ => rfl) (fun _ _ => rfl) (fun _ _ => rfl) (fun _ _ => rfl)
    (fun _ _ => rfl) (fun _ _ => rfl) (fun _ _ => rfl) (fun _ _ => rfl) (fun _ _ => rfl) s).mono ?_
  rintro _ s2 h2
  rw [h2]
  exact ⟨⟨rfl, rfl, rfl, rfl, rfl, rfl⟩, rfl, rfl, rfl⟩

/-- The keys are quantised: their codes and scales are written, the rest stays. -/
theorem quantiseK_ok (i : grid0.Coords) (A : Args) (h8 : A.a8.IsWhole) (s : St F) :
    Ok c A (quantise (k0_off1 i) (k0_off1_inb i) A.a3 A.a8 h8 A.a9 A.a18 A.a19) s (fun _ s' =>
      (s'.x2 = s.x2 ∧ s'.x3 = s.x3 ∧ s'.x4 = s.x4 ∧ s'.x6 = s.x6 ∧ s'.x7 = s.x7 ∧ s'.x17 = s.x17 ∧ s'.x11 = s.x11 ∧ s'.x15 = s.x15)
        ∧ s'.x8 = codesV s.x3 ∧ s'.x9 = scRowAt (k0_off1 i) (k0_off1_inb i) s.x9 s.x3 ∧ s'.x19 = scOf (amaxV s.x3)) := by
  refine (quantise_ok h8 (cell3 A) (cell8 A) (cell9 A) (cell18 A) (cell19 A) (fun _ _ => rfl) (fun _ _ => rfl) (fun _ _ => rfl) (fun _ _ => rfl)
    (fun _ _ => rfl) (fun _ _ => rfl) (fun _ _ => rfl) (fun _ _ => rfl) (fun _ _ => rfl) s).mono ?_
  rintro _ s2 h2
  rw [h2]
  exact ⟨⟨rfl, rfl, rfl, rfl, rfl, rfl, rfl, rfl⟩, rfl, rfl, rfl⟩

/-- The values are quantised: their codes, scales and inverse scales are written, the rest stays. -/
theorem quantiseV_ok (i : grid0.Coords) (A : Args) (h10 : A.a10.IsWhole) (s : St F) :
    Ok c A (quantise (k0_off1 i) (k0_off1_inb i) A.a4 A.a10 h10 A.a11 A.a20 A.a21) s (fun _ s' =>
      (s'.x2 = s.x2 ∧ s'.x3 = s.x3 ∧ s'.x4 = s.x4 ∧ s'.x6 = s.x6 ∧ s'.x7 = s.x7 ∧ s'.x17 = s.x17 ∧ s'.x8 = s.x8 ∧ s'.x9 = s.x9 ∧ s'.x19 = s.x19 ∧ s'.x15 = s.x15)
        ∧ s'.x10 = codesV s.x4 ∧ s'.x11 = scRowAt (k0_off1 i) (k0_off1_inb i) s.x11 s.x4 ∧ s'.x21 = scOf (amaxV s.x4) ∧ s'.x20 = invOf (amaxV s.x4)) := by
  refine (quantise_ok h10 (cell4 A) (cell10 A) (cell11 A) (cell20 A) (cell21 A) (fun _ _ => rfl) (fun _ _ => rfl) (fun _ _ => rfl) (fun _ _ => rfl)
    (fun _ _ => rfl) (fun _ _ => rfl) (fun _ _ => rfl) (fun _ _ => rfl) (fun _ _ => rfl) s).mono ?_
  rintro _ s2 h2
  rw [h2]
  exact ⟨⟨rfl, rfl, rfl, rfl, rfl, rfl, rfl, rfl, rfl, rfl⟩, rfl, rfl, rfl, rfl⟩

/-- The whole body: the inputs stay, the result is the attention, the codes and the scales are the inputs'. -/
theorem body_ok (i : grid0.Coords) (A : Args) (h6 : A.a6.IsWhole) (h8 : A.a8.IsWhole) (h10 : A.a10.IsWhole) (h13 : A.a13.IsWhole) (h14 : A.a14.IsWhole) (s : St F) :
    Ok c A (body i A.a2 A.a3 A.a4 A.a5 A.a6 h6 A.a7 A.a8 h8 A.a9 A.a10 h10 A.a11 A.a12 A.a13 h13 A.a14 h14 A.a15 A.a16 A.a17 A.a18 A.a19 A.a20 A.a21) s
      (fun _ s' => s'.x2 = s.x2 ∧ s'.x3 = s.x3 ∧ s'.x4 = s.x4 ∧ s'.x5 = yV (dataOf s.x2 s.x3 s.x4)
        ∧ s'.x6 = codesV s.x2 ∧ s'.x7 = scRowAt (k0_off1 i) (k0_off1_inb i) s.x7 s.x2
        ∧ s'.x8 = codesV s.x3 ∧ s'.x9 = scRowAt (k0_off1 i) (k0_off1_inb i) s.x9 s.x3
        ∧ s'.x10 = codesV s.x4 ∧ s'.x11 = scRowAt (k0_off1 i) (k0_off1_inb i) s.x11 s.x4) := by
  unfold body
  refine Ok.bind (bias_ok s) ?_
  rintro _ s1 h1
  rw [h1]
  refine Ok.bind (quantiseQ_ok i A h6 _) ?_
  rintro _ s2 ⟨⟨a1, a2, a3, a4, a5, a6⟩, a7, a8, a9⟩
  refine Ok.bind (quantiseK_ok i A h8 _) ?_
  rintro _ s3 ⟨⟨b1, b2, b3, b4, b5, b6, b7, b8⟩, b9, b10, b11⟩
  refine Ok.bind (quantiseV_ok i A h10 _) ?_
  rintro _ s4 ⟨⟨c1, c2, c3, c4, c5, c6, c7, c8, c9, c10⟩, c11, c12, c13, c14⟩
  have e2 : s4.x2 = s.x2 := c1.trans (b1.trans a1)
  have e3 : s4.x3 = s.x3 := c2.trans (b2.trans a2)
  have e4 : s4.x4 = s.x4 := c3.trans (b3.trans a3)
  have e6 : s4.x6 = codesV s.x2 := c4.trans (b4.trans a7)
  have e7 : s4.x7 = scRowAt (k0_off1 i) (k0_off1_inb i) s.x7 s.x2 := c5.trans (b5.trans a8)
  have e8 : s4.x8 = codesV s.x3 := c7.trans (b9.trans (congrArg codesV a2))
  have e9 : s4.x9 = scRowAt (k0_off1 i) (k0_off1_inb i) s.x9 s.x3 := c8.trans (b10.trans (congrArg₂ (scRowAt (k0_off1 i) (k0_off1_inb i)) a4 a2))
  have e10 : s4.x10 = codesV s.x4 := c11.trans (congrArg codesV (b3.trans a3))
  have e11 : s4.x11 = scRowAt (k0_off1 i) (k0_off1_inb i) s.x11 s.x4 := c12.trans (congrArg₂ (scRowAt (k0_off1 i) (k0_off1_inb i)) (b7.trans a5) (b3.trans a3))
  have e15 : s4.x15 = biasVal := c10.trans (b8.trans a6)
  have e17 : s4.x17 = scOf (amaxV s.x2) := c6.trans (b6.trans a9)
  have e19 : s4.x19 = scOf (amaxV s.x3) := c9.trans (b11.trans (congrArg (fun x => scOf (amaxV x)) a2))
  have e21 : s4.x21 = scOf (amaxV s.x4) := c13.trans (congrArg (fun x => scOf (amaxV x)) (b3.trans a3))
  have e20 : s4.x20 = invOf (amaxV s4.x4) := c14.trans (congrArg (fun x => invOf (amaxV x)) c3.symm)
  refine Ok.bind (transposed_ok h14 s4 e20) ?_
  rintro _ s5 ⟨V, h5, hV⟩
  rw [h5]
  have hd : Holds (dataOf s.x2 s.x3 s.x4) { s4 with x14 := V } :=
    ⟨e6, e8, fun j hj => (hV j hj).trans (congrArg (fun x => vT x j) e4), e15, e17, e19, e21⟩
  refine (attention_ok _ h13 hd).mono ?_
  rintro _ s6 ⟨T, P, h6⟩
  rw [h6]
  exact ⟨e2, e3, e4, rfl, e6, e7, e8, e9, e10, e11⟩

end Cert.KernelIdeal.Rolled
-- ==== Proof.Run.lean ====
module

public import proofs.«01_k».proof.Proof.Whole
public import proofs.«01_k».proof.Proof.Gen.KernelIdeal.Frame
public import Idealize.ShloMosaic.Lib.Pipeline.ArrRel
public import Idealize.ShloMosaic.Lib.Pipeline.ValueKit

/-! # The run

The body at every point of the grid, and the launch: what the arrays hold afterwards. -/

set_option maxRecDepth 16384

@[expose] public section

noncomputable section

namespace Cert.KernelIdeal.Rolled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)
open Cert.KernelIdeal Cert.KernelIdeal.Gen

variable {F : FTy → Type} [FloatOps F] [Named F]

local notation "𝕄" => MT nD τ sig Unit (Elt F) ℕ (UR sig nD τ) ℕ

attribute [local irreducible] Ok body codesV amaxV invOf scOf scRow yV vT biasVal Rect.overlay scRowAt dataOf

variable (m : (ℓ : Loc nD τ sig) → Buf (Elt F) ℓ) (ρ : Dev nD → PrngReg)

/-- The blocks of the queries, the keys and the values at a point. -/
abbrev xB (c : Dev nD) (t : Fin cfg0.N) : Vec F S1x2048x128 .f32 := iblk m c 0 t
/-- The second input's block at a point. -/
abbrev kB (c : Dev nD) (t : Fin cfg0.N) : Vec F S1x2048x128 .f32 := iblk m c 1 t
/-- The third input's block at a point. -/
abbrev vB (c : Dev nD) (t : Fin cfg0.N) : Vec F S1x2048x128 .f32 := iblk m c 2 t

/-- A window of scales after the body has run at a point. -/
abbrev scAt (t : Fin cfg0.N) (Y : Vec F S1x32x16 .f32) (x : Vec F S1x2048x128 .f32) : Vec F S1x32x16 .f32 :=
  scRowAt (k0_off1 (grid0.coords t)) (k0_off1_inb (grid0.coords t)) Y x

/-- The proof data: the inputs stay, the result and the codes are functions of the inputs' blocks, and of a window of
    scales one row is written. -/
def dat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun _ X => X = yV (dataOf (xB m c t) (kB m c t) (vB m c t))
    | ⟨4, _⟩ => fun _ X => X = codesV (xB m c t)
    | ⟨5, _⟩ => fun Y X => X = scAt t Y (xB m c t)
    | ⟨6, _⟩ => fun _ X => X = codesV (kB m c t)
    | ⟨7, _⟩ => fun Y X => X = scAt t Y (kB m c t)
    | ⟨8, _⟩ => fun _ X => X = codesV (vB m c t)
    | ⟨9, _⟩ => fun Y X => X = scAt t Y (vB m c t)
  Φ _ := Pipeline.ΦA spec0 c
  q _ := fullShare
  owed _ := 0

/-- The arrays are as the launch has them. -/
theorem dat_A (c : Dev nD) (w : Fin cfg0.W) : (dat m c).A w = V m c (Pipeline.arrRef spec0 w) := by dsimp only [dat]

/-- The blocks the body finds are the inputs'. -/
theorem finds0 (c : Dev nD) (t : Fin cfg0.N) (X) (h : (dat m c).Finds 0 t X) : X = xB m c t := by
  obtain ⟨d, rfl⟩ := ((dat m c).finds_of_fetch (fetch0_0 t) X).mp h
  unfold RDat.fetched RDat.blockOf xB iblk; rw [dat_A]; rfl
/-- The body finds the second input's block. -/
theorem finds1 (c : Dev nD) (t : Fin cfg0.N) (X) (h : (dat m c).Finds 1 t X) : X = kB m c t := by
  obtain ⟨d, rfl⟩ := ((dat m c).finds_of_fetch (fetch0_1 t) X).mp h
  unfold RDat.fetched RDat.blockOf kB iblk; rw [dat_A]; rfl
/-- The body finds the third input's block. -/
theorem finds2 (c : Dev nD) (t : Fin cfg0.N) (X) (h : (dat m c).Finds 2 t X) : X = vB m c t := by
  obtain ⟨d, rfl⟩ := ((dat m c).finds_of_fetch (fetch0_2 t) X).mp h
  unfold RDat.fetched RDat.blockOf vB iblk; rw [dat_A]; rfl

/-- The buffers the body is handed at a point. -/
def argsAt (t : Fin cfg0.N) : Args where
  a2 := win0_0.stage (cfg0.slots t 0)
  a3 := win0_1.stage (cfg0.slots t 1)
  a4 := win0_2.stage (cfg0.slots t 2)
  a5 := win0_3.stage (cfg0.slots t 3)
  a6 := win0_4.stage (cfg0.slots t 4)
  a7 := win0_5.stage (cfg0.slots t 5)
  a8 := win0_6.stage (cfg0.slots t 6)
  a9 := win0_7.stage (cfg0.slots t 7)
  a10 := win0_8.stage (cfg0.slots t 8)
  a11 := win0_9.stage (cfg0.slots t 9)
  a12 := Memref.whole cc0_scratch0
  a13 := Memref.whole cc0_scratch1
  a14 := Memref.whole cc0_scratch2
  a15 := Memref.whole cc0_scratch3
  a16 := Memref.whole cc0_scratch4
  a17 := Memref.whole cc0_scratch5
  a18 := Memref.whole cc0_scratch6
  a19 := Memref.whole cc0_scratch7
  a20 := Memref.whole cc0_scratch8
  a21 := Memref.whole cc0_scratch9

/-- The printed body at a point, rolled. -/
theorem bodyAt_eq (t : Fin cfg0.N) : bodyAt0 (F := F) t = body (grid0.coords t) (argsAt t).a2 (argsAt t).a3 (argsAt t).a4 (argsAt t).a5
    (argsAt t).a6 (hstage0_4 ((cfg0.slots t 4).cast nbuf0_4)) (argsAt t).a7 (argsAt t).a8 (hstage0_6 ((cfg0.slots t 6).cast nbuf0_6)) (argsAt t).a9
    (argsAt t).a10 (hstage0_8 ((cfg0.slots t 8).cast nbuf0_8)) (argsAt t).a11 (argsAt t).a12 (argsAt t).a13 (Memref.isWhole_whole _)
    (argsAt t).a14 (Memref.isWhole_whole _) (argsAt t).a15 (argsAt t).a16 (argsAt t).a17 (argsAt t).a18 (argsAt t).a19 (argsAt t).a20 (argsAt t).a21 := by
  unfold bodyAt0
  exact printed_eq_body (F := F) _ _ _ _ _ _ _ _ _ _ _ _ _ _ _ _ _ _ _ _ _ _ _ _ _ _ _ _ _ _ _ _ _ _ _ _ _ _ _ _ _

/-- The body's row of the table at a point. -/
theorem defs_row (t : Fin cfg0.N) : defs₀ (F := F) .tc cfg0.body (cfg0.bodyArgs t (cfg0.slots t)) = bodyAt0 t := by
  unfold defs₀; rw [Defs.onTc_tc]

/-- The scratch, and the register, as the region keeps them. -/
theorem phi_eq (c : Dev nD) : (Pipeline.ΦA spec0 c : sProp 𝕄) = iprop(iprop((∃ d, owns (c : Thread nD τ) (Memref.whole cc0_scratch0) fullShare d)
    ∗ (∃ d, owns (c : Thread nD τ) (Memref.whole cc0_scratch1) fullShare d) ∗ (∃ d, owns (c : Thread nD τ) (Memref.whole cc0_scratch2) fullShare d)
    ∗ (∃ d, owns (c : Thread nD τ) (Memref.whole cc0_scratch3) fullShare d) ∗ (∃ d, owns (c : Thread nD τ) (Memref.whole cc0_scratch4) fullShare d)
    ∗ (∃ d, owns (c : Thread nD τ) (Memref.whole cc0_scratch5) fullShare d) ∗ (∃ d, owns (c : Thread nD τ) (Memref.whole cc0_scratch6) fullShare d)
    ∗ (∃ d, owns (c : Thread nD τ) (Memref.whole cc0_scratch7) fullShare d) ∗ (∃ d, owns (c : Thread nD τ) (Memref.whole cc0_scratch8) fullShare d)
    ∗ (∃ d, owns (c : Thread nD τ) (Memref.whole cc0_scratch9) fullShare d)) ∗ (∃ r, prngReg c r)) := by
  unfold Pipeline.ΦA
  rw [scopedRest0_eq]; simp only [owns_whole]; try rfl

/-- The body at a point: handed any contents it may find, it leaves what the proof data say. -/
theorem at_point (c : Dev nD) (t : Fin cfg0.N) (Y : (w : Fin cfg0.W) → (cfg0.win w).block.Idx → Elt F (cfg0.win w).elt)
    (h0 : Y 0 = xB m c t) (h1 : Y 1 = kB m c t) (h2 : Y 2 = vB m c t) (O : sProp 𝕄) :
    iprop(Pipeline.ΦA spec0 c ∗ O ∗ owns (c : Thread nD τ) (argsAt t).a2 fullShare (Y 0) ∗ owns (c : Thread nD τ) (argsAt t).a3 fullShare (Y 1)
      ∗ owns (c : Thread nD τ) (argsAt t).a4 fullShare (Y 2) ∗ owns (c : Thread nD τ) (argsAt t).a5 fullShare (Y 3)
      ∗ owns (c : Thread nD τ) (argsAt t).a6 fullShare (Y 4) ∗ owns (c : Thread nD τ) (argsAt t).a7 fullShare (Y 5)
      ∗ owns (c : Thread nD τ) (argsAt t).a8 fullShare (Y 6) ∗ owns (c : Thread nD τ) (argsAt t).a9 fullShare (Y 7)
      ∗ owns (c : Thread nD τ) (argsAt t).a10 fullShare (Y 8) ∗ owns (c : Thread nD τ) (argsAt t).a11 fullShare (Y 9))
    ⊢ wp frame (wpE (defs₀ (F := F)) Variants.none c none) Set.univ (bodyAt0 t) (fun _ =>
      iprop(Pipeline.ΦA spec0 c ∗ O ∗ (∃ X, ⌜(dat m c).after 0 t (Y 0) X⌝ ∗ owns (c : Thread nD τ) (argsAt t).a2 fullShare X)
        ∗ (∃ X, ⌜(dat m c).after 1 t (Y 1) X⌝ ∗ owns (c : Thread nD τ) (argsAt t).a3 fullShare X)
        ∗ (∃ X, ⌜(dat m c).after 2 t (Y 2) X⌝ ∗ owns (c : Thread nD τ) (argsAt t).a4 fullShare X)
        ∗ (∃ X, ⌜(dat m c).after 3 t (Y 3) X⌝ ∗ owns (c : Thread nD τ) (argsAt t).a5 fullShare X)
        ∗ (∃ X, ⌜(dat m c).after 4 t (Y 4) X⌝ ∗ owns (c : Thread nD τ) (argsAt t).a6 fullShare X)
        ∗ (∃ X, ⌜(dat m c).after 5 t (Y 5) X⌝ ∗ owns (c : Thread nD τ) (argsAt t).a7 fullShare X)
        ∗ (∃ X, ⌜(dat m c).after 6 t (Y 6) X⌝ ∗ owns (c : Thread nD τ) (argsAt t).a8 fullShare X)
        ∗ (∃ X, ⌜(dat m c).after 7 t (Y 7) X⌝ ∗ owns (c : Thread nD τ) (argsAt t).a9 fullShare X)
        ∗ (∃ X, ⌜(dat m c).after 8 t (Y 8) X⌝ ∗ owns (c : Thread nD τ) (argsAt t).a10 fullShare X)
        ∗ (∃ X, ⌜(dat m c).after 9 t (Y 9) X⌝ ∗ owns (c : Thread nD τ) (argsAt t).a11 fullShare X))) := by
  rw [bodyAt_eq, phi_eq]
  iintro ⟨⟨⟨⟨%d12, S12⟩, ⟨%d13, S13⟩, ⟨%d14, S14⟩, ⟨%d15, S15⟩, ⟨%d16, S16⟩, ⟨%d17, S17⟩, ⟨%d18, S18⟩, ⟨%d19, S19⟩, ⟨%d20, S20⟩, ⟨%d21, S21⟩⟩, Hg⟩, HO,
    H2, H3, H4, H5, H6, H7, H8, H9, H10, H11⟩
  have hok := body_ok (F := F) (c := c) (grid0.coords t) (argsAt t) (hstage0_4 ((cfg0.slots t 4).cast nbuf0_4)) (hstage0_6 ((cfg0.slots t 6).cast nbuf0_6))
    (hstage0_8 ((cfg0.slots t 8).cast nbuf0_8)) (Memref.isWhole_whole _) (Memref.isWhole_whole _)
    ⟨Y 0, Y 1, Y 2, Y 3, Y 4, Y 5, Y 6, Y 7, Y 8, Y 9, d12, d13, d14, d15, d16, d17, d18, d19, d20, d21⟩
  unfold Ok at hok
  iapply (hok Set.univ _)
  isplitl [S12 S13 S14 S15 S16 S17 S18 S19 S20 S21 H2 H3 H4 H5 H6 H7 H8 H9 H10 H11]
  · unfold Own
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    iexact S21
  iintro %_ %s' %hs Hs
  obtain ⟨e2, e3, e4, e5, e6, e7, e8, e9, e10, e11⟩ := hs
  unfold Own
  icases Hs with ⟨H2, H3, H4, H5, H6, H7, H8, H9, H10, H11, S12, S13, S14, S15, S16, S17, S18, S19, S20, S21⟩
  isplitl [S12 S13 S14 S15 S16 S17 S18 S19 S20 S21 Hg]
  · isplitl [S12 S13 S14 S15 S16 S17 S18 S19 S20 S21]
    · isplitl [S12]; · iexists _; iexact S12
      isplitl [S13]; · iexists _; iexact S13
      isplitl [S14]; · iexists _; iexact S14
      isplitl [S15]; · iexists _; iexact S15
      isplitl [S16]; · iexists _; iexact S16
      isplitl [S17]; · iexists _; iexact S17
      isplitl [S18]; · iexists _; iexact S18
      isplitl [S19]; · iexists _; iexact S19
      isplitl [S20]; · iexists _; iexact S20
      iexists _; iexact S21
    iexact Hg
  isplitl [HO]; · iexact HO
  isplitl [H2]; · iexists s'.x2; isplitr; swap; · iexact H2
                  ipureintro; exact e2
  isplitl [H3]; · iexists s'.x3; isplitr; swap; · iexact H3
                  ipureintro; exact e3
  isplitl [H4]; · iexists s'.x4; isplitr; swap; · iexact H4
                  ipureintro; exact e4
  isplitl [H5]; · iexists s'.x5; isplitr; swap; · iexact H5
                  ipureintro; exact e5.trans (congrArg yV (by show dataOf (Y 0) (Y 1) (Y 2) = _; rw [h0, h1, h2]))
  isplitl [H6]; · iexists s'.x6; isplitr; swap; · iexact H6
                  ipureintro; exact e6.trans (congrArg codesV h0)
  isplitl [H7]; · iexists s'.x7; isplitr; swap; · iexact H7
                  ipureintro; exact e7.trans (congrArg (scAt t (Y 5)) h0)
  isplitl [H8]; · iexists s'.x8; isplitr; swap; · iexact H8
                  ipureintro; exact e8.trans (congrArg codesV h1)
  isplitl [H9]; · iexists s'.x9; isplitr; swap; · iexact H9
                  ipureintro; exact e9.trans (congrArg (scAt t (Y 7)) h1)
  isplitl [H10]; · iexists s'.x10; isplitr; swap; · iexact H10
                   ipureintro; exact e10.trans (congrArg codesV h2)
  iexists s'.x11; isplitr; swap; · iexact H11
  ipureintro; exact e11.trans (congrArg (scAt t (Y 9)) h2)

/-- The body obligation of the launch. -/
theorem body_obligation (c : Dev nD) : (dat (F := F) m c).BodyObligation (defs₀ (F := F)) Variants.none () Set.univ := fun t Y hY => by
  rw [bigSep_W0, bigSep_W0, defs_row]
  exact triple_restated (at_point m c t Y (finds0 m c t _ (hY 0)) (finds1 m c t _ (hY 1)) (finds2 m c t _ (hY 2)) ((dat m c).owesAt () t.castSucc)) rfl .rfl fun _ => .rfl

set_option backward.isDefEq.respectTransparency.types false in
/-- The launch: every execution ends, the arrays then hold what the proof data say, every counter is at zero. -/
theorem run_main : θ_run defs (onTc (τ := τ) (main (F := F))) (s₀ m ρ)
    (fun r => RDat.FramePost (cfgs 0) (dat m) (V m) r ∧ r.2.sem = fun _ => 0) :=
  RDat.θ_run_frame (Q' := _) cfgs (0 : Fin 1) launch0 defs₀ Variants.none (dat m) m ρ main
    (hbody := body_obligation m) (hshare := fun c w => (dat m c).share_full (fun _ => rfl) w)
    (howed := fun _ _ => rfl) (V := V m) (hmain := hmain m Variants.none) (hA := dat_A m) (hΦ := fun _ _ => rfl)

end Cert.KernelIdeal.Rolled
-- ==== Proof.Arrays.lean ====
module

public import proofs.«01_k».proof.Proof.Run

/-! # The arrays after the run

The result, the codes and the scales as functions of the arguments, one head of one batch at a time. -/

set_option maxRecDepth 16384

@[expose] public section

noncomputable section

namespace Cert.KernelIdeal.Rolled

open Idealize.ShloMosaic Idealize.ShloMosaic.TcCoe
open Idealize.SL Idealize.SL.Sem
open Idealize.ShloMosaic.Pipeline (RDat Dat)
open Cert.KernelIdeal Cert.KernelIdeal.Gen

variable {F : FTy → Type} [FloatOps F] [Named F]

attribute [local irreducible] Ok body codesV amaxV invOf scOf scRow yV vT biasVal Rect.overlay dataOf

/-- The columns of one head in one batch of an argument. -/
def headBlock {α : Type} (X : S4x2048x4096.Idx → α) (b : Fin 4) (h : Fin 32) : S1x2048x128.Idx → α :=
  fun y => X (ix3 b (y 1) ⟨128 * h.val + (y 2).val, by have h2 : (y 2).val < 128 := (y 2).isLt; omega⟩)

/-- The batch and the head of a point of the grid. -/
def tb (t : Fin cfg0.N) : Fin 4 := ⟨t.val / 32, by have h : t.val < 128 := t.isLt; omega⟩
/-- The head of a point of the grid. -/
def th (t : Fin cfg0.N) : Fin 32 := ⟨t.val % 32, by omega⟩

/-- The block of this window at a point: the batch, all rows, the head. -/
theorem index_0 : ∀ t : Fin cfg0.N, win0_0.index t = ![t.val / 32, 0, t.val % 32] := (by decide +kernel : ∀ t : Fin grid0.N, _)
/-- The block of this window at a point: the batch, all rows, the head. -/
theorem index_1 : ∀ t : Fin cfg0.N, win0_1.index t = ![t.val / 32, 0, t.val % 32] := (by decide +kernel : ∀ t : Fin grid0.N, _)
/-- The block of this window at a point: the batch, all rows, the head. -/
theorem index_2 : ∀ t : Fin cfg0.N, win0_2.index t = ![t.val / 32, 0, t.val % 32] := (by decide +kernel : ∀ t : Fin grid0.N, _)
/-- The block of this window at a point: the batch, all rows, the head. -/
theorem index_3 : ∀ t : Fin cfg0.N, win0_3.index t = ![t.val / 32, 0, t.val % 32] := (by decide +kernel : ∀ t : Fin grid0.N, _)
/-- The block of this window at a point: the batch, all rows, the head. -/
theorem index_4 : ∀ t : Fin cfg0.N, win0_4.index t = ![t.val / 32, 0, t.val % 32] := (by decide +kernel : ∀ t : Fin grid0.N, _)
/-- The block of this window at a point: the batch, all rows, the head. -/
theorem index_6 : ∀ t : Fin cfg0.N, win0_6.index t = ![t.val / 32, 0, t.val % 32] := (by decide +kernel : ∀ t : Fin grid0.N, _)
/-- The block of this window at a point: the batch, all rows, the head. -/
theorem index_8 : ∀ t : Fin cfg0.N, win0_8.index t = ![t.val / 32, 0, t.val % 32] := (by decide +kernel : ∀ t : Fin grid0.N, _)
/-- The block of this window of scales at a point: the batch, all heads. -/
theorem index_5 : ∀ t : Fin cfg0.N, win0_5.index t = ![t.val / 32, 0, 0] := (by decide +kernel : ∀ t : Fin grid0.N, _)
/-- The block of this window of scales at a point: the batch, all heads. -/
theorem index_7 : ∀ t : Fin cfg0.N, win0_7.index t = ![t.val / 32, 0, 0] := (by decide +kernel : ∀ t : Fin grid0.N, _)
/-- The block of this window of scales at a point: the batch, all heads. -/
theorem index_9 : ∀ t : Fin cfg0.N, win0_9.index t = ![t.val / 32, 0, 0] := (by decide +kernel : ∀ t : Fin grid0.N, _)
/-- This window of scales is not fetched. -/
theorem fetch_5 : ∀ t : Fin cfg0.N, (cfg0.win 5).fetch t = false := (by decide +kernel : ∀ t : Fin grid0.N, win0_5.fetch t = false)
/-- This window of scales is not fetched. -/
theorem fetch_7 : ∀ t : Fin cfg0.N, (cfg0.win 7).fetch t = false := (by decide +kernel : ∀ t : Fin grid0.N, win0_7.fetch t = false)
/-- This window of scales is not fetched. -/
theorem fetch_9 : ∀ t : Fin cfg0.N, (cfg0.win 9).fetch t = false := (by decide +kernel : ∀ t : Fin grid0.N, win0_9.fetch t = false)
/-- The row of scales written at a point is that of its head. -/
theorem off1_eq : ∀ t : Fin cfg0.N, k0_off1 (grid0.coords t) = ![0, t.val % 32, 0] := (by decide +kernel : ∀ t : Fin grid0.N, _)

variable (m : (ℓ : Loc nD τ sig) → Buf (Elt F) ℓ) (ρ : Dev nD → PrngReg)

/-- The first input's block at a point is the columns of its head. -/
theorem xB_eq (c : Dev nD) (t : Fin cfg0.N) : xB m c t = headBlock (m ((c : Thread nD τ).loc main_arg0)) (tb t) (th t) := by
  funext y
  unfold xB headBlock tb th
  blk_simp [iblk, index_0]
  congr 1
  blk_ext [index_0]

/-- The second input's block at a point is the columns of its head. -/
theorem kB_eq (c : Dev nD) (t : Fin cfg0.N) : kB m c t = headBlock (m ((c : Thread nD τ).loc main_arg1)) (tb t) (th t) := by
  funext y
  unfold kB headBlock tb th
  blk_simp [iblk, index_1]
  congr 1
  blk_ext [index_1]

/-- The third input's block at a point is the columns of its head. -/
theorem vB_eq (c : Dev nD) (t : Fin cfg0.N) : vB m c t = headBlock (m ((c : Thread nD τ).loc main_arg2)) (tb t) (th t) := by
  funext y
  unfold vB headBlock tb th
  blk_simp [iblk, index_2]
  congr 1
  blk_ext [index_2]

/-- A row written among the scales. -/
theorem scAt_row (t : Fin cfg0.N) (Y : Vec F S1x32x16 .f32) (x : Vec F S1x2048x128 .f32) (h : Fin 32) (n : Fin 16) :
    scAt t Y x (ix3 0 h n) = if h.val = t.val % 32 then scRow (scOf (amaxV x)) (ix3 0 0 n) else Y (ix3 0 h n) := by
  unfold scAt scRowAt
  have e0 : k0_off1 (grid0.coords t) 0 = 0 := congrFun (off1_eq t) 0
  have e1 : k0_off1 (grid0.coords t) 1 = t.val % 32 := congrFun (off1_eq t) 1
  have e2 : k0_off1 (grid0.coords t) 2 = 0 := congrFun (off1_eq t) 2
  refine overlay_eq _ _ _ _ _ (fun z hz => ?_) (fun hn => ?_)
  · have h1 := (emb_unit (k0_off1_inb (grid0.coords t)) z 1).symm.trans (congrArg (fun y : S1x32x16.Idx => (y 1).val) hz)
    have h2 := (emb_unit (k0_off1_inb (grid0.coords t)) z 2).symm.trans (congrArg (fun y : S1x32x16.Idx => (y 2).val) hz)
    have z0 : (z 0).val < 1 := (z 0).isLt
    have z1 : (z 1).val < 1 := (z 1).isLt
    have h1' : t.val % 32 + (z 1).val = h.val := by rw [← e1]; exact h1
    have h2' : (z 2).val = n.val := by have := h2; rw [e2, Nat.zero_add] at this; exact this
    rw [if_pos (by omega)]
    congr 1
    refine (eq_ix3 _).trans ?_
    congr 1
    · exact Fin.ext (by show (z 0).val = 0; omega)
    · exact Fin.ext (by show (z 1).val = 0; omega)
    · exact Fin.ext h2'
  · rw [if_neg]
    intro he
    refine hn ?_
    have := emb_mem (Rect.unit (s := S1x32x16) (k0_off1 (grid0.coords t)) S1x1x16.size (k0_off1_inb (grid0.coords t))) (ix3 (0 : Fin 1) (0 : Fin 1) n)
    convert this using 1
    funext a
    refine Fin.ext ?_
    rw [emb_unit]
    revert a
    rw [Fin.forall_fin_succ, Fin.forall_fin_succ, Fin.forall_fin_succ]
    exact ⟨(by rw [e0]; rfl), (by show h.val = k0_off1 (grid0.coords t) 1 + 0; rw [e1, he]; rfl), (by show n.val = k0_off1 (grid0.coords t) 2 + n.val; rw [e2, Nat.zero_add]), fun a => a.elim0⟩

/-- The rows of a window of scales, one more at each head of a batch. -/
theorem rows_of (L Fi : Fin cfg0.N → Vec F S1x32x16 .f32 → Prop) (B : Fin cfg0.N → Vec F S1x2048x128 .f32)
    (hL : ∀ t X, L t X → ∃ Y, Fi t Y ∧ X = scAt t Y (B t))
    (hF : ∀ (t : Fin cfg0.N) Y, t.val % 32 ≠ 0 → Fi t Y → L ⟨t.val - 1, Nat.lt_of_le_of_lt (Nat.sub_le _ _) t.isLt⟩ Y) :
    ∀ (k : Nat) (t : Fin cfg0.N), t.val = k → ∀ X, L t X → ∀ (h : Fin 32) (hh : h.val ≤ t.val % 32) (n : Fin 16),
      X (ix3 0 h n) = scRow (scOf (amaxV (B ⟨t.val - t.val % 32 + h.val, Nat.lt_of_le_of_lt (by omega) t.isLt⟩))) (ix3 0 0 n) := by
  intro k
  induction k with
  | zero =>
    intro t ht X hX h hh n
    obtain ⟨Y, -, rfl⟩ := hL t X hX
    rw [scAt_row, if_pos (by omega)]
    congr 5
    exact Fin.ext (by show t.val = t.val - t.val % 32 + h.val; omega)
  | succ k ih =>
    intro t ht X hX h hh n
    obtain ⟨Y, hY, rfl⟩ := hL t X hX
    rw [scAt_row]
    split
    · congr 5
      exact Fin.ext (by show t.val = t.val - t.val % 32 + h.val; omega)
    · rw [ih ⟨t.val - 1, Nat.lt_of_le_of_lt (Nat.sub_le _ _) t.isLt⟩ (by show t.val - 1 = k; omega) Y (hF t Y (by omega) hY) h (by show h.val ≤ (t.val - 1) % 32; omega) n]
      refine congrArg (fun z => scRow (scOf (amaxV (B z))) (ix3 0 0 n)) (Fin.ext ?_)
      show t.val - 1 - (t.val - 1) % 32 + h.val = t.val - t.val % 32 + h.val
      omega

/-- An array of codes, and one of scales, of an argument; and the result of three arguments. -/
def codesArr (X : FVec F S4x2048x4096 .f32) : FVec F S4x2048x4096 .fp8e4m3 := fun i =>
  codesV (headBlock X (i 0) ⟨(i 2).val / 128, by have h : (i 2).val < 4096 := (i 2).isLt; omega⟩) (ix3 0 (i 1) ⟨(i 2).val % 128, Nat.mod_lt _ (by decide)⟩)
/-- The scales of an argument's blocks, as the kernel leaves them. -/
def scalesArr (X : FVec F S4x2048x4096 .f32) : FVec F S4x32x16 .f32 := fun i =>
  scRow (scOf (amaxV (headBlock X (i 0) (i 1)))) (ix3 0 0 (i 2))
/-- The output, as the kernel leaves it. -/
def resultArr (X K W : FVec F S4x2048x4096 .f32) : FVec F S4x2048x4096 .f32 := fun i =>
  yV (dataOf (headBlock X (i 0) ⟨(i 2).val / 128, by have h : (i 2).val < 4096 := (i 2).isLt; omega⟩)
    (headBlock K (i 0) ⟨(i 2).val / 128, by have h : (i 2).val < 4096 := (i 2).isLt; omega⟩)
    (headBlock W (i 0) ⟨(i 2).val / 128, by have h : (i 2).val < 4096 := (i 2).isLt; omega⟩)) (ix3 0 (i 1) ⟨(i 2).val % 128, Nat.mod_lt _ (by decide)⟩)

/-- A place of a head's block, found again in the array. -/
theorem at_place {α : Type} (g : Fin 4 → Fin 32 → S1x2048x128.Idx → α) (t : Fin cfg0.N) (y : S1x2048x128.Idx) (i : S4x2048x4096.Idx)
    (h0 : (i 0).val = t.val / 32) (h1 : (i 1).val = (y 1).val) (h2 : (i 2).val = t.val % 32 * 128 + (y 2).val) :
    g (tb t) (th t) y = g (i 0) ⟨(i 2).val / 128, by have h : (i 2).val < 4096 := (i 2).isLt; omega⟩ (ix3 0 (i 1) ⟨(i 2).val % 128, Nat.mod_lt _ (by decide)⟩) := by
  have y0 : (y 0).val < 1 := (y 0).isLt
  have y2 : (y 2).val < 128 := (y 2).isLt
  have e0 : tb t = i 0 := Fin.ext h0.symm
  have e1 : th t = ⟨(i 2).val / 128, by have h : (i 2).val < 4096 := (i 2).isLt; omega⟩ := Fin.ext (by show t.val % 32 = (i 2).val / 128; omega)
  have e2 : y = ix3 0 (i 1) ⟨(i 2).val % 128, Nat.mod_lt _ (by decide)⟩ := by
    refine (eq_ix3 y).trans ?_
    congr 1
    · exact Fin.ext (by show (y 0).val = 0; omega)
    · exact Fin.ext h1.symm
    · exact Fin.ext (by show (y 2).val = (i 2).val % 128; omega)
  rw [e0, e1]
  exact congrArg _ e2

/-- A place of a batch's scales, found again in the array. -/
theorem at_row (X : FVec F S4x2048x4096 .f32) (Z : Vec F S1x32x16 .f32) (t : Fin cfg0.N) (ht : t.val % 32 = 31)
    (hZ : ∀ (h : Fin 32) (hh : h.val ≤ t.val % 32) (n : Fin 16), Z (ix3 0 h n) = scRow (scOf (amaxV
      ((fun t => headBlock X (tb t) (th t)) ⟨t.val - t.val % 32 + h.val, Nat.lt_of_le_of_lt (by omega) t.isLt⟩))) (ix3 0 0 n))
    (y : S1x32x16.Idx) (i : S4x32x16.Idx) (h0 : (i 0).val = t.val / 32) (h1 : (i 1).val = (y 1).val) (h2 : (i 2).val = (y 2).val) :
    Z y = scalesArr X i := by
  have y0 : (y 0).val < 1 := (y 0).isLt
  have y1 : (y 1).val < 32 := (y 1).isLt
  have ey : y = ix3 0 (y 1) (y 2) := by
    refine (eq_ix3 y).trans ?_
    congr 1
    exact Fin.ext (by show (y 0).val = 0; omega)
  refine (congrArg Z ey).trans ((hZ (y 1) (by omega) (y 2)).trans ?_)
  unfold scalesArr
  have e0 : tb ⟨t.val - t.val % 32 + (y 1).val, Nat.lt_of_le_of_lt (by omega) t.isLt⟩ = i 0 :=
    Fin.ext (by show (t.val - t.val % 32 + (y 1).val) / 32 = (i 0).val; omega)
  have e1 : th ⟨t.val - t.val % 32 + (y 1).val, Nat.lt_of_le_of_lt (by omega) t.isLt⟩ = i 1 :=
    Fin.ext (by show (t.val - t.val % 32 + (y 1).val) % 32 = (i 1).val; omega)
  have e2 : (y 2 : Fin 16) = i 2 := Fin.ext h2.symm
  beta_reduce
  rw [e0, e1]
  exact congrArg (fun n : Fin 16 => scRow (scOf (amaxV (headBlock X (i 0) (i 1)))) (ix3 0 0 n)) e2

section
variable {r : PUnit × MemSt nD τ sig (Elt F)} (hr : RDat.FramePost (cfgs 0) (dat m) (V m) r) (c : Dev nD)
include hr

/-- The result after the run. -/
theorem final_y : r.2.mem ((c : Thread nD τ).loc main_v0_0) = resultArr (m ((c : Thread nD τ).loc main_arg0))
    (m ((c : Thread nD τ).loc main_arg1)) (m ((c : Thread nD τ).loc main_arg2)) := by
  obtain ⟨after, hL, hA⟩ := RDat.FramePost.exists_exact hr c
  refine (hA 3).trans (Dat.arrAt_eq_of_covers _ 3 _ (by decide +kernel) fun t hf y => ?_)
  obtain ⟨Y, -, hX⟩ := hL 3 t hf
  have hX' : after 3 t = yV (dataOf (xB m c t) (kB m c t) (vB m c t)) := hX
  blk_simp
  show after 3 t y = _
  rw [hX', xB_eq, kB_eq, vB_eq]
  refine at_place (fun b h => yV (dataOf (headBlock (m ((c : Thread nD τ).loc main_arg0)) b h) (headBlock (m ((c : Thread nD τ).loc main_arg1)) b h)
    (headBlock (m ((c : Thread nD τ).loc main_arg2)) b h))) t y _ ?_ ?_ ?_ <;> blk_simp [index_3]

/-- The codes of the queries after the run. -/
theorem final_q : r.2.mem ((c : Thread nD τ).loc main_v0_1) = codesArr (m ((c : Thread nD τ).loc main_arg0)) := by
  obtain ⟨after, hL, hA⟩ := RDat.FramePost.exists_exact hr c
  refine (hA 4).trans (Dat.arrAt_eq_of_covers _ 4 _ (by decide +kernel) fun t hf y => ?_)
  obtain ⟨Y, -, hX⟩ := hL 4 t hf
  have hX' : after 4 t = codesV (xB m c t) := hX
  blk_simp
  show after 4 t y = _
  rw [hX', xB_eq]
  refine at_place (fun b h => codesV (headBlock (m ((c : Thread nD τ).loc main_arg0)) b h)) t y _ ?_ ?_ ?_ <;> blk_simp [index_4]

/-- The scales of the queries after the run. -/
theorem final_qs : r.2.mem ((c : Thread nD τ).loc main_v0_2) = scalesArr (m ((c : Thread nD τ).loc main_arg0)) := by
  obtain ⟨after, hL, hA⟩ := RDat.FramePost.exists_exact hr c
  refine (hA 5).trans (Dat.arrAt_eq_of_covers _ 5 _ (by decide +kernel) fun t hf y => ?_)
  have hf' := (flush0_5 t).mp hf
  have hX := rows_of ((dat m c).Leaves 5) ((dat m c).Finds 5) (fun t => headBlock (m ((c : Thread nD τ).loc main_arg0)) (tb t) (th t))
    (fun t X h => by rw [← xB_eq]; exact h)
    (fun t Y h0 h => (((dat m c).finds_of_pos (fetch_5 t) (by omega) Y).mp h).resolve_left fun hf => by
      have e : (t.val - 1) % 32 = 31 := (flush0_5 _).mp hf
      omega) t.val t rfl (after 5 t) (hL 5 t hf)
  blk_simp
  refine at_row _ (after 5 t) t hf' hX y _ ?_ ?_ ?_ <;> blk_simp [index_5]

/-- The codes of the keys after the run. -/
theorem final_k : r.2.mem ((c : Thread nD τ).loc main_v0_3) = codesArr (m ((c : Thread nD τ).loc main_arg1)) := by
  obtain ⟨after, hL, hA⟩ := RDat.FramePost.exists_exact hr c
  refine (hA 6).trans (Dat.arrAt_eq_of_covers _ 6 _ (by decide +kernel) fun t hf y => ?_)
  obtain ⟨Y, -, hX⟩ := hL 6 t hf
  have hX' : after 6 t = codesV (kB m c t) := hX
  blk_simp
  show after 6 t y = _
  rw [hX', kB_eq]
  refine at_place (fun b h => codesV (headBlock (m ((c : Thread nD τ).loc main_arg1)) b h)) t y _ ?_ ?_ ?_ <;> blk_simp [index_6]

/-- The scales of the keys after the run. -/
theorem final_ks : r.2.mem ((c : Thread nD τ).loc main_v0_4) = scalesArr (m ((c : Thread nD τ).loc main_arg1)) := by
  obtain ⟨after, hL, hA⟩ := RDat.FramePost.exists_exact hr c
  refine (hA 7).trans (Dat.arrAt_eq_of_covers _ 7 _ (by decide +kernel) fun t hf y => ?_)
  have hf' := (flush0_7 t).mp hf
  have hX := rows_of ((dat m c).Leaves 7) ((dat m c).Finds 7) (fun t => headBlock (m ((c : Thread nD τ).loc main_arg1)) (tb t) (th t))
    (fun t X h => by rw [← kB_eq]; exact h)
    (fun t Y h0 h => (((dat m c).finds_of_pos (fetch_7 t) (by omega) Y).mp h).resolve_left fun hf => by
      have e : (t.val - 1) % 32 = 31 := (flush0_7 _).mp hf
      omega) t.val t rfl (after 7 t) (hL 7 t hf)
  blk_simp
  refine at_row _ (after 7 t) t hf' hX y _ ?_ ?_ ?_ <;> blk_simp [index_7]

/-- The codes of the values after the run. -/
theorem final_v : r.2.mem ((c : Thread nD τ).loc main_v0_5) = codesArr (m ((c : Thread nD τ).loc main_arg2)) := by
  obtain ⟨after, hL, hA⟩ := RDat.FramePost.exists_exact hr c
  refine (hA 8).trans (Dat.arrAt_eq_of_covers _ 8 _ (by decide +kernel) fun t hf y => ?_)
  obtain ⟨Y, -, hX⟩ := hL 8 t hf
  have hX' : after 8 t = codesV (vB m c t) := hX
  blk_simp
  show after 8 t y = _
  rw [hX', vB_eq]
  refine at_place (fun b h => codesV (headBlock (m ((c : Thread nD τ).loc main_arg2)) b h)) t y _ ?_ ?_ ?_ <;> blk_simp [index_8]

/-- The scales of the values after the run. -/
theorem final_vs : r.2.mem ((c : Thread nD τ).loc main_v0_6) = scalesArr (m ((c : Thread nD τ).loc main_arg2)) := by
  obtain ⟨after, hL, hA⟩ := RDat.FramePost.exists_exact hr c
  refine (hA 9).trans (Dat.arrAt_eq_of_covers _ 9 _ (by decide +kernel) fun t hf y => ?_)
  have hf' := (flush0_9 t).mp hf
  have hX := rows_of ((dat m c).Leaves 9) ((dat m c).Finds 9) (fun t => headBlock (m ((c : Thread nD τ).loc main_arg2)) (tb t) (th t))
    (fun t X h => by rw [← vB_eq]; exact h)
    (fun t Y h0 h => (((dat m c).finds_of_pos (fetch_9 t) (by omega) Y).mp h).resolve_left fun hf => by
      have e : (t.val - 1) % 32 = 31 := (flush0_9 _).mp hf
      omega) t.val t rfl (after 9 t) (hL 9 t hf)
  blk_simp
  refine at_row _ (after 9 t) t hf' hX y _ ?_ ?_ ?_ <;> blk_simp [index_9]

/-- The arguments after the run. -/
theorem final_args : r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  ⟨hr.arr_in c 0 rfl, hr.arr_in c 1 rfl, hr.arr_in c 2 rfl⟩

end

end Cert.KernelIdeal.Rolled
-- ==== Proof.Pow.lean ====
module

public import Idealize.ShloMosaic.Lib.Pointwise

/-! # Powers of two

The scale of a quantised block over the extended reals: a power of two, once as the largest of a table of powers and once
by an exponent found by counting words, as a product of two words. -/

set_option maxRecDepth 16384

@[expose] public section

noncomputable section

namespace Cert.Pow

open Idealize.ShloMosaic

/-- The power of two, as an extended real. -/
def p2 (k : ℤ) : EReal := (((2 : ℝ) ^ k : ℝ) : EReal)

/-- Powers of two are ordered as their exponents. -/
theorem p2_le {a b : ℤ} : p2 a ≤ p2 b ↔ a ≤ b := by
  unfold p2
  rw [EReal.coe_le_coe_iff, zpow_le_zpow_iff_right₀ one_lt_two]

/-- A power of two is positive. -/
theorem p2_pos (a : ℤ) : 0 < p2 a := by
  unfold p2
  exact_mod_cast zpow_pos (two_pos : (0 : ℝ) < 2) a

/-- Powers of two multiply by adding exponents. -/
theorem p2_mul (a b : ℤ) : p2 a * p2 b = p2 (a + b) := by
  unfold p2
  rw [← EReal.coe_mul, zpow_add₀ (two_ne_zero)]

/-- The power of exponent zero is one. -/
theorem p2_zero : p2 0 = 1 := by unfold p2; simp

/-- The word with exponent field `n` and no more denotes `2 ^ (n − 127)`. -/
theorem word (n : ℕ) (h1 : 1 ≤ n) (h2 : n ≤ 254) : Ideal.ofBits .f32 (BitVec.ofNat 32 n <<< 23) = p2 ((n : ℤ) - 127) := by
  have n1 : ¬ n = 2 ^ 8 - 1 := by omega
  have n2 : ¬ n = 0 := by omega
  have hx : ∀ n : Fin 255, ((BitVec.ofNat 32 n.val <<< 23).extractLsb' (8 + 23) 1 == 1#1) = false
      ∧ ((BitVec.ofNat 32 n.val <<< 23).extractLsb' 23 8).toNat = n.val ∧ ((BitVec.ofNat 32 n.val <<< 23).extractLsb' 0 23).toNat = 0 := by
    decide +kernel
  obtain ⟨e1, e2, e3⟩ := hx ⟨n, by omega⟩
  simp only at e1 e2 e3
  show Ideal.ieee 8 23 (BitVec.ofNat 32 n <<< 23) = _
  unfold Ideal.ieee p2
  simp only [e1, e2, e3]
  rw [if_neg n1, if_neg n2]
  clear hx e1 e2 e3 n1 n2
  rw [EReal.coe_eq_coe_iff]
  have : (2 : ℝ) ^ ((n : ℤ) - 127) = 2 ^ (23 : ℤ) * 2 ^ ((n : ℤ) - (2 ^ (8 - 1) - 1) - (23 : ℕ)) := by
    rw [← zpow_add₀ (two_ne_zero)]; congr 1; norm_num
  rw [this]
  norm_num

/-- The word with every exponent bit set denotes infinity. -/
theorem word_top : Ideal.ofBits .f32 0x7F800000#32 = ⊤ := by
  simp [Ideal.ofBits, Ideal.ieee]

/-- The word of minus infinity. -/
theorem word_bot : Ideal.ofBits .f32 0xFF800000#32 = ⊥ := by
  simp [Ideal.ofBits, Ideal.ieee]

/-- The least positive word denotes `2 ^ (−149)`. -/
theorem word_least : Ideal.ofBits .f32 0x00000001#32 = p2 (-149) := by
  unfold p2
  simp [Ideal.ofBits, Ideal.ieee]

/-- A subnormal word of one bit. -/
theorem word_sub (n : ℕ) (h : n < 23) : Ideal.ofBits .f32 (BitVec.ofNat 32 (2 ^ n)) = p2 ((n : ℤ) - 149) := by
  have hx : ∀ n : Fin 23, ((BitVec.ofNat 32 (2 ^ n.val)).extractLsb' (8 + 23) 1 == 1#1) = false
      ∧ ((BitVec.ofNat 32 (2 ^ n.val)).extractLsb' 23 8).toNat = 0 ∧ ((BitVec.ofNat 32 (2 ^ n.val)).extractLsb' 0 23).toNat = 2 ^ n.val := by
    decide +kernel
  obtain ⟨e1, e2, e3⟩ := hx ⟨n, by omega⟩
  simp only at e1 e2 e3
  show Ideal.ieee 8 23 (BitVec.ofNat 32 (2 ^ n)) = _
  unfold Ideal.ieee p2
  simp only [e1, e2, e3]
  clear hx e1 e2 e3
  rw [if_neg (by decide), if_pos trivial]
  rw [EReal.coe_eq_coe_iff]
  have : (2 : ℝ) ^ ((n : ℤ) - 149) = 2 ^ (n : ℤ) * 2 ^ (1 - (2 ^ (8 - 1) - 1) - (23 : ℕ) : ℤ) := by
    rw [← zpow_add₀ (two_ne_zero)]; congr 1
  rw [this]
  norm_num

/-- The scale's power of two: the least power of two above `t`, as the largest of a table; 1 at zero and infinity. -/
def scaleOf (t : EReal) : EReal :=
  if 0 < t ∧ t < ⊤ then Finset.univ.fold max ⊥ fun j : Fin 277 => if p2 ((j.val : ℤ) - 149) ≤ t then p2 ((j.val : ℤ) - 148) else p2 (-149) else 1

/-- It is `2 ^ e` where the powers not above `t` are those below `e`. -/
theorem scaleOf_eq {t : EReal} (h : 0 < t ∧ t < ⊤) {e : ℤ} (h1 : -149 ≤ e) (h2 : e ≤ 128)
    (H : ∀ j : ℤ, -149 ≤ j → j ≤ 127 → (p2 j ≤ t ↔ j + 1 ≤ e)) : scaleOf t = p2 e := by
  unfold scaleOf
  rw [if_pos h]
  apply le_antisymm
  · rw [Finset.fold_max_le]
    refine ⟨bot_le, fun j _ => ?_⟩
    split
    · rename_i hj
      rw [p2_le]
      have := (H _ (by omega) (by have := j.isLt; omega)).mp hj
      omega
    · rw [p2_le]; exact h1
  · rw [Finset.le_fold_max]
    right
    by_cases he : e = -149
    · refine ⟨0, Finset.mem_univ _, ?_⟩
      rw [he, if_neg]
      intro hc
      have := (H _ (by decide) (by decide)).mp hc
      rw [he] at this
      revert this; decide
    · refine ⟨⟨(e + 148).toNat, by omega⟩, Finset.mem_univ _, ?_⟩
      have e1 : (((e + 148).toNat : ℕ) : ℤ) = e + 148 := by omega
      simp only [e1]
      rw [if_pos ((H _ (by omega) (by omega)).mpr (by omega)), p2_le]
      omega

/-- Of the 256 counted positions those with a downward closed property are the first. -/
theorem mem_iff_lt_card {n : ℕ} (P : Fin n → Prop) [DecidablePred P] (hP : ∀ i j : Fin n, i ≤ j → P j → P i) (i : Fin n) :
    P i ↔ i.val < (Finset.univ.filter P).card := by
  constructor
  · intro h
    have : (Finset.Iic i).card ≤ (Finset.univ.filter P).card := Finset.card_le_card fun j hj => by
      rw [Finset.mem_filter]
      exact ⟨Finset.mem_univ _, hP _ _ (Finset.mem_Iic.mp hj) h⟩
    rw [Fin.card_Iic] at this
    omega
  · intro h
    by_contra hn
    have : (Finset.univ.filter P).card ≤ (Finset.Iio i).card := Finset.card_le_card fun j hj => by
      rw [Finset.mem_filter] at hj
      rw [Finset.mem_Iio]
      by_contra hc
      exact hn (hP _ _ (not_lt.mp hc) hj.2)
    rw [Fin.card_Iio] at this
    omega

/-- A sum of ones and zeros over words counts. -/
theorem fold_count {n : ℕ} (s : Finset (Fin n)) (P : Fin n → Prop) [DecidablePred P] :
    Finset.fold IntOp.addi (0#32) (fun x => if P x then 1#32 else 0#32) s = BitVec.ofNat 32 (s.filter P).card := by
  classical
  induction s using Finset.induction_on with
  | empty => rfl
  | insert a s ha ih =>
    rw [Finset.fold_insert ha, ih, Finset.filter_insert]
    split
    · rw [Finset.card_insert_of_notMem (fun hc => ha (Finset.mem_filter.mp hc).1)]
      show 1#32 + BitVec.ofNat 32 _ = _
      rw [Nat.add_comm, BitVec.ofNat_add]
    · show 0#32 + BitVec.ofNat 32 _ = _
      rw [BitVec.zero_add]

/-- The exponent of the scale of a block with maximum `a`, by counting words. -/
def expoS (a : EReal) : BitVec 32 :=
  let t := a * Ideal.ofBits .f32 0x3B124925#32
  let tiny : Prop := t < Ideal.ofBits .f32 0x00800000#32
  if a = 0 then 0#32
  else Scalar.select (IntOp.andi (BitVec.ofBool (decide (0 < t))) (BitVec.ofBool (decide (t < Ideal.ofBits .f32 0x7F800000#32))))
    (IntOp.addi (IntOp.subi (Finset.fold IntOp.addi (0#32) (fun x : Fin 256 =>
        if Ideal.ofBits .f32 (IntOp.shli ArithUnit.vector (BitVec.ofNat 32 x.val) 23#32) ≤ (if tiny then t * Ideal.ofBits .f32 0x4B000000#32 else t)
        then 1#32 else 0#32) Finset.univ) 1#32)
      (if tiny then 4294967147#32 else 4294967170#32)) 0#32

/-- The power of two of an exponent, as a product of two words. -/
def pow2S (e : BitVec 32) : EReal :=
  Ideal.ofBits .f32 (IntOp.shli ArithUnit.vector (IntOp.addi (IntOp.shrsi ArithUnit.vector e 1#32) 127#32) 23#32)
    * Ideal.ofBits .f32 (IntOp.shli ArithUnit.vector (IntOp.addi (IntOp.subi e (IntOp.shrsi ArithUnit.vector e 1#32)) 127#32) 23#32)

/-- An exponent as a word. -/
def wd (e : ℤ) : BitVec 32 := BitVec.ofInt 32 e

/-- The power put together from two integer words is the power of two. -/
theorem pow2S_eq (e : ℤ) (h1 : -149 ≤ e) (h2 : e ≤ 149) : pow2S (wd e) = p2 e := by
  have hx : ∀ k : Fin 299, IntOp.shli ArithUnit.vector (IntOp.addi (IntOp.shrsi ArithUnit.vector (wd ((k.val : ℤ) - 149)) 1#32) 127#32) 23#32
        = BitVec.ofNat 32 ((k.val + 1) / 2 + 52) <<< 23
      ∧ IntOp.shli ArithUnit.vector (IntOp.addi (IntOp.subi (wd ((k.val : ℤ) - 149)) (IntOp.shrsi ArithUnit.vector (wd ((k.val : ℤ) - 149)) 1#32)) 127#32) 23#32
        = BitVec.ofNat 32 (k.val + 53 - (k.val + 1) / 2) <<< 23 := by
    decide +kernel
  obtain ⟨e1, e2⟩ := hx ⟨(e + 149).toNat, by omega⟩
  simp only at e1 e2
  have e3 : (((e + 149).toNat : ℕ) : ℤ) - 149 = e := by omega
  rw [e3] at e1 e2
  unfold pow2S
  rw [e1, e2, word _ (by omega) (by omega), word _ (by omega) (by omega), p2_mul]
  congr 1
  omega

/-- The word of zero. -/
theorem word_zero : Ideal.ofBits .f32 (BitVec.ofNat 32 0 <<< 23) = 0 := by
  simp [Ideal.ofBits, Ideal.ieee]

/-- An exponent field, shifted to its place. -/
theorem w23 : ∀ x : Fin 256, IntOp.shli ArithUnit.vector (BitVec.ofNat 32 x.val) 23#32 = BitVec.ofNat 32 x.val <<< 23 := by decide +kernel

/-- The word of the least normal power. -/
theorem w_tiny : Ideal.ofBits .f32 0x00800000#32 = p2 (-126) := word 1 (by decide) (by decide)
/-- The word of the power by which subnormals are lifted. -/
theorem w_lift : Ideal.ofBits .f32 0x4B000000#32 = p2 23 := word 150 (by decide) (by decide)

/-- Multiplying by a power of two moves a comparison. -/
theorem p2_le_mul (k d : ℤ) (t : EReal) (h0 : 0 < t) (h1 : t < ⊤) : p2 k ≤ t * p2 d ↔ p2 (k - d) ≤ t := by
  lift t to ℝ using ⟨h1.ne, (bot_lt_iff_ne_bot.mp (lt_trans (by simp) h0))⟩
  unfold p2
  rw [← EReal.coe_mul, EReal.coe_le_coe_iff, EReal.coe_le_coe_iff, zpow_sub₀ (two_ne_zero), div_le_iff₀ (by positivity)]

/-- The counted exponent's power of two is the least power of two above, and the exponent is bounded. -/
theorem expoS_eq (a : EReal) : ∃ e : ℤ, -149 ≤ e ∧ e ≤ 128 ∧ expoS a = wd e ∧ scaleOf (a * Ideal.ofBits .f32 0x3B124925#32) = p2 e := by
  unfold expoS
  generalize ht : a * Ideal.ofBits .f32 0x3B124925#32 = t
  simp only
  by_cases ha : a = 0
  · refine ⟨0, by decide, by decide, by rw [if_pos ha]; rfl, ?_⟩
    rw [ha, zero_mul] at ht
    rw [← ht, p2_zero]
    unfold scaleOf
    rw [if_neg (by simp)]
  rw [if_neg ha, word_top]
  by_cases h : 0 < t ∧ t < ⊤
  swap
  · refine ⟨0, by decide, by decide, ?_, ?_⟩
    · rw [show IntOp.andi (BitVec.ofBool (decide (0 < t))) (BitVec.ofBool (decide (t < ⊤))) = 0#1 by
        rcases not_and_or.mp h with h | h <;> simp only [h, decide_false]
        · cases decide (t < ⊤) <;> rfl
        · cases decide (0 < t) <;> rfl]
      rfl
    · rw [p2_zero]; unfold scaleOf; rw [if_neg h]
  rw [show IntOp.andi (BitVec.ofBool (decide (0 < t))) (BitVec.ofBool (decide (t < ⊤))) = 1#1 by
    simp only [h.1, h.2, decide_true]; rfl]
  rw [fold_count Finset.univ (fun x : Fin 256 => Ideal.ofBits .f32 (IntOp.shli ArithUnit.vector (BitVec.ofNat 32 x.val) 23#32)
    ≤ (if t < Ideal.ofBits .f32 0x00800000#32 then t * Ideal.ofBits .f32 0x4B000000#32 else t))]
  rw [w_tiny, w_lift]
  -- the property counted, by the exponent field
  generalize hu : (if t < p2 (-126) then t * p2 23 else t) = u
  have hu0 : 0 < u ∧ u < ⊤ := by
    rw [← hu]
    split
    · obtain ⟨h0, h1⟩ := h
      lift t to ℝ using ⟨h1.ne, (bot_lt_iff_ne_bot.mp (lt_trans (by simp) h0))⟩
      unfold p2
      rw [← EReal.coe_mul]
      refine ⟨?_, EReal.coe_lt_top _⟩
      have : (0 : ℝ) < t := by exact_mod_cast h0
      have : (0 : ℝ) < t * 2 ^ (23 : ℤ) := by positivity
      exact_mod_cast this
    · exact h
  have hQ : ∀ x : Fin 256, (Ideal.ofBits .f32 (IntOp.shli ArithUnit.vector (BitVec.ofNat 32 x.val) 23#32) ≤ u)
      ↔ (x.val = 0 ∨ (x.val ≤ 254 ∧ p2 ((x.val : ℤ) - 127) ≤ u)) := by
    intro x
    rw [w23]
    by_cases x0 : x.val = 0
    · rw [x0, word_zero]; exact ⟨fun _ => .inl rfl, fun _ => hu0.1.le⟩
    by_cases x1 : x.val = 255
    · rw [x1, show (BitVec.ofNat 32 255 <<< 23) = 0x7F800000#32 by decide, word_top]
      constructor
      · intro hc; exact absurd (lt_of_le_of_lt hc hu0.2) (lt_irrefl _)
      · intro hc; omega
    · rw [word _ (by omega) (by have := x.isLt; omega)]
      constructor
      · intro hc; exact .inr ⟨by have := x.isLt; omega, hc⟩
      · rintro (hc | hc)
        · exact absurd hc x0
        · exact hc.2
  have hmem := mem_iff_lt_card (fun x : Fin 256 => Ideal.ofBits .f32 (IntOp.shli ArithUnit.vector (BitVec.ofNat 32 x.val) 23#32) ≤ u) (by
    intro i j hij hj
    have hij : i.val ≤ j.val := hij
    rw [hQ] at hj ⊢
    rcases hj with hj | ⟨hj1, hj2⟩
    · left; omega
    · by_cases hi : i.val = 0
      · exact .inl hi
      · refine .inr ⟨by omega, le_trans (p2_le.mpr ?_) hj2⟩
        omega)
  have h00 := hmem 0
  have h255 := hmem 255
  have hcard : ((Finset.univ : Finset (Fin 256)).filter (fun x : Fin 256 =>
    Ideal.ofBits .f32 (IntOp.shli ArithUnit.vector (BitVec.ofNat 32 x.val) 23#32) ≤ u)).card = _ := rfl
  generalize ((Finset.univ : Finset (Fin 256)).filter (fun x : Fin 256 =>
    Ideal.ofBits .f32 (IntOp.shli ArithUnit.vector (BitVec.ofNat 32 x.val) 23#32) ≤ u)).card = c at *
  have hc1 : 1 ≤ c := by
    have := h00.mp ((hQ 0).mpr (.inl rfl))
    simp at this
    omega
  have hc2 : c ≤ 255 := by
    by_contra hc
    have := (hQ 255).mp (h255.mpr (by show 255 < c; omega))
    simp at this
  have hcnt : ∀ n : ℤ, 1 ≤ n → n ≤ 254 → (p2 (n - 127) ≤ u ↔ n < c) := by
    intro n h1 h2
    have e1 : ((n.toNat : ℕ) : ℤ) = n := by omega
    have hq := hQ ⟨n.toNat, by omega⟩
    have hm := hmem ⟨n.toNat, by omega⟩
    rw [hq] at hm
    simp only [e1] at hm
    constructor
    · intro h; have := hm.mp (.inr ⟨by omega, h⟩); omega
    · intro h
      rcases hm.mpr (by omega) with h | h
      · omega
      · exact h.2
  have hwd : ∀ c : Fin 256, IntOp.addi (IntOp.subi (BitVec.ofNat 32 c.val) 1#32) 4294967147#32 = wd ((c.val : ℤ) - 150)
      ∧ IntOp.addi (IntOp.subi (BitVec.ofNat 32 c.val) 1#32) 4294967170#32 = wd ((c.val : ℤ) - 127) := by decide +kernel
  by_cases tiny : t < p2 (-126)
  · rw [if_pos tiny] at hu
    refine ⟨(c : ℤ) - 150, by omega, by omega, ?_, ?_⟩
    · rw [if_pos tiny]
      exact (hwd ⟨c, by omega⟩).1
    · refine scaleOf_eq h (by omega) (by omega) fun j j1 j2 => ?_
      by_cases j3 : j ≤ 104
      · have := hcnt (j + 150) (by omega) (by omega)
        rw [← hu, p2_le_mul _ _ _ h.1 h.2, show j + 150 - 127 - 23 = j by ring] at this
        rw [this]; omega
      · constructor
        · intro hc
          exact absurd (lt_of_le_of_lt hc tiny) (not_lt.mpr (p2_le.mpr (by omega)))
        · intro hc; omega
  · rw [if_neg tiny] at hu
    subst hu
    refine ⟨(c : ℤ) - 127, ?_, by omega, ?_, ?_⟩
    · omega
    · rw [if_neg tiny]
      exact (hwd ⟨c, by omega⟩).2
    · have h126 := (hcnt 1 (by decide) (by decide)).mp (by
        rw [show (1 : ℤ) - 127 = -126 by norm_num]; exact not_lt.mp tiny)
      refine scaleOf_eq h (by omega) (by omega) fun j j1 j2 => ?_
      by_cases j3 : -126 ≤ j
      · rw [show j = j + 127 - 127 by ring, hcnt (j + 127) (by omega) (by omega)]
        omega
      · refine ⟨fun _ => by omega, fun _ => le_trans (p2_le.mpr ?_) (not_lt.mp tiny)⟩
        omega

/-- Negated as a word is negated as an integer. -/
theorem wd_neg (e : ℤ) : IntOp.subi (0#32) (wd e) = wd (-e) := by
  show 0#32 - BitVec.ofInt 32 e = BitVec.ofInt 32 (-e)
  rw [BitVec.ofInt_neg, BitVec.zero_sub]

end Cert.Pow
-- ==== Proof.Codes.lean ====
module

public import proofs.«01_k».proof.Proof.Quantise
public import proofs.«01_k».proof.Proof.Pow

/-! # The quantiser's values

Over the extended reals: the maximum of a block, its scale, and its codes, each read at an index. -/

set_option maxRecDepth 16384

@[expose] public section

noncomputable section

namespace Cert.KernelIdeal.Rolled

open Idealize.ShloMosaic Idealize.SL.Sem
open Cert.KernelIdeal Cert.Pow

/-- The absolute value. -/
def ab (x : EReal) : EReal := FloatOps.absf (F := Ideal) (φ := .f32) x

/-- The largest absolute value of a block. -/
def blockMax {m n : Nat} (f : Fin m → Fin n → EReal) : EReal := Finset.univ.fold max ⊥ fun p : Fin m × Fin n => ab (f p.1 p.2)

/-- The maximum of a block is bounded when all its absolute values are. -/
theorem blockMax_le {m n : Nat} (f : Fin m → Fin n → EReal) (z : EReal) : blockMax f ≤ z ↔ ∀ r l, ab (f r l) ≤ z := by
  unfold blockMax
  rw [Finset.fold_max_le]
  exact ⟨fun h r l => h.2 (r, l) (Finset.mem_univ _), fun h => ⟨bot_le, fun p _ => h p.1 p.2⟩⟩

/-- A number with the bounds of the maximum is the maximum. -/
theorem eq_blockMax {m n : Nat} (f : Fin m → Fin n → EReal) (a : EReal) (h : ∀ z, a ≤ z ↔ ∀ r l, ab (f r l) ≤ z) : a = blockMax f :=
  eq_of_forall_ge_iff fun z => (h z).trans (blockMax_le f z).symm

/-- The scale of a block. -/
def blockScale {m n : Nat} (f : Fin m → Fin n → EReal) : EReal := scaleOf (blockMax f * Ideal.ofBits .f32 0x3B124925#32)

/-- Clipped. -/
def clipE (x : EReal) : EReal := min (Ideal.ofBits .f32 0x43E00000#32) (max (Ideal.ofBits .f32 0xC3E00000#32) x)

variable [Facts]
open Facts₀ Facts

/-- The exponents of the sixteen blocks, read at a block. -/
theorem expo16_apply (amax : FVec Ideal S16x1 .f32) (j : Fin 16) : expo16 amax (ix2 j 0) = expoS (amax (ix2 j 0)) := by
  unfold expo16 expo expoS
  pointwise

/-- The exponent of one block. -/
theorem expo1_apply (amax : FVec Ideal S1x1 .f32) : expo1 amax (ix2 0 0) = expoS (amax (ix2 0 0)) := by
  unfold expo1 expo expoS
  pointwise

/-- The scale of a block is the power of two of its maximum over 448. -/
theorem scOf_apply (amax : FVec Ideal S16x1 .f32) (j : Fin 16) (l : Fin 128) : scOf amax (ix2 j l) = scaleOf (amax (ix2 j 0) * Ideal.ofBits .f32 0x3B124925#32) := by
  obtain ⟨e, h1, h2, h3, h4⟩ := expoS_eq (amax (ix2 j 0))
  rw [h4, ← pow2S_eq e h1 (by omega), ← h3, ← expo16_apply]
  unfold scOf pow2 pow2S
  pointwise

/-- One over a power of two is the power of the negated exponent. -/
theorem div_p2 (e : ℤ) : Ideal.div 1 (p2 e) = p2 (-e) := by
  unfold Ideal.div
  rw [if_neg (p2_pos e).ne', one_mul]
  unfold p2
  rw [← EReal.coe_inv, zpow_neg]

/-- What a block is multiplied by is one over its scale. -/
theorem invOf_apply (amax : FVec Ideal S16x1 .f32) (j : Fin 16) (l : Fin 128) :
    invOf amax (ix2 j l) = Ideal.div 1 (scaleOf (amax (ix2 j 0) * Ideal.ofBits .f32 0x3B124925#32)) := by
  obtain ⟨e, h1, h2, h3, h4⟩ := expoS_eq (amax (ix2 j 0))
  rw [h4, div_p2, ← pow2S_eq (-e) (by omega) (by omega), ← wd_neg, ← h3, ← expo16_apply]
  unfold invOf pow2 pow2S
  pointwise

/-- The row of scales, read at a block. -/
theorem scRow_apply (sc : FVec Ideal S16x128 .f32) (j : Fin 16) : scRow sc (ix3 0 0 j) = sc (ix2 j ⟨j.val, by omega⟩) := by
  unfold scRow
  pointwise
  rw [Finset.sum_eq_single j]
  · simp [IntOp.cmpi, Scalar.select]
  · intro x _ hx
    have : ¬ BitVec.ofNat 32 x.val = BitVec.ofNat 32 j.val := by
      intro hc
      have := congrArg BitVec.toNat hc
      simp only [BitVec.toNat_ofNat] at this
      rw [Nat.mod_eq_of_lt (by omega), Nat.mod_eq_of_lt (by omega)] at this
      exact hx (Fin.ext this)
    have hb := beq_eq_false_iff_ne.mpr this
    simp [IntOp.cmpi, Scalar.select, hb]
  · intro hc; exact absurd (Finset.mem_univ _) hc

/-- The sixteen slices cover the rows. -/
theorem forall_rows (P : Fin 128 → Prop) : (∀ r : Fin 128, P r) ↔ ∀ (x : Fin 8) (q : Fin 16), P ⟨8 * q.val + x.val, by omega⟩ := by
  refine ⟨fun h x q => h _, fun h r => ?_⟩
  have := h ⟨r.val % 8, Nat.mod_lt _ (by decide)⟩ ⟨r.val / 8, by omega⟩
  have e : (⟨8 * (r.val / 8) + r.val % 8, by omega⟩ : Fin 128) = r := Fin.ext (Nat.div_add_mod r.val 8)
  simpa only [e] using this

/-- The maximum by rows of eight is bounded when all entries of the column are. -/
theorem foldMax_le (x : FVec Ideal S128x128 .f32) (l : Fin 128) (z : EReal) :
    (∀ r : Fin 8, foldRows maximumf x (ix2 r l) ≤ z) ↔ ∀ r : Fin 128, x (ix2 r l) ≤ z := by
  rw [forall_rows]
  refine forall_congr' fun r => ?_
  unfold foldRows rows8
  simp only [build, tree, pairUp, List.cons_append, List.nil_append, List.headD_cons]
  pointwise
  simp only [max_le_iff]
  constructor
  · intro h q
    fin_vals q with hk
    all_goals simp only [hk, Nat.reduceMul, Nat.zero_add]
    all_goals first | exact h.1.1.1.1 | exact h.1.1.1.2 | exact h.1.1.2.1 | exact h.1.1.2.2 | exact h.1.2.1.1 | exact h.1.2.1.2 | exact h.1.2.2.1 | exact h.1.2.2.2 | exact h.2.1.1.1 | exact h.2.1.1.2 | exact h.2.1.2.1 | exact h.2.1.2.2 | exact h.2.2.1.1 | exact h.2.2.1.2 | exact h.2.2.2.1 | exact h.2.2.2.2
  · intro h
    have h0 := h 0
    simp only [Fin.val_zero, Nat.mul_zero, Nat.zero_add] at h0
    exact ⟨⟨⟨⟨h0, h 1⟩, h 2, h 3⟩, ⟨h 4, h 5⟩, h 6, h 7⟩, ⟨⟨h 8, h 9⟩, h 10, h 11⟩, ⟨h 12, h 13⟩, h 14, h 15⟩

/-- The maximum of eight rows is bounded when they are. -/
theorem colMax_le (x : FVec Ideal S8x128 .f32) (l : Fin 128) (z : EReal) : colMax x (ix2 0 l) ≤ z ↔ ∀ r : Fin 8, x (ix2 r l) ≤ z := by
  unfold colMax
  pointwise
  rw [Finset.fold_max_le, word_bot]
  exact ⟨fun h r => h.2 r (Finset.mem_univ _), fun h => ⟨bot_le, fun p _ => h p⟩⟩

/-- A column's maximum is bounded when its absolute values are. -/
theorem absMax_le (v : Vec Ideal S1x128x128 .f32) (l : Fin 128) (z : EReal) : absMax v (ix2 0 l) ≤ z ↔ ∀ r : Fin 128, ab (v (ix3 0 r l)) ≤ z := by
  unfold absMax
  rw [colMax_le, foldMax_le]
  refine forall_congr' fun r => ?_
  unfold ab
  pointwise

/-- A block's maximum is bounded when those of its columns are. -/
theorem amaxOf_le (c : Nat → FVec Ideal S1x128 .f32) (j : Fin 16) (z : EReal) : amaxOf c (ix2 j 0) ≤ z ↔ ∀ l : Fin 128, c j.val (ix2 0 l) ≤ z := by
  unfold amaxOf
  have e : ∀ l, (concatenate S16x128 0 (List.ofFn fun n : Fin 16 => (⟨S1x128, c n.val⟩ : (s : Shape) × (s.Idx → EReal)))
      concatenates_S1x128_S1x128_S1x128_S1x128_S1x128_S1x128_S1x128_S1x128_S1x128_S1x128_S1x128_S1x128_S1x128_S1x128_S1x128_S1x128_S16x128_d0) (ix2 j l) = c j.val (ix2 0 l) := by
    intro l
    pointwise
  revert e
  show (∀ l, (concatenate S16x128 0 [⟨S1x128, c 0⟩, ⟨S1x128, c 1⟩, ⟨S1x128, c 2⟩, ⟨S1x128, c 3⟩, ⟨S1x128, c 4⟩, ⟨S1x128, c 5⟩, ⟨S1x128, c 6⟩, ⟨S1x128, c 7⟩,
      ⟨S1x128, c 8⟩, ⟨S1x128, c 9⟩, ⟨S1x128, c 10⟩, ⟨S1x128, c 11⟩, ⟨S1x128, c 12⟩, ⟨S1x128, c 13⟩, ⟨S1x128, c 14⟩, ⟨S1x128, c 15⟩]
      concatenates_S1x128_S1x128_S1x128_S1x128_S1x128_S1x128_S1x128_S1x128_S1x128_S1x128_S1x128_S1x128_S1x128_S1x128_S1x128_S1x128_S16x128_d0) (ix2 j l) = c j.val (ix2 0 l)) → _
  generalize concatenate S16x128 0 [⟨S1x128, c 0⟩, ⟨S1x128, c 1⟩, ⟨S1x128, c 2⟩, ⟨S1x128, c 3⟩, ⟨S1x128, c 4⟩, ⟨S1x128, c 5⟩, ⟨S1x128, c 6⟩, ⟨S1x128, c 7⟩,
      ⟨S1x128, c 8⟩, ⟨S1x128, c 9⟩, ⟨S1x128, c 10⟩, ⟨S1x128, c 11⟩, ⟨S1x128, c 12⟩, ⟨S1x128, c 13⟩, ⟨S1x128, c 14⟩, ⟨S1x128, c 15⟩]
      concatenates_S1x128_S1x128_S1x128_S1x128_S1x128_S1x128_S1x128_S1x128_S1x128_S1x128_S1x128_S1x128_S1x128_S1x128_S1x128_S1x128_S16x128_d0 = C
  intro e
  pointwise
  rw [Finset.fold_max_le, word_bot]
  simp only [e]
  exact ⟨fun h r => h.2 r (Finset.mem_univ _), fun h => ⟨bot_le, fun p _ => h p⟩⟩

/-- A block's maximum is that of its absolute values. -/
theorem amaxV_apply (x : Vec Ideal S1x2048x128 .f32) (j : Fin 16) :
    amaxV x (ix2 j 0) = blockMax fun (r l : Fin 128) => x (ix3 0 ⟨128 * j.val + r.val, by omega⟩ l) := by
  refine eq_blockMax _ _ fun z => ?_
  unfold amaxV
  rw [amaxOf_le, forall_comm]
  refine forall_congr' fun l => ?_
  rw [dif_pos j.isLt, absMax_le]
  refine forall_congr' fun r => ?_
  rw [blk_apply]

/-- The scales' row. -/
theorem scRow_scOf (x : Vec Ideal S1x2048x128 .f32) (j : Fin 16) :
    scRow (scOf (amaxV x)) (ix3 0 0 j) = blockScale fun (r l : Fin 128) => x (ix3 0 ⟨128 * j.val + r.val, by omega⟩ l) := by
  rw [scRow_apply, scOf_apply, amaxV_apply]
  rfl

/-- The codes at a row are those of its block. -/
theorem codesV_code (x : Vec Ideal S1x2048x128 .f32) (j : Nat) (hj : j < 16) (r l : Fin 128) (R : Fin 2048) (hR : R.val = 128 * j + r.val) :
    codesV x (ix3 0 R l) = codeB x j hj (ix2 r l) := by
  have e1 : R.val / 128 = j := by omega
  have e2 : R.val % 128 = r.val := by omega
  subst e1
  have e3 : (⟨R.val % 128, Nat.mod_lt _ (by decide)⟩ : Fin 128) = r := Fin.ext e2
  rw [← e3]
  rfl

/-- The codes. -/
theorem codesV_apply (x : Vec Ideal S1x2048x128 .f32) (j : Fin 16) (r l : Fin 128) :
    codesV x (ix3 0 ⟨128 * j.val + r.val, by omega⟩ l) = clipE (x (ix3 0 ⟨128 * j.val + r.val, by omega⟩ l)
      * Ideal.div 1 (blockScale fun (r l : Fin 128) => x (ix3 0 ⟨128 * j.val + r.val, by omega⟩ l))) := by
  rw [codesV_code x j.val j.isLt r l _ rfl]
  unfold codeB scaled clip
  pointwise
  rw [row_apply, invOf_apply, amaxV_apply, blk_apply]
  rfl

end Cert.KernelIdeal.Rolled
-- ==== Proof.RefQuant.lean ====
module

public import proofs.«01_k».proof.Proof.Gen.ReferenceIdeal.Run
public import proofs.«01_k».proof.Proof.Codes
public import Idealize.ShloMosaic.Lib.Pointwise

/-! # The reference's quantiser

The reference's scales and codes, read at an index. -/

set_option maxRecDepth 16384

@[expose] public section

noncomputable section

namespace Cert.ReferenceIdeal.Value

open Idealize.ShloMosaic Idealize.SL.Sem Idealize.ShloMosaic.StableHlo
open Cert.ReferenceIdeal Cert.ReferenceIdeal.Gen Cert.Pow
open Cert.KernelIdeal.Rolled (ab blockMax blockMax_le eq_blockMax blockScale clipE)

/-- The powers of two compared with. -/
def powers (lit : Fin 277 → BitVec 32) : FVec Ideal S277 .f32 := fun i => FloatOps.ofBits .f32 (lit (S277.rowMajor i))

/-- The blocks of an argument. -/
def blocks (X : FVec Ideal S4x2048x4096 .f32) : FVec Ideal S4x32x16x128x128 .f32 :=
  transpose S4x32x16x128x128 [0, 3, 1, 2, 4] (shapeCast S4x16x128x32x128 X shapeCasts_S4x2048x4096_S4x16x128x32x128) transposes_S4x16x128x32x128_S4x32x16x128x128_0_3_1_2_4

/-- The blocks' maxima over 448. -/
def ratio (v1 : FVec Ideal S4x32x16x128x128 .f32) : FVec Ideal S4x32x16x1x1 .f32 :=
  mulf (broadcastInDim S4x32x16x1x1 ![0, 1, 2] bcast_S4x32x16_S4x32x16x1x1_0_1_2 (Host.reduce FloatOps.maximumf (Host.absf v1) (constant S_ .f32 0xFF800000#32) reducesTo_S4x32x16x128x128_S4x32x16_d3_4 h_S_)) (broadcastInDim S4x32x16x1x1 ![] bcast_S_S4x32x16x1x1 (constant S_ .f32 0x3B124925#32))

/-- The power of two above. -/
def above (cst : FVec Ideal S277 .f32) (t : FVec Ideal S4x32x16x1x1 .f32) : FVec Ideal S4x32x16x1x1 .f32 :=
  select (andi (cmpf .ogt t (broadcastInDim S4x32x16x1x1 ![] bcast_S_S4x32x16x1x1 (constant S_ .f32 0x00000000#32))) (cmpf .olt t (broadcastInDim S4x32x16x1x1 ![] bcast_S_S4x32x16x1x1 (constant S_ .f32 0x7F800000#32)))) (Host.reduce FloatOps.maximumf (select (cmpf .oge (broadcastInDim S4x32x16x1x1x277 ![0, 1, 2, 3, 4, 5] bcast_S4x32x16x1x1x1_S4x32x16x1x1x277_0_1_2_3_4_5 (broadcastInDim S4x32x16x1x1x1 ![0, 1, 2, 3, 4] bcast_S4x32x16x1x1_S4x32x16x1x1x1_0_1_2_3_4 t)) (broadcastInDim S4x32x16x1x1x277 ![0, 1, 2, 3, 4, 5] bcast_S1x1x1x1x1x277_S4x32x16x1x1x277_0_1_2_3_4_5 (broadcastInDim S1x1x1x1x1x277 ![5] bcast_S277_S1x1x1x1x1x277_5 cst))) (broadcastInDim S4x32x16x1x1x277 ![5] bcast_S277_S4x32x16x1x1x277_5 (mulf (broadcastInDim S277 ![] bcast_S_S277 (constant S_ .f32 0x40000000#32)) cst)) (broadcastInDim S4x32x16x1x1x277 ![] bcast_S_S4x32x16x1x1x277 (id (constant S_ .f32 0x00000001#32)))) (constant S_ .f32 0xFF800000#32) reducesTo_S4x32x16x1x1x277_S4x32x16x1x1_d5 h_S_) (broadcastInDim S4x32x16x1x1 ![] bcast_S_S4x32x16x1x1 (id (constant S_ .f32 0x3F800000#32)))

/-- The codes. -/
def coded (v1 : FVec Ideal S4x32x16x128x128 .f32) (sc : FVec Ideal S4x32x16x1x1 .f32) : FVec Ideal S4x32x16x128x128 .f32 :=
  minimumf (broadcastInDim S4x32x16x128x128 ![] bcast_S_S4x32x16x128x128 (id (constant S_ .f32 0x43E00000#32))) (maximumf (broadcastInDim S4x32x16x128x128 ![] bcast_S_S4x32x16x128x128 (id (constant S_ .f32 0xC3E00000#32))) (mulf v1 (broadcastInDim S4x32x16x128x128 ![0, 1, 2, 3, 4] bcast_S4x32x16x1x1_S4x32x16x128x128_0_1_2_3_4 (Host.divf (broadcastInDim S4x32x16x1x1 ![] bcast_S_S4x32x16x1x1 (constant S_ .f32 0x3F800000#32)) sc))))

/-- The scales of an argument's blocks. -/
def scalesOf (X : FVec Ideal S4x2048x4096 .f32) : FVec Ideal S4x32x16x1x1 .f32 := above (powers lit0) (ratio (blocks X))

/-- The codes of an argument's blocks. -/
def codesOf (X : FVec Ideal S4x2048x4096 .f32) : FVec Ideal S4x32x16x128x128 .f32 := coded (blocks X) (scalesOf X)

/-- The four tables are one. -/
theorem lit_eq : lit1 = lit0 ∧ lit2 = lit0 ∧ lit3 = lit0 := ⟨rfl, rfl, rfl⟩

section
variable (V : Valuation τ sig (Elt Ideal))

/-- The run's scales of an argument are those defined above. -/
theorem v21_eq : res_main_v21 V = scalesOf (V (Proc.devRef .tc main_arg0)) := rfl
/-- The run's scales of an argument are those defined above. -/
theorem v49_eq : res_main_v49 V = scalesOf (V (Proc.devRef .tc main_arg1)) := rfl
/-- The run's scales of an argument are those defined above. -/
theorem v77_eq : res_main_v77 V = scalesOf (V (Proc.devRef .tc main_arg2)) := rfl
/-- The run's codes of an argument are those defined above. -/
theorem v26_eq : res_main_v26 V = codesOf (V (Proc.devRef .tc main_arg0)) := rfl
/-- The run's codes of an argument are those defined above. -/
theorem v54_eq : res_main_v54 V = codesOf (V (Proc.devRef .tc main_arg1)) := rfl
/-- The run's codes of an argument are those defined above. -/
theorem v82_eq : res_main_v82 V = codesOf (V (Proc.devRef .tc main_arg2)) := rfl
end

/-- The table's words. -/
theorem powers_apply (j : Fin 277) : powers lit0 (ix1 j) = p2 ((j.val : ℤ) - 149) := by
  have hx : ∀ k : Fin 277, lit0 k = if k.val < 23 then BitVec.ofNat 32 (2 ^ k.val) else BitVec.ofNat 32 (k.val - 22) <<< 23 := by decide +kernel
  have e : S277.rowMajor (ix1 j) = j := Fin.ext (rowMajor_val1 _)
  have hj : j.val < 277 := j.isLt
  unfold powers
  rw [e, hx]
  show Ideal.ofBits .f32 _ = _
  by_cases h : j.val < 23
  · rw [if_pos h, word_sub _ h]
  · rw [if_neg h, word _ (by omega) (by omega)]
    congr 1
    omega

variable (X : FVec Ideal S4x2048x4096 .f32) (b : Fin 4) (h : Fin 32) (n : Fin 16) (r l : Fin 128)

/-- The blocks of an argument, read at an index. -/
theorem blocks_apply : blocks X (ix5 b h n r l) = X (ix3 b ⟨128 * n.val + r.val, by omega⟩ ⟨128 * h.val + l.val, by omega⟩) := by
  unfold blocks
  pointwise
  have e1 : (⟨n.val * 128 + r.val, by omega⟩ : Fin 2048) = ⟨128 * n.val + r.val, by omega⟩ := Fin.ext (show n.val * 128 + r.val = 128 * n.val + r.val by omega)
  have e2 : (⟨h.val * 128 + l.val, by omega⟩ : Fin 4096) = ⟨128 * h.val + l.val, by omega⟩ := Fin.ext (show h.val * 128 + l.val = 128 * h.val + l.val by omega)
  rw [e1, e2]

/-- The index of a block, of an entry in it. -/
theorem drop5 : reducesTo_S4x32x16x128x128_S4x32x16_d3_4.drop (ix5 b h n r l) = ix3 b h n := by
  funext a
  revert a
  rw [Fin.forall_fin_succ, Fin.forall_fin_succ, Fin.forall_fin_succ]
  exact ⟨rfl, rfl, rfl, fun a => a.elim0⟩

/-- The index of a ratio, of a power compared with it. -/
theorem drop6 (r l : Fin 1) (k : Fin 277) : reducesTo_S4x32x16x1x1x277_S4x32x16x1x1_d5.drop (ix6 b h n r l k) = ix5 b h n r l := by
  funext a
  revert a
  rw [Fin.forall_fin_succ, Fin.forall_fin_succ, Fin.forall_fin_succ, Fin.forall_fin_succ, Fin.forall_fin_succ]
  exact ⟨rfl, rfl, rfl, rfl, rfl, fun a => a.elim0⟩

/-- A maximum over a block's entries, bounded. -/
theorem fold_drop5 (f : S4x32x16x128x128.Idx → EReal) (z : EReal) :
    Finset.fold max ⊥ f {i | reducesTo_S4x32x16x128x128_S4x32x16_d3_4.drop i = ix3 b h n} ≤ z ↔ ∀ r l, f (ix5 b h n r l) ≤ z := by
  rw [Finset.fold_max_le]
  refine ⟨fun H r l => H.2 _ ?_, fun H => ⟨bot_le, fun i hi => ?_⟩⟩
  · rw [Finset.mem_filter]
    exact ⟨Finset.mem_univ _, drop5 ..⟩
  · obtain ⟨b', h', n', r', l', rfl⟩ : ∃ b' h' n' r' l', i = ix5 b' h' n' r' l' := ⟨i 0, i 1, i 2, i 3, i 4, eq_ix5 i⟩
    have e : (ix3 b' h' n' : S4x32x16.Idx) = ix3 b h n := (drop5 ..).symm.trans (Finset.mem_filter.mp hi).2
    obtain ⟨rfl, rfl, rfl⟩ := (ix3_inj _ _ _ _ _ _).mp e
    exact H _ _

/-- A maximum times a constant, read at a block. -/
theorem ratio_read (v : FVec Ideal S4x32x16 .f32) (c : FVec Ideal S_ .f32) :
    mulf (broadcastInDim S4x32x16x1x1 ![0, 1, 2] bcast_S4x32x16_S4x32x16x1x1_0_1_2 v) (broadcastInDim S4x32x16x1x1 ![] bcast_S_S4x32x16x1x1 c) (ix5 b h n 0 0)
      = v (ix3 b h n) * c ix0 := by
  pointwise

/-- A block's maximum, bounded. -/
theorem reduce_read (w : FVec Ideal S4x32x16x128x128 .f32) (z : EReal) :
    Host.reduce FloatOps.maximumf w (constant S_ .f32 0xFF800000#32) reducesTo_S4x32x16x128x128_S4x32x16_d3_4 h_S_ (ix3 b h n) ≤ z
      ↔ ∀ r l, w (ix5 b h n r l) ≤ z := by
  rw [Host.reduce_eq_fold]
  show Finset.fold max (Ideal.ofBits .f32 0xFF800000#32) w _ ≤ z ↔ _
  rw [word_bot, fold_drop5]

/-- A block's maximum over 448. -/
theorem ratio_apply (v1 : FVec Ideal S4x32x16x128x128 .f32) :
    ratio v1 (ix5 b h n 0 0) = (blockMax fun r l => v1 (ix5 b h n r l)) * Ideal.ofBits .f32 0x3B124925#32 := by
  unfold ratio
  rw [ratio_read]
  have e : Host.reduce FloatOps.maximumf (Host.absf v1) (constant S_ .f32 0xFF800000#32) reducesTo_S4x32x16x128x128_S4x32x16_d3_4 h_S_ (ix3 b h n)
      = blockMax fun r l => v1 (ix5 b h n r l) := by
    refine eq_blockMax _ _ fun z => ?_
    rw [reduce_read]
    exact Iff.rfl
  rw [e]
  rfl

/-- A maximum over all powers, bounded. -/
theorem fold_drop6 (f : S4x32x16x1x1x277.Idx → EReal) (z : EReal) :
    Finset.fold max ⊥ f {i | reducesTo_S4x32x16x1x1x277_S4x32x16x1x1_d5.drop i = ix5 b h n 0 0} ≤ z ↔ ∀ k, f (ix6 b h n 0 0 k) ≤ z := by
  rw [Finset.fold_max_le]
  refine ⟨fun H k => H.2 _ ?_, fun H => ⟨bot_le, fun i hi => ?_⟩⟩
  · rw [Finset.mem_filter]
    exact ⟨Finset.mem_univ _, drop6 ..⟩
  · obtain ⟨b', h', n', r', l', k, rfl⟩ : ∃ b' h' n' r' l' k, i = ix6 b' h' n' r' l' k := ⟨i 0, i 1, i 2, i 3, i 4, i 5, eq_ix6 i⟩
    have e : (ix5 b' h' n' r' l' : S4x32x16x1x1.Idx) = ix5 b h n 0 0 := (drop6 ..).symm.trans (Finset.mem_filter.mp hi).2
    obtain ⟨rfl, rfl, rfl, rfl, rfl⟩ := (ix5_inj _ _ _ _ _ _ _ _ _ _).mp e
    exact H _

/-- The power above is the power of two that the kernel finds. -/
theorem above_apply (t : FVec Ideal S4x32x16x1x1 .f32) : above (powers lit0) t (ix5 b h n 0 0) = scaleOf (t (ix5 b h n 0 0)) := by
  have two : Ideal.ofBits .f32 0x40000000#32 = p2 1 := word 128 (by decide) (by decide)
  unfold above scaleOf
  pointwise
  rw [word_top, word_bot]
  have e1 : Finset.fold max ⊥ (fun x : S4x32x16x1x1x277.Idx => if powers lit0 (ix1 (x 5)) ≤ t (ix5 (x 0) (x 1) (x 2) 0 0) then
            Ideal.ofBits .f32 0x40000000#32 * powers lit0 (ix1 (x 5)) else id (constant S_ .f32 1#32) ix0)
        {i | reducesTo_S4x32x16x1x1x277_S4x32x16x1x1_d5.drop i = ix5 b h n 0 0}
      = Finset.univ.fold max ⊥ fun j : Fin 277 => if p2 ((j.val : ℤ) - 149) ≤ t (ix5 b h n 0 0) then p2 ((j.val : ℤ) - 148) else p2 (-149) := by
    refine eq_of_forall_ge_iff fun z => ?_
    rw [fold_drop6, Finset.fold_max_le]
    have e2 : ∀ k : Fin 277, (if powers lit0 (ix1 k) ≤ t (ix5 b h n 0 0) then Ideal.ofBits .f32 0x40000000#32 * powers lit0 (ix1 k)
          else id (constant (F := Ideal) S_ .f32 1#32) ix0)
        = if p2 ((k.val : ℤ) - 149) ≤ t (ix5 b h n 0 0) then p2 ((k.val : ℤ) - 148) else p2 (-149) := by
      intro k
      rw [powers_apply, two, p2_mul, show (1 : ℤ) + ((k.val : ℤ) - 149) = (k.val : ℤ) - 148 by ring]
      congr 1
      exact word_least
    exact ⟨fun H => ⟨bot_le, fun k _ => by rw [← e2]; exact H k⟩, fun H k => by
      have := H.2 k (Finset.mem_univ _)
      rw [← e2] at this
      exact this⟩
  rw [e1]
  by_cases h1 : 0 < t (ix5 b h n 0 0) <;> by_cases h2 : t (ix5 b h n 0 0) < ⊤
  · rw [if_pos ⟨h1, h2⟩]; simp [h1, h2, IntOp.andi, Scalar.select]
  · rw [if_neg (fun hc => h2 hc.2)]; simp [h1, h2, IntOp.andi, Scalar.select]; exact Ideal.ofBits_one_f32
  · rw [if_neg (fun hc => h1 hc.1)]; simp [h1, h2, IntOp.andi, Scalar.select]; exact Ideal.ofBits_one_f32
  · rw [if_neg (fun hc => h1 hc.1)]; simp [h1, h2, IntOp.andi, Scalar.select]; exact Ideal.ofBits_one_f32

/-- The reference's scales. -/
theorem scalesOf_apply : scalesOf X (ix5 b h n 0 0)
    = blockScale fun (r l : Fin 128) => X (ix3 b ⟨128 * n.val + r.val, by omega⟩ ⟨128 * h.val + l.val, by omega⟩) := by
  unfold scalesOf
  rw [above_apply, ratio_apply]
  simp only [blocks_apply]
  rfl

/-- Clipping of the scaled entries, read at an index. -/
theorem coded_read (c d : FVec Ideal S_ .f32) (v : FVec Ideal S4x32x16x128x128 .f32) (sc : FVec Ideal S4x32x16x1x1 .f32) :
    minimumf (broadcastInDim S4x32x16x128x128 ![] bcast_S_S4x32x16x128x128 c) (maximumf (broadcastInDim S4x32x16x128x128 ![] bcast_S_S4x32x16x128x128 d)
      (mulf v (broadcastInDim S4x32x16x128x128 ![0, 1, 2, 3, 4] bcast_S4x32x16x1x1_S4x32x16x128x128_0_1_2_3_4 sc))) (ix5 b h n r l)
      = min (c ix0) (max (d ix0) (v (ix5 b h n r l) * sc (ix5 b h n 0 0))) := by
  pointwise

/-- One over a scale, read at a block. -/
theorem inv_read (sc : FVec Ideal S4x32x16x1x1 .f32) :
    Host.divf (broadcastInDim S4x32x16x1x1 ![] bcast_S_S4x32x16x1x1 (constant S_ .f32 0x3F800000#32)) sc (ix5 b h n 0 0) = Ideal.div 1 (sc (ix5 b h n 0 0)) := by
  pointwise

/-- The reference's codes. -/
theorem codesOf_apply : codesOf X (ix5 b h n r l)
    = clipE (X (ix3 b ⟨128 * n.val + r.val, by omega⟩ ⟨128 * h.val + l.val, by omega⟩)
      * Ideal.div 1 (blockScale fun (r l : Fin 128) => X (ix3 b ⟨128 * n.val + r.val, by omega⟩ ⟨128 * h.val + l.val, by omega⟩))) := by
  unfold codesOf coded
  rw [coded_read, inv_read, scalesOf_apply, blocks_apply]
  unfold clipE
  rfl

end Cert.ReferenceIdeal.Value
-- ==== Proof.Results.lean ====
module

public import proofs.«01_k».proof.Proof.Arrays
public import proofs.«01_k».proof.Proof.RefQuant

/-! # The codes and the scales

The reference's arrays of codes and of scales are the kernel's. -/

set_option maxRecDepth 16384

@[expose] public section

noncomputable section

namespace Cert.ReferenceIdeal.Value

open Idealize.ShloMosaic Idealize.SL.Sem Idealize.ShloMosaic.StableHlo
open Cert.ReferenceIdeal Cert.ReferenceIdeal.Gen Cert.Pow
open Cert.KernelIdeal.Rolled (blockScale clipE codesArr scalesArr headBlock scRow_scOf codesV_apply)

variable (X : FVec Ideal S4x2048x4096 .f32)

/-- Blocks laid out as an argument is, read at a place. -/
theorem unblock_read (v : FVec Ideal S4x32x16x128x128 .f32) (b : Fin 4) (h : Fin 32) (n : Fin 16) (r l : Fin 128) :
    Host.convertf .fp8e4m3 (shapeCast S4x2048x4096 (transpose S4x16x128x32x128 [0, 2, 3, 1, 4] v transposes_S4x32x16x128x128_S4x16x128x32x128_0_2_3_1_4)
      shapeCasts_S4x16x128x32x128_S4x2048x4096) (ix3 b ⟨128 * n.val + r.val, by omega⟩ ⟨128 * h.val + l.val, by omega⟩) = v (ix5 b h n r l) := by
  pointwise

/-- Scales without their unit axes. -/
theorem squeeze_read (v : FVec Ideal S4x32x16x1x1 .f32) (b : Fin 4) (h : Fin 32) (n : Fin 16) :
    shapeCast S4x32x16 v shapeCasts_S4x32x16x1x1_S4x32x16 (ix3 b h n) = v (ix5 b h n 0 0) := by
  pointwise

/-- The kernel's codes at a place. -/
theorem codesArr_apply (b : Fin 4) (h : Fin 32) (n : Fin 16) (r l : Fin 128) :
    codesArr X (ix3 b ⟨128 * n.val + r.val, by omega⟩ ⟨128 * h.val + l.val, by omega⟩) = codesOf X (ix5 b h n r l) := by
  rw [codesOf_apply]
  refine Eq.trans ?_ (codesV_apply (headBlock X b h) n r l)
  have e1 : (⟨(128 * h.val + l.val) / 128, by omega⟩ : Fin 32) = h := Fin.ext (by show (128 * h.val + l.val) / 128 = h.val; omega)
  have e2 : (⟨(128 * h.val + l.val) % 128, by omega⟩ : Fin 128) = l := Fin.ext (by show (128 * h.val + l.val) % 128 = l.val; omega)
  exact congr (congrArg (fun z => Cert.KernelIdeal.Rolled.codesV (F := Ideal) (headBlock (α := EReal) X b z)) e1) (congrArg (fun z : Fin 128 => (ix3 0 _ z : Cert.KernelIdeal.S1x2048x128.Idx)) e2)

/-- The reference's codes, laid out as the argument is, are the kernel's. -/
theorem codes_back : Host.convertf .fp8e4m3 (shapeCast S4x2048x4096 (transpose S4x16x128x32x128 [0, 2, 3, 1, 4] (codesOf X)
    transposes_S4x32x16x128x128_S4x16x128x32x128_0_2_3_1_4) shapeCasts_S4x16x128x32x128_S4x2048x4096) = codesArr X := by
  funext i
  obtain ⟨b, R, C, rfl⟩ : ∃ (b : Fin 4) (R : Fin 2048) (C : Fin 4096), i = ix3 b R C := ⟨i 0, i 1, i 2, eq_ix3 i⟩
  have eR : R = ⟨128 * (⟨R.val / 128, by omega⟩ : Fin 16).val + (⟨R.val % 128, by omega⟩ : Fin 128).val, by show 128 * (R.val / 128) + R.val % 128 < 2048; omega⟩ :=
    Fin.ext (by show R.val = 128 * (R.val / 128) + R.val % 128; omega)
  have eC : C = ⟨128 * (⟨C.val / 128, by omega⟩ : Fin 32).val + (⟨C.val % 128, by omega⟩ : Fin 128).val, by show 128 * (C.val / 128) + C.val % 128 < 4096; omega⟩ :=
    Fin.ext (by show C.val = 128 * (C.val / 128) + C.val % 128; omega)
  rw [eR, eC, unblock_read, codesArr_apply]

/-- The reference's scales are the kernel's. -/
theorem scales_back : shapeCast S4x32x16 (scalesOf X) shapeCasts_S4x32x16x1x1_S4x32x16 = scalesArr X := by
  funext i
  obtain ⟨b, h, n, rfl⟩ : ∃ (b : Fin 4) (h : Fin 32) (n : Fin 16), i = ix3 b h n := ⟨i 0, i 1, i 2, eq_ix3 i⟩
  rw [squeeze_read, scalesOf_apply]
  exact (scRow_scOf (headBlock X b h) n).symm

end Cert.ReferenceIdeal.Value
-- ==== Proof.Soft.lean ====
module

public import proofs.«01_k».proof.Proof.Pow

/-! # Attention over the reals

The attention of one head: codes and scales are real numbers, and every row's weights add up to a positive real. -/

set_option maxRecDepth 16384

@[expose] public section

noncomputable section

namespace Cert.Soft

open Idealize.ShloMosaic Idealize.SL.Sem Cert.Pow

/-- Codes of queries, keys and values by row and column; scales by block of rows. -/
structure In where
  q : Fin 2048 → Fin 128 → ℝ
  k : Fin 2048 → Fin 128 → ℝ
  v : Fin 2048 → Fin 128 → ℝ
  qs : Fin 16 → ℝ
  ks : Fin 16 → ℝ
  vs : Fin 16 → ℝ

/-- Row `x` of block `j`. -/
def place (j : Fin 16) (x : Fin 128) : Fin 2048 := ⟨128 * j.val + x.val, by omega⟩

/-- The block of a row. -/
def blk (r : Fin 2048) : Fin 16 := ⟨r.val / 128, by omega⟩

/-- The block of a place. -/
theorem blk_place (j : Fin 16) (x : Fin 128) : blk (place j x) = j := Fin.ext (by show (128 * j.val + x.val) / 128 = j.val; omega)

/-- Every row is a row of a block. -/
theorem place_all (r : Fin 2048) : place (blk r) ⟨r.val % 128, Nat.mod_lt _ (by decide)⟩ = r := Fin.ext (by show 128 * (r.val / 128) + r.val % 128 = r.val; omega)

/-- The scale of the scores: the f32 nearest to the reciprocal of the square root of 128. -/
def scaleR : ℝ := 11863283 / 134217728

variable (D : In)

/-- The score of query row `r` and key row `c`. -/
def sc (r c : Fin 2048) : ℝ := (∑ l, D.q r l * D.k c l) * (D.qs (blk r) * scaleR) * D.ks (blk c)

/-- The largest score that a query row sees. -/
def top (r : Fin 2048) : ℝ := (Finset.univ.filter (· ≤ r)).sup' ⟨r, by simp⟩ (sc D r)

/-- No score is above the largest. -/
theorem sc_le_top {r c : Fin 2048} (h : c ≤ r) : sc D r c ≤ top D r :=
  Finset.le_sup' (sc D r) (by simpa using h)

/-- The largest score is one of the scores. -/
theorem top_mem (r : Fin 2048) : ∃ c, c ≤ r ∧ sc D r c = top D r := by
  obtain ⟨c, hc, h⟩ := Finset.exists_mem_eq_sup' (s := Finset.univ.filter (· ≤ r)) ⟨r, by simp⟩ (sc D r)
  exact ⟨c, by simpa using hc, h.symm⟩

/-- The weight of key row `c` for query row `r`. -/
def w (r c : Fin 2048) : ℝ := if c ≤ r then Real.exp (sc D r c - top D r) else 0

/-- A weight is not negative. -/
theorem w_nonneg (r c : Fin 2048) : 0 ≤ w D r c := by
  unfold w
  split
  · exact (Real.exp_pos _).le
  · exact le_rfl

/-- A weight is at most one. -/
theorem w_le_one (r c : Fin 2048) : w D r c ≤ 1 := by
  unfold w
  split
  · rename_i h
    rw [Real.exp_le_one_iff, sub_nonpos]
    exact sc_le_top D h
  · exact zero_le_one

/-- One weight of a row is one. -/
theorem w_top (r : Fin 2048) : ∃ c, w D r c = 1 := by
  obtain ⟨c, hc, h⟩ := top_mem D r
  exact ⟨c, by unfold w; rw [if_pos hc, h, sub_self, Real.exp_zero]⟩

/-- The sum of a row's weights. -/
def tot (r : Fin 2048) : ℝ := ∑ c, w D r c

/-- The sum of weights is positive. -/
theorem tot_pos (r : Fin 2048) : 0 < tot D r := by
  obtain ⟨c, hc⟩ := w_top D r
  exact Finset.sum_pos' (fun c _ => w_nonneg D r c) ⟨c, Finset.mem_univ _, by rw [hc]; exact one_pos⟩

/-- The products of the weights' codes and a column of values, block by block, times the blocks' scales. -/
def acc (r : Fin 2048) (l : Fin 128) : ℝ := ∑ j : Fin 16, (∑ x : Fin 128, (w D r (place j x) * 256) * D.v (place j x) l) * D.vs j

/-- The attention's output. -/
def out (r : Fin 2048) (l : Fin 128) : ℝ := acc D r l * ((256 : ℝ)⁻¹ * (tot D r)⁻¹)

/-- Sums of reals are the same over the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over all rows, block by block. -/
theorem sum_place {M : Type*} [AddCommMonoid M] (f : Fin 2048 → M) : ∑ c, f c = ∑ j : Fin 16, ∑ x : Fin 128, f (place j x) := by
  rw [← Finset.sum_product', Finset.univ_product_univ]
  refine (Fintype.sum_bijective (fun p : Fin 16 × Fin 128 => place p.1 p.2) ⟨?_, ?_⟩ _ _ fun p => rfl).symm
  · rintro ⟨j, x⟩ ⟨j', x'⟩ h
    have h : 128 * j.val + x.val = 128 * j'.val + x'.val := congrArg Fin.val h
    exact Prod.ext (Fin.ext (by show j.val = j'.val; omega)) (Fin.ext (by show x.val = x'.val; omega))
  · exact fun r => ⟨(blk r, ⟨r.val % 128, Nat.mod_lt _ (by decide)⟩), place_all r⟩

/-- The masked score. -/
def scE (r c : Fin 2048) : EReal := if c ≤ r then ((sc D r c : ℝ) : EReal) else ⊥

/-- Its bounds are those of the largest score seen. -/
theorem top_le (r : Fin 2048) (z : EReal) : ((top D r : ℝ) : EReal) ≤ z ↔ ∀ c, scE D r c ≤ z := by
  unfold scE
  constructor
  · intro h c
    split
    · rename_i hc
      exact (EReal.coe_le_coe_iff.mpr (sc_le_top D hc)).trans h
    · exact bot_le
  · intro h
    obtain ⟨c, hc, e⟩ := top_mem D r
    have := h c
    rwa [if_pos hc, e] at this

/-- The weight as the exponential of the masked score less the largest. -/
theorem exp_scE (r c : Fin 2048) : Ideal.exp (scE D r c - ((top D r : ℝ) : EReal)) = ((w D r c : ℝ) : EReal) := by
  unfold scE w
  split
  · rw [← EReal.coe_sub]; rfl
  · rw [EReal.bot_sub]; rfl

/-- The logarithm to base two. -/
def lb : ℝ := (Real.log 2)⁻¹

/-- One over the logarithm of two is positive. -/
theorem lb_pos : 0 < lb := inv_pos.mpr (Real.log_pos one_lt_two)

/-- The masked score for powers of two. -/
def tE (r c : Fin 2048) : EReal := if c ≤ r then ((sc D r c * lb : ℝ) : EReal) else ⊥

/-- The largest rescaled score, bounded. -/
theorem topl_le (r : Fin 2048) (z : EReal) : ((top D r * lb : ℝ) : EReal) ≤ z ↔ ∀ c, tE D r c ≤ z := by
  unfold tE
  constructor
  · intro h c
    split
    · rename_i hc
      exact (EReal.coe_le_coe_iff.mpr (mul_le_mul_of_nonneg_right (sc_le_top D hc) lb_pos.le)).trans h
    · exact bot_le
  · intro h
    obtain ⟨c, hc, e⟩ := top_mem D r
    have := h c
    rwa [if_pos hc, e] at this

/-- The weight, times 256, as a power of two. -/
theorem exp2_tE (r c : Fin 2048) : Ideal.exp2 (tE D r c - ((top D r * lb + -8 : ℝ) : EReal)) = ((w D r c * 256 : ℝ) : EReal) := by
  unfold tE w
  split
  · rw [← EReal.coe_sub]
    show ((Real.rpow 2 _ : ℝ) : EReal) = _
    congr 1
    show (2 : ℝ) ^ (sc D r c * lb - (top D r * lb + -8) : ℝ) = _
    have hl : Real.log 2 ≠ 0 := (Real.log_pos one_lt_two).ne'
    have e : sc D r c * lb - (top D r * lb + -8) = (sc D r c - top D r) * lb + 8 := by ring
    rw [e, Real.rpow_add two_pos, Real.rpow_def_of_pos two_pos, show Real.log 2 * ((sc D r c - top D r) * lb) = sc D r c - top D r by unfold lb; field_simp]
    congr 1
    norm_num
  · rw [EReal.bot_sub]; simp

/-- The word of 448. -/
theorem w448 : Ideal.ofBits .f32 0x43E00000#32 = ((448 : ℝ) : EReal) := by
  simp [Ideal.ofBits, Ideal.ieee, -EReal.coe_mul]; norm_num
/-- The word of -448. -/
theorem wm448 : Ideal.ofBits .f32 0xC3E00000#32 = ((-448 : ℝ) : EReal) := by
  simp [Ideal.ofBits, Ideal.ieee, -EReal.coe_mul]; norm_num
/-- The word of one over 448. -/
theorem wr448 : Ideal.ofBits .f32 0x3B124925#32 = ((9586981 / 4294967296 : ℝ) : EReal) := by
  simp [Ideal.ofBits, Ideal.ieee, -EReal.coe_mul]; norm_num
/-- The word of the reference's softmax scale. -/
theorem wscale : Ideal.ofBits .f32 0x3DB504F3#32 = ((scaleR : ℝ) : EReal) := by
  unfold scaleR
  simp [Ideal.ofBits, Ideal.ieee, -EReal.coe_mul]; norm_num

/-- A weight's code is not clipped. -/
theorem clip_w (r c : Fin 2048) : min (Ideal.ofBits .f32 0x43E00000#32) (max (Ideal.ofBits .f32 0xC3E00000#32) ((w D r c * 256 : ℝ) : EReal)) = ((w D r c * 256 : ℝ) : EReal) := by
  have h0 := w_nonneg D r c
  have h1 := w_le_one D r c
  rw [w448, wm448, max_eq_right (EReal.coe_le_coe_iff.mpr (by linarith)), min_eq_right (EReal.coe_le_coe_iff.mpr (by linarith))]

/-- The scale for a largest weight of one. -/
theorem scale_one : scaleOf (1 * Ideal.ofBits .f32 0x3B124925#32) = p2 (-8) := by
  rw [one_mul, wr448]
  have a1 : p2 (-9) ≤ ((9586981 / 4294967296 : ℝ) : EReal) := by
    unfold p2
    rw [EReal.coe_le_coe_iff]; norm_num
  have a2 : ((9586981 / 4294967296 : ℝ) : EReal) < p2 (-8) := by
    unfold p2
    rw [EReal.coe_lt_coe_iff]; norm_num
  refine scaleOf_eq ⟨by norm_num, EReal.coe_lt_top _⟩ (by norm_num) (by norm_num) fun j _ _ => ⟨fun h => ?_, fun h => ?_⟩
  · by_contra hc
    exact absurd ((p2_le.mpr (show (-8 : ℤ) ≤ j by omega)).trans h) (not_le.mpr a2)
  · exact (p2_le.mpr (show j ≤ (-9 : ℤ) by omega)).trans a1

/-- The power of exponent -8. -/
theorem p2_m8 : p2 (-8) = (((256 : ℝ)⁻¹ : ℝ) : EReal) := by
  unfold p2
  congr 1
  norm_num

/-- The exponent for a largest weight of one. -/
theorem expo_one : expoS 1 = wd (-8) := by
  obtain ⟨e, _, _, h, h'⟩ := expoS_eq 1
  rw [scale_one] at h'
  rw [h, show e = -8 from le_antisymm (p2_le.mp h'.ge) (p2_le.mp h'.le)]

/-- A clipped value is a real number. -/
theorem clipE_real (x : EReal) : ∃ a : ℝ, min (Ideal.ofBits .f32 0x43E00000#32) (max (Ideal.ofBits .f32 0xC3E00000#32) x) = (a : EReal) := by
  rw [w448, wm448]
  induction x with
  | bot => exact ⟨-448, by rw [max_eq_left bot_le, min_eq_right (EReal.coe_le_coe_iff.mpr (by norm_num))]⟩
  | top => exact ⟨448, by rw [max_eq_right le_top, min_eq_left le_top]⟩
  | coe a => exact ⟨min 448 (max (-448) a), by rw [EReal.coe_strictMono.monotone.map_min, EReal.coe_strictMono.monotone.map_max]⟩

/-- A scale is a real number. -/
theorem scaleOf_real (a : EReal) : ∃ s : ℝ, scaleOf (a * Ideal.ofBits .f32 0x3B124925#32) = (s : EReal) := by
  obtain ⟨e, _, _, _, h⟩ := expoS_eq a
  exact ⟨_, h⟩

end Cert.Soft
-- ==== Proof.RScore.lean ====
module

public import proofs.«01_k».proof.Proof.RefQuant
public import proofs.«01_k».proof.Proof.Soft

/-! # The reference's attention, over the reals

The scores, the weights, their scales and the output, each read at an index. -/

set_option maxRecDepth 16384

@[expose] public section

noncomputable section

namespace Cert.ReferenceIdeal.Value

open Idealize.ShloMosaic Idealize.SL.Sem Idealize.ShloMosaic.StableHlo
open Cert.ReferenceIdeal Cert.ReferenceIdeal.Gen Cert.Pow
open Cert.KernelIdeal.Rolled (ab blockMax blockMax_le eq_blockMax blockScale clipE)
open Cert.Soft (In place scE scaleR blk_place)

/-- The masked scores. -/
def scoresR (q k : FVec Ideal S4x32x16x128x128 .f32) (qs ks : FVec Ideal S4x32x16x1x1 .f32) : FVec Ideal S4x32x2048x2048 .f32 :=
  select (broadcastInDim S4x32x2048x2048 ![2, 3] bcast_S2048x2048_S4x32x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (mulf (mulf (Host.dotGeneral dot_S4x32x2048x128_S4x32x2048x128_S4x32x2048x2048_3_3_2_2_01_01 none (shapeCast _ q shapeCasts_S4x32x16x128x128_S4x32x2048x128) (shapeCast _ k shapeCasts_S4x32x16x128x128_S4x32x2048x128)) (broadcastInDim S4x32x2048x2048 ![0, 1, 2, 3] bcast_S4x32x2048x1_S4x32x2048x2048_0_1_2_3 (broadcastInDim S4x32x2048x1 ![0, 1, 2] bcast_S4x32x2048_S4x32x2048x1_0_1_2 (shapeCast _ (broadcastInDim S4x32x16x128 ![0, 1, 2] bcast_S4x32x16_S4x32x16x128_0_1_2 (mulf (shapeCast _ qs shapeCasts_S4x32x16x1x1_S4x32x16) (broadcastInDim S4x32x16 ![] bcast_S_S4x32x16 (constant S_ .f32 0x3DB504F3#32)))) shapeCasts_S4x32x16x128_S4x32x2048)))) (broadcastInDim S4x32x2048x2048 ![0, 1, 2, 3] bcast_S4x32x1x2048_S4x32x2048x2048_0_1_2_3 (broadcastInDim S4x32x1x2048 ![0, 1, 3] bcast_S4x32x2048_S4x32x1x2048_0_1_3 (shapeCast _ (broadcastInDim S4x32x16x128 ![0, 1, 2] bcast_S4x32x16_S4x32x16x128_0_1_2 (shapeCast _ ks shapeCasts_S4x32x16x1x1_S4x32x16)) shapeCasts_S4x32x16x128_S4x32x2048)))) (broadcastInDim S4x32x2048x2048 ![] bcast_S_S4x32x2048x2048 (id (constant S_ .f32 0xFF800000#32)))

/-- The weights. -/
def weightsR (s : FVec Ideal S4x32x2048x2048 .f32) : FVec Ideal S4x32x2048x2048 .f32 :=
  Host.exp (subf s (broadcastInDim S4x32x2048x2048 ![0, 1, 2, 3] bcast_S4x32x2048x1_S4x32x2048x2048_0_1_2_3 (broadcastInDim S4x32x2048x1 ![0, 1, 2] bcast_S4x32x2048_S4x32x2048x1_0_1_2 (Host.reduce FloatOps.maximumf s (constant S_ .f32 0xFF800000#32) reducesTo_S4x32x2048x2048_S4x32x2048_d3 h_S_))))

/-- The weights by blocks. -/
def blocksW (w : FVec Ideal S4x32x2048x2048 .f32) : FVec Ideal S4x32x16x128x2048 .f32 :=
  shapeCast _ w shapeCasts_S4x32x2048x2048_S4x32x16x128x2048

/-- The weights' maxima over 448. -/
def ratioW (p : FVec Ideal S4x32x16x128x2048 .f32) : FVec Ideal S4x32x16x1x1 .f32 :=
  mulf (broadcastInDim S4x32x16x1x1 ![0, 1, 2] bcast_S4x32x16_S4x32x16x1x1_0_1_2 (Host.reduce FloatOps.maximumf (Host.absf p) (constant S_ .f32 0xFF800000#32) reducesTo_S4x32x16x128x2048_S4x32x16_d3_4 h_S_)) (broadcastInDim S4x32x16x1x1 ![] bcast_S_S4x32x16x1x1 (constant S_ .f32 0x3B124925#32))

/-- The weights' codes. -/
def codesW (p : FVec Ideal S4x32x16x128x2048 .f32) (ps : FVec Ideal S4x32x16x1x1 .f32) : FVec Ideal S4x32x16x128x2048 .f32 :=
  minimumf (broadcastInDim S4x32x16x128x2048 ![] bcast_S_S4x32x16x128x2048 (id (constant S_ .f32 0x43E00000#32))) (maximumf (broadcastInDim S4x32x16x128x2048 ![] bcast_S_S4x32x16x128x2048 (id (constant S_ .f32 0xC3E00000#32))) (mulf p (broadcastInDim S4x32x16x128x2048 ![0, 1, 2, 3, 4] bcast_S4x32x16x1x1_S4x32x16x128x2048_0_1_2_3_4 (Host.divf (broadcastInDim S4x32x16x1x1 ![] bcast_S_S4x32x16x1x1 (constant S_ .f32 0x3F800000#32)) ps))))

/-- The output. -/
def outR (w : FVec Ideal S4x32x2048x2048 .f32) (p : FVec Ideal S4x32x16x128x2048 .f32) (ps : FVec Ideal S4x32x16x1x1 .f32) (v : FVec Ideal S4x32x16x128x128 .f32)
    (vs : FVec Ideal S4x32x16x1x1 .f32) : FVec Ideal S4x2048x4096 .f32 :=
  shapeCast _ (transpose S4x16x128x32x128 [0, 2, 3, 1, 4] (shapeCast _ (mulf (Host.reduceAdd (mulf (Host.dotGeneral dot_S4x32x2048x16x128_S4x32x16x128x128_S4x32x16x2048x128_4_3_2_4_013_012 none (shapeCast _ (codesW p ps) shapeCasts_S4x32x16x128x2048_S4x32x2048x16x128) v) (broadcastInDim S4x32x16x2048x128 ![0, 1, 2, 3, 4] bcast_S4x32x16x1x1_S4x32x16x2048x128_0_1_2_3_4 (broadcastInDim S4x32x16x1x1 ![0, 1, 2] bcast_S4x32x16_S4x32x16x1x1_0_1_2 (shapeCast _ vs shapeCasts_S4x32x16x1x1_S4x32x16)))) (constant S_ .f32 0x00000000#32) reducesTo_S4x32x16x2048x128_S4x32x2048x128_d2 h_S_) (broadcastInDim S4x32x2048x128 ![0, 1, 2, 3] bcast_S4x32x2048x1_S4x32x2048x128_0_1_2_3 (broadcastInDim S4x32x2048x1 ![0, 1, 2] bcast_S4x32x2048_S4x32x2048x1_0_1_2 (Host.divf (shapeCast _ (broadcastInDim S4x32x16x128 ![0, 1, 2] bcast_S4x32x16_S4x32x16x128_0_1_2 (shapeCast _ ps shapeCasts_S4x32x16x1x1_S4x32x16)) shapeCasts_S4x32x16x128_S4x32x2048) (Host.reduceAdd w (constant S_ .f32 0x00000000#32) reducesTo_S4x32x2048x2048_S4x32x2048_d3 h_S_))))) shapeCasts_S4x32x2048x128_S4x32x16x128x128) transposes_S4x32x16x128x128_S4x16x128x32x128_0_2_3_1_4) shapeCasts_S4x16x128x32x128_S4x2048x4096

section
variable (V : Valuation τ sig (Elt Ideal))

/-- The run's scores are those defined above. -/
theorem v106_eq : res_main_v106 V = scoresR (res_main_v26 V) (res_main_v54 V) (res_main_v21 V) (res_main_v49 V) := rfl
/-- The run's weights are those defined above. -/
theorem v111_eq : res_main_v111 V = weightsR (res_main_v106 V) := rfl
/-- The run's blocks of weights are those defined above. -/
theorem v113_eq : res_main_v113 V = blocksW (res_main_v111 V) := rfl
/-- The run's scales of the weights are powers of two of their maxima. -/
theorem v133_eq : res_main_v133 V = above (powers lit0) (ratioW (res_main_v113 V)) := rfl
end

variable (b : Fin 4) (h : Fin 32)

/-- Positions compare as words as they do as numbers. -/
theorem causal_word (r c : Fin 2048) : (BitVec.ofNat 32 c.val).sle (BitVec.ofNat 32 r.val) = decide (c ≤ r) := by
  have hr : (BitVec.ofNat 32 r.val).toInt = r.val := by
    rw [BitVec.toInt_eq_toNat_of_lt (by rw [BitVec.toNat_ofNat]; omega), BitVec.toNat_ofNat]; omega
  have hc : (BitVec.ofNat 32 c.val).toInt = c.val := by
    rw [BitVec.toInt_eq_toNat_of_lt (by rw [BitVec.toNat_ofNat]; omega), BitVec.toNat_ofNat]; omega
  rw [BitVec.sle_eq_decide, hr, hc]
  exact decide_eq_decide.mpr (by rw [Nat.cast_le]; exact Iff.rfl)

/-- Codes of all rows, read. -/
theorem flat_read (q : FVec Ideal S4x32x16x128x128 .f32) (n : Fin 16) (x l : Fin 128) :
    shapeCast S4x32x2048x128 q shapeCasts_S4x32x16x128x128_S4x32x2048x128 (ix4 b h (place n x) l) = q (ix5 b h n x l) := by
  unfold Cert.Soft.place
  pointwise

/-- Scales of all rows, read. -/
theorem rep_read (s : FVec Ideal S4x32x16 .f32) (n : Fin 16) (x : Fin 128) :
    shapeCast S4x32x2048 (broadcastInDim S4x32x16x128 ![0, 1, 2] bcast_S4x32x16_S4x32x16x128_0_1_2 s) shapeCasts_S4x32x16x128_S4x32x2048 (ix3 b h (place n x))
      = s (ix3 b h n) := by
  unfold Cert.Soft.place
  pointwise

/-- The masked scores, read at an index. -/
theorem scoresR_apply (q k : FVec Ideal S4x32x16x128x128 .f32) (qs ks : FVec Ideal S4x32x16x1x1 .f32) (r c : Fin 2048) :
    scoresR q k qs ks (ix4 b h r c) = if c ≤ r then
        (∑ l : Fin 128, (shapeCast S4x32x2048x128 q shapeCasts_S4x32x16x128x128_S4x32x2048x128 (ix4 b h r l) : EReal) * shapeCast S4x32x2048x128 k shapeCasts_S4x32x16x128x128_S4x32x2048x128 (ix4 b h c l))
          * shapeCast S4x32x2048 (broadcastInDim S4x32x16x128 ![0, 1, 2] bcast_S4x32x16_S4x32x16x128_0_1_2 (mulf (shapeCast _ qs shapeCasts_S4x32x16x1x1_S4x32x16) (broadcastInDim S4x32x16 ![] bcast_S_S4x32x16 (constant S_ .f32 0x3DB504F3#32)))) shapeCasts_S4x32x16x128_S4x32x2048 (ix3 b h r)
          * shapeCast S4x32x2048 (broadcastInDim S4x32x16x128 ![0, 1, 2] bcast_S4x32x16_S4x32x16x128_0_1_2 (shapeCast _ ks shapeCasts_S4x32x16x1x1_S4x32x16)) shapeCasts_S4x32x16x128_S4x32x2048 (ix3 b h c)
      else ⊥ := by
  unfold scoresR
  generalize shapeCast S4x32x2048x128 q shapeCasts_S4x32x16x128x128_S4x32x2048x128 = q'
  generalize shapeCast S4x32x2048x128 k shapeCasts_S4x32x16x128x128_S4x32x2048x128 = k'
  generalize shapeCast S4x32x2048 (broadcastInDim S4x32x16x128 ![0, 1, 2] bcast_S4x32x16_S4x32x16x128_0_1_2 (mulf (shapeCast _ qs shapeCasts_S4x32x16x1x1_S4x32x16) (broadcastInDim S4x32x16 ![] bcast_S_S4x32x16 (constant S_ .f32 0x3DB504F3#32)))) shapeCasts_S4x32x16x128_S4x32x2048 = qs'
  generalize shapeCast S4x32x2048 (broadcastInDim S4x32x16x128 ![0, 1, 2] bcast_S4x32x16_S4x32x16x128_0_1_2 (shapeCast _ ks shapeCasts_S4x32x16x1x1_S4x32x16)) shapeCasts_S4x32x16x128_S4x32x2048 = ks'
  pointwise
  by_cases hc : c ≤ r
  · rw [if_pos hc]
    simp [IntOp.cmpi, Scalar.select, causal_word, hc]
  · rw [if_neg hc]
    simp [IntOp.cmpi, Scalar.select, causal_word, hc]
    exact word_bot

/-- The queries' scale times the softmax scale, read at a block. -/
theorem qscale_read (qs : FVec Ideal S4x32x16x1x1 .f32) (n : Fin 16) :
    mulf (shapeCast S4x32x16 qs shapeCasts_S4x32x16x1x1_S4x32x16) (broadcastInDim S4x32x16 ![] bcast_S_S4x32x16 (constant S_ .f32 0x3DB504F3#32)) (ix3 b h n)
      = qs (ix5 b h n 0 0) * Ideal.ofBits .f32 0x3DB504F3#32 := by
  pointwise

/-- Scales without unit axes, read at a block. -/
theorem squeeze5 (v : FVec Ideal S4x32x16x1x1 .f32) (n : Fin 16) : shapeCast S4x32x16 v shapeCasts_S4x32x16x1x1_S4x32x16 (ix3 b h n) = v (ix5 b h n 0 0) := by
  pointwise

/-- The arrays hold the head's codes and scales. -/
structure RepR (q k v : FVec Ideal S4x32x16x128x128 .f32) (qs ks vs : FVec Ideal S4x32x16x1x1 .f32) (b : Fin 4) (h : Fin 32) (E : In) : Prop where
  q : ∀ n x l, q (ix5 b h n x l) = ((E.q (place n x) l : ℝ) : EReal)
  k : ∀ n x l, k (ix5 b h n x l) = ((E.k (place n x) l : ℝ) : EReal)
  v : ∀ n x l, v (ix5 b h n x l) = ((E.v (place n x) l : ℝ) : EReal)
  qs : ∀ n, qs (ix5 b h n 0 0) = ((E.qs n : ℝ) : EReal)
  ks : ∀ n, ks (ix5 b h n 0 0) = ((E.ks n : ℝ) : EReal)
  vs : ∀ n, vs (ix5 b h n 0 0) = ((E.vs n : ℝ) : EReal)

variable {b h}
variable {q k v : FVec Ideal S4x32x16x128x128 .f32} {qs ks vs : FVec Ideal S4x32x16x1x1 .f32} {E : In}

/-- The masked scores are the reals'. -/
theorem scores_eq (H : RepR q k v qs ks vs b h E) (r c : Fin 2048) : scoresR q k qs ks (ix4 b h r c) = scE E r c := by
  rw [scoresR_apply]
  unfold Cert.Soft.scE
  by_cases hc : c ≤ r
  · rw [if_pos hc, if_pos hc]
    unfold Cert.Soft.sc
    have eq : ∀ l, shapeCast S4x32x2048x128 q shapeCasts_S4x32x16x128x128_S4x32x2048x128 (ix4 b h r l) = ((E.q r l : ℝ) : EReal) := by
      intro l
      rw [← Cert.Soft.place_all r, flat_read, H.q]
    have ek : ∀ l, shapeCast S4x32x2048x128 k shapeCasts_S4x32x16x128x128_S4x32x2048x128 (ix4 b h c l) = ((E.k c l : ℝ) : EReal) := by
      intro l
      rw [← Cert.Soft.place_all c, flat_read, H.k]
    have e1 : shapeCast S4x32x2048 (broadcastInDim S4x32x16x128 ![0, 1, 2] bcast_S4x32x16_S4x32x16x128_0_1_2 (mulf (shapeCast _ qs shapeCasts_S4x32x16x1x1_S4x32x16) (broadcastInDim S4x32x16 ![] bcast_S_S4x32x16 (constant S_ .f32 0x3DB504F3#32)))) shapeCasts_S4x32x16x128_S4x32x2048 (ix3 b h r)
        = ((E.qs (Cert.Soft.blk r) * scaleR : ℝ) : EReal) := by
      conv_lhs => rw [← Cert.Soft.place_all r]
      rw [rep_read, qscale_read, H.qs, Cert.Soft.wscale, EReal.coe_mul]
    have e2 : shapeCast S4x32x2048 (broadcastInDim S4x32x16x128 ![0, 1, 2] bcast_S4x32x16_S4x32x16x128_0_1_2 (shapeCast _ ks shapeCasts_S4x32x16x1x1_S4x32x16)) shapeCasts_S4x32x16x128_S4x32x2048 (ix3 b h c)
        = ((E.ks (Cert.Soft.blk c) : ℝ) : EReal) := by
      conv_lhs => rw [← Cert.Soft.place_all c]
      rw [rep_read, squeeze5, H.ks]
    simp only [eq, ek]
    rw [e1, e2]
    simp only [EReal.coe_mul, Cert.Soft.coe_sum]
  · rw [if_neg hc, if_neg hc]

/-- The index of a row, of an entry in it. -/
theorem drop4 (r c : Fin 2048) : reducesTo_S4x32x2048x2048_S4x32x2048_d3.drop (ix4 b h r c) = ix3 b h r := by
  funext a
  revert a
  rw [Fin.forall_fin_succ, Fin.forall_fin_succ, Fin.forall_fin_succ]
  exact ⟨rfl, rfl, rfl, fun a => a.elim0⟩

/-- A row's maximum, bounded. -/
theorem rowmax_le (s : FVec Ideal S4x32x2048x2048 .f32) (r : Fin 2048) (z : EReal) :
    Host.reduce FloatOps.maximumf s (constant S_ .f32 0xFF800000#32) reducesTo_S4x32x2048x2048_S4x32x2048_d3 h_S_ (ix3 b h r) ≤ z ↔ ∀ c, s (ix4 b h r c) ≤ z := by
  rw [Host.reduce_eq_fold]
  show Finset.fold max (Ideal.ofBits .f32 0xFF800000#32) s _ ≤ z ↔ _
  rw [word_bot, Finset.fold_max_le]
  refine ⟨fun H c => H.2 _ ?_, fun H => ⟨bot_le, fun i hi => ?_⟩⟩
  · rw [Finset.mem_filter]
    exact ⟨Finset.mem_univ _, drop4 ..⟩
  · obtain ⟨b', h', r', c', rfl⟩ : ∃ b' h' r' c', i = ix4 b' h' r' c' := ⟨i 0, i 1, i 2, i 3, eq_ix4 i⟩
    have e : (ix3 b' h' r' : S4x32x2048.Idx) = ix3 b h r := (drop4 ..).symm.trans (Finset.mem_filter.mp hi).2
    obtain ⟨rfl, rfl, rfl⟩ := (ix3_inj _ _ _ _ _ _).mp e
    exact H _

/-- A weight, read at an index. -/
theorem weights_read (s : FVec Ideal S4x32x2048x2048 .f32) (m : FVec Ideal S4x32x2048 .f32) (r c : Fin 2048) :
    Host.exp (subf s (broadcastInDim S4x32x2048x2048 ![0, 1, 2, 3] bcast_S4x32x2048x1_S4x32x2048x2048_0_1_2_3 (broadcastInDim S4x32x2048x1 ![0, 1, 2] bcast_S4x32x2048_S4x32x2048x1_0_1_2 m))) (ix4 b h r c)
      = Ideal.exp (s (ix4 b h r c) - m (ix3 b h r)) := by
  pointwise

/-- The weights are the reals'. -/
theorem weights_eq (s : FVec Ideal S4x32x2048x2048 .f32) (hs : ∀ r c, s (ix4 b h r c) = scE E r c) (r c : Fin 2048) :
    weightsR s (ix4 b h r c) = ((Cert.Soft.w E r c : ℝ) : EReal) := by
  have e : Host.reduce FloatOps.maximumf s (constant S_ .f32 0xFF800000#32) reducesTo_S4x32x2048x2048_S4x32x2048_d3 h_S_ (ix3 b h r) = ((Cert.Soft.top E r : ℝ) : EReal) := by
    refine eq_of_forall_ge_iff fun z => ?_
    rw [rowmax_le, Cert.Soft.top_le]
    simp only [hs]
  unfold weightsR
  rw [weights_read, hs, ← Cert.Soft.exp_scE, e]

/-- The weights by blocks, read at an index. -/
theorem blocksW_read (w : FVec Ideal S4x32x2048x2048 .f32) (n : Fin 16) (x : Fin 128) (c : Fin 2048) :
    blocksW w (ix5 b h n x c) = w (ix4 b h (place n x) c) := by
  unfold blocksW Cert.Soft.place
  pointwise
  exact congrArg (fun z : Fin 2048 => w (ix4 b h z c)) (Fin.ext (by show n.val * 128 + x.val = 128 * n.val + x.val; omega))

/-- The index of a block, of an entry in it. -/
theorem drop5w (n : Fin 16) (r : Fin 128) (l : Fin 2048) : reducesTo_S4x32x16x128x2048_S4x32x16_d3_4.drop (ix5 b h n r l) = ix3 b h n := by
  funext a
  revert a
  rw [Fin.forall_fin_succ, Fin.forall_fin_succ, Fin.forall_fin_succ]
  exact ⟨rfl, rfl, rfl, fun a => a.elim0⟩

/-- A block's largest weight, bounded. -/
theorem blockmax_le (w : FVec Ideal S4x32x16x128x2048 .f32) (n : Fin 16) (z : EReal) :
    Host.reduce FloatOps.maximumf w (constant S_ .f32 0xFF800000#32) reducesTo_S4x32x16x128x2048_S4x32x16_d3_4 h_S_ (ix3 b h n) ≤ z
      ↔ ∀ x c, w (ix5 b h n x c) ≤ z := by
  rw [Host.reduce_eq_fold]
  show Finset.fold max (Ideal.ofBits .f32 0xFF800000#32) w _ ≤ z ↔ _
  rw [word_bot, Finset.fold_max_le]
  refine ⟨fun H r l => H.2 _ ?_, fun H => ⟨bot_le, fun i hi => ?_⟩⟩
  · rw [Finset.mem_filter]
    exact ⟨Finset.mem_univ _, drop5w ..⟩
  · obtain ⟨b', h', n', r', l', rfl⟩ : ∃ b' h' n' r' l', i = ix5 b' h' n' r' l' := ⟨i 0, i 1, i 2, i 3, i 4, eq_ix5 i⟩
    have e : (ix3 b' h' n' : S4x32x16.Idx) = ix3 b h n := (drop5w ..).symm.trans (Finset.mem_filter.mp hi).2
    obtain ⟨rfl, rfl, rfl⟩ := (ix3_inj _ _ _ _ _ _).mp e
    exact H _ _

/-- A weight is its own absolute value. -/
theorem abs_w (E : In) (r c : Fin 2048) : ab ((Cert.Soft.w E r c : ℝ) : EReal) = ((Cert.Soft.w E r c : ℝ) : EReal) := by
  show max ((Cert.Soft.w E r c : ℝ) : EReal) (-((Cert.Soft.w E r c : ℝ) : EReal)) = _
  rw [← EReal.coe_neg]
  exact max_eq_left (EReal.coe_le_coe_iff.mpr (by linarith [Cert.Soft.w_nonneg E r c]))

/-- The scale of a block of weights. -/
theorem wscale_eq (p : FVec Ideal S4x32x16x128x2048 .f32) (hp : ∀ n x c, p (ix5 b h n x c) = ((Cert.Soft.w E (place n x) c : ℝ) : EReal)) (n : Fin 16) :
    above (powers lit0) (ratioW p) (ix5 b h n 0 0) = p2 (-8) := by
  have e : ∀ x c, Host.absf p (ix5 b h n x c) = ((Cert.Soft.w E (place n x) c : ℝ) : EReal) := by
    intro x c
    show ab (p (ix5 b h n x c)) = _
    rw [hp]
    exact abs_w E _ _
  have e1 : Host.reduce FloatOps.maximumf (Host.absf p) (constant S_ .f32 0xFF800000#32) reducesTo_S4x32x16x128x2048_S4x32x16_d3_4 h_S_ (ix3 b h n) = 1 := by
    refine eq_of_forall_ge_iff fun z => ?_
    rw [blockmax_le]
    simp only [e]
    constructor
    · intro H
      obtain ⟨c, hc⟩ := Cert.Soft.w_top E (place n 0)
      have := H 0 c
      rwa [hc, EReal.coe_one] at this
    · intro H x c
      refine le_trans ?_ H
      rw [← EReal.coe_one, EReal.coe_le_coe_iff]
      exact Cert.Soft.w_le_one E _ _
  rw [above_apply, ← Cert.Soft.scale_one]
  unfold ratioW
  rw [ratio_read, e1]
  rfl

/-- A row's sum of weights. -/
theorem sum_read (w : FVec Ideal S4x32x2048x2048 .f32) (r : Fin 2048) :
    Host.reduceAdd w (constant S_ .f32 0x00000000#32) reducesTo_S4x32x2048x2048_S4x32x2048_d3 h_S_ (ix3 b h r) = ∑ c : Fin 2048, (w (ix4 b h r c) : EReal) := by
  pointwise

/-- The output laid out as the arguments are, read at an index. -/
theorem unflat_read (o : FVec Ideal S4x32x2048x128 .f32) (n : Fin 16) (x l : Fin 128) :
    shapeCast S4x2048x4096 (transpose S4x16x128x32x128 [0, 2, 3, 1, 4] (shapeCast S4x32x16x128x128 o shapeCasts_S4x32x2048x128_S4x32x16x128x128) transposes_S4x32x16x128x128_S4x16x128x32x128_0_2_3_1_4)
      shapeCasts_S4x16x128x32x128_S4x2048x4096 (ix3 b (place n x) ⟨128 * h.val + l.val, by omega⟩) = o (ix4 b h (place n x) l) := by
  unfold Cert.Soft.place
  pointwise
  exact congrArg (fun z : Fin 2048 => o (ix4 b h z l)) (Fin.ext (by show n.val * 128 + x.val = 128 * n.val + x.val; omega))

/-- The last scaling, read at an index. -/
theorem last_read (A : FVec Ideal S4x32x2048x128 .f32) (B C : FVec Ideal S4x32x2048 .f32) (r : Fin 2048) (l : Fin 128) :
    mulf A (broadcastInDim S4x32x2048x128 ![0, 1, 2, 3] bcast_S4x32x2048x1_S4x32x2048x128_0_1_2_3 (broadcastInDim S4x32x2048x1 ![0, 1, 2] bcast_S4x32x2048_S4x32x2048x1_0_1_2 (Host.divf B C))) (ix4 b h r l)
      = A (ix4 b h r l) * Ideal.div (B (ix3 b h r)) (C (ix3 b h r)) := by
  pointwise

/-- The sum of all blocks' scaled parts, read at an index. -/
theorem parts_read (A : FVec Ideal S4x32x16x2048x128 .f32) (s : FVec Ideal S4x32x16 .f32) (r : Fin 2048) (l : Fin 128) :
    Host.reduceAdd (mulf A (broadcastInDim S4x32x16x2048x128 ![0, 1, 2, 3, 4] bcast_S4x32x16x1x1_S4x32x16x2048x128_0_1_2_3_4 (broadcastInDim S4x32x16x1x1 ![0, 1, 2] bcast_S4x32x16_S4x32x16x1x1_0_1_2 s)))
      (constant S_ .f32 0x00000000#32) reducesTo_S4x32x16x2048x128_S4x32x2048x128_d2 h_S_ (ix4 b h r l) = ∑ j : Fin 16, (A (ix5 b h j r l) : EReal) * s (ix3 b h j) := by
  pointwise

/-- Weights times values of one block, read at an index. -/
theorem dot_read (G : FVec Ideal S4x32x2048x16x128 .f32) (v : FVec Ideal S4x32x16x128x128 .f32) (j : Fin 16) (r : Fin 2048) (l : Fin 128) :
    Host.dotGeneral dot_S4x32x2048x16x128_S4x32x16x128x128_S4x32x16x2048x128_4_3_2_4_013_012 none G v (ix5 b h j r l)
      = ∑ x : Fin 128, (G (ix5 b h r j x) : EReal) * v (ix5 b h j x l) := by
  pointwise

/-- The weights' codes by blocks of keys, read at an index. -/
theorem regroup_read (p : FVec Ideal S4x32x16x128x2048 .f32) (n : Fin 16) (x : Fin 128) (j : Fin 16) (y : Fin 128) :
    shapeCast S4x32x2048x16x128 p shapeCasts_S4x32x16x128x2048_S4x32x2048x16x128 (ix5 b h (place n x) j y) = p (ix5 b h n x (place j y)) := by
  unfold Cert.Soft.place
  pointwise
  exact congrArg (fun z : Fin 2048 => p (ix5 b h n x z)) (Fin.ext (by show j.val * 128 + y.val = 128 * j.val + y.val; omega))

/-- Clipping of the scaled weights, read at an index. -/
theorem codedW_read (c d : FVec Ideal S_ .f32) (v : FVec Ideal S4x32x16x128x2048 .f32) (s : FVec Ideal S4x32x16x1x1 .f32) (n : Fin 16) (x : Fin 128) (y : Fin 2048) :
    minimumf (broadcastInDim S4x32x16x128x2048 ![] bcast_S_S4x32x16x128x2048 c) (maximumf (broadcastInDim S4x32x16x128x2048 ![] bcast_S_S4x32x16x128x2048 d)
      (mulf v (broadcastInDim S4x32x16x128x2048 ![0, 1, 2, 3, 4] bcast_S4x32x16x1x1_S4x32x16x128x2048_0_1_2_3_4 s))) (ix5 b h n x y)
      = min (c ix0) (max (d ix0) (v (ix5 b h n x y) * s (ix5 b h n 0 0))) := by
  pointwise

/-- The reference's output is the reals'. -/
theorem outR_eq (H : RepR q k v qs ks vs b h E) (w : FVec Ideal S4x32x2048x2048 .f32) (p : FVec Ideal S4x32x16x128x2048 .f32) (ps : FVec Ideal S4x32x16x1x1 .f32)
    (hw : ∀ r c, w (ix4 b h r c) = ((Cert.Soft.w E r c : ℝ) : EReal)) (hp : ∀ n x c, p (ix5 b h n x c) = ((Cert.Soft.w E (place n x) c : ℝ) : EReal))
    (hs : ∀ n, ps (ix5 b h n 0 0) = p2 (-8)) (n : Fin 16) (x l : Fin 128) :
    outR w p ps v vs (ix3 b (place n x) ⟨128 * h.val + l.val, by omega⟩) = ((Cert.Soft.out E (place n x) l : ℝ) : EReal) := by
  unfold outR
  rw [unflat_read, last_read, parts_read, rep_read, squeeze5, hs, sum_read]
  have e8 : Ideal.div 1 (p2 (-8)) = ((256 : ℝ) : EReal) := by
    unfold Ideal.div
    rw [if_neg (p2_pos _).ne', one_mul, Cert.Soft.p2_m8, ← EReal.coe_inv, inv_inv]
  have e : ∀ j y, codesW p ps (ix5 b h n x (place j y)) = ((Cert.Soft.w E (place n x) (place j y) * 256 : ℝ) : EReal) := by
    intro j y
    unfold codesW
    rw [codedW_read, inv_read, hs, e8, hp, ← EReal.coe_mul]
    exact Cert.Soft.clip_w E _ _
  simp only [hw, dot_read, regroup_read, squeeze5, H.v, H.vs, e]
  have hd : Ideal.div (p2 (-8)) (∑ c, ((Cert.Soft.w E (place n x) c : ℝ) : EReal)) = (((256 : ℝ)⁻¹ * (Cert.Soft.tot E (place n x))⁻¹ : ℝ) : EReal) := by
    rw [← Cert.Soft.coe_sum]
    have ht := Cert.Soft.tot_pos E (place n x)
    show Ideal.div _ ((Cert.Soft.tot E (place n x) : ℝ) : EReal) = _
    unfold Ideal.div
    rw [if_neg (by rw [← EReal.coe_zero, EReal.coe_eq_coe_iff]; exact ht.ne'), Cert.Soft.p2_m8, ← EReal.coe_inv, ← EReal.coe_mul]
  rw [hd]
  unfold Cert.Soft.out Cert.Soft.acc
  simp only [EReal.coe_mul, Cert.Soft.coe_sum]

end Cert.ReferenceIdeal.Value
-- ==== Proof.KScore.lean ====
module

public import proofs.«01_k».proof.Proof.Tile
public import proofs.«01_k».proof.Proof.Codes
public import proofs.«01_k».proof.Proof.Soft

/-! # The kernel's attention, over the reals

The scores, their maxima, the weights and the output of a block of queries, each read at an index. -/

set_option maxRecDepth 16384

@[expose] public section

noncomputable section

namespace Cert.KernelIdeal.Rolled

open Idealize.ShloMosaic Idealize.SL.Sem
open Cert.KernelIdeal Cert.Pow
open Cert.Soft (In place sc scaleR lb tE)

variable [Facts]
open Facts₀ Facts

/-- The data hold the codes and scales `E`. -/
structure Rep (d : Data Ideal) (E : In) : Prop where
  q : ∀ (r : Fin 2048) (l : Fin 128), d.q (ix3 0 r l) = ((E.q r l : ℝ) : EReal)
  k : ∀ (r : Fin 2048) (l : Fin 128), d.k (ix3 0 r l) = ((E.k r l : ℝ) : EReal)
  v : ∀ (j : Fin 16) (l x : Fin 128), d.v j.val (ix2 l x) = ((E.v (place j x) l : ℝ) : EReal)
  b : d.b = biasVal (F := Ideal)
  qs : ∀ (j : Fin 16) (l : Fin 128), d.qs (ix2 j l) = ((E.qs j : ℝ) : EReal)
  ks : ∀ (j : Fin 16) (l : Fin 128), d.ks (ix2 j l) = ((E.ks j : ℝ) : EReal)
  vs : ∀ (j : Fin 16) (l : Fin 128), d.vs (ix2 j l) = ((E.vs j : ℝ) : EReal)

/-- The kernel's constant is the scale of the scores for powers of two. -/
def Kappa : Prop := Named.named (F := Ideal) (φ := .f32) κ "score_scale" 0x3E0293EE#32 = ((scaleR * lb : ℝ) : EReal)

/-- The mask, read. -/
theorem bias_apply (x y : Fin 128) : biasVal (F := Ideal) (ix2 x y) = if x ≤ y then 0 else ⊥ := by
  have e : (BitVec.ofNat 32 x.val).sle (BitVec.ofNat 32 y.val) = decide (x ≤ y) := by
    revert x y
    decide +kernel
  unfold biasVal
  pointwise
  by_cases h : x ≤ y
  · rw [if_pos h]
    simp [IntOp.cmpi, Scalar.select, e, h]
  · rw [if_neg h]
    simp [IntOp.cmpi, Scalar.select, e, h]
    exact word_bot

/-- The products of two pairs of blocks, read at an index. -/
theorem accOf_apply (k2 q2 : Vec Ideal S1x256x128 .fp8e4m3) (a b : Fin 256) :
    accOf k2 q2 (ix2 a b) = ∑ l : Fin 128, (k2 (ix3 0 a l) : EReal) * q2 (ix3 0 b l) := by
  unfold accOf
  pointwise

/-- The queries' scale times the constant. -/
theorem qMul_apply (r : Vec Ideal S1x128 .f32) (y : Fin 128) :
    qMul r (ix2 0 y) = r (ix2 0 y) * Named.named (F := Ideal) (φ := .f32) κ "score_scale" 0x3E0293EE#32 := by
  unfold qMul
  pointwise

/-- A block of scores, read at an index. -/
theorem score_apply (k q : Nat) (hk : k < 2) (hq : q < 2) (acc : FVec Ideal S256x256 .f32) (qm ks : FVec Ideal S1x128 .f32) (x y : Fin 128) :
    score k q hk hq acc qm ks (ix2 x y) = acc (ix2 ⟨128 * k + x.val, by omega⟩ ⟨128 * q + y.val, by omega⟩) * (qm (ix2 0 y) * ks (ix2 0 y)) := by
  unfold score
  pointwise

/-- Where the `n`-th list's entries are the rows' values, a balanced maximum is bounded as all of them are. -/
theorem tree_ind {α β : Type} (op : α → α → α) (z : α) (R : List α → β) (h1 : ∀ a b l, R (op a b :: l) = R (a :: b :: l))
    (h2 : ∀ a l l', R l = R l' → R (a :: l) = R (a :: l')) (n : Nat) (l : List α) (h0 : 0 < l.length) (h : l.length ≤ 2 ^ n) :
    R [tree op z n l] = R l := by
  have hp : ∀ l : List α, R (pairUp op l) = R l ∧ (pairUp op l).length = (l.length + 1) / 2 := by
    intro l
    induction l using pairUp.induct with
    | case1 a b l ih =>
      refine ⟨?_, ?_⟩
      · unfold pairUp
        rw [h2 _ _ _ ih.1, h1]
      · unfold pairUp
        rw [List.length_cons, ih.2, List.length_cons, List.length_cons]
        omega
    | case2 l hl =>
      match l, hl with
      | [], _ => exact ⟨by unfold pairUp; rfl, by unfold pairUp; simp⟩
      | [a], _ => exact ⟨by unfold pairUp; rfl, by unfold pairUp; simp⟩
      | a :: b :: l, hl => exact absurd rfl (hl a b l)
  induction n generalizing l with
  | zero =>
    match l, h0, h with
    | [a], _, _ => rfl
    | a :: b :: l, _, h => simp at h
  | succ n ih =>
    unfold tree
    rw [ih _ (by rw [(hp l).2]; omega) (by rw [(hp l).2, pow_succ] at *; omega)]
    exact (hp l).1

/-- A balanced sum, read. -/
theorem tree_sum {s : Shape} (z : FVec Ideal s .f32) (l : List (FVec Ideal s .f32)) (h0 : 0 < l.length) (h : l.length ≤ 16) (i : s.Idx) :
    tree addf z 4 l i = (l.map fun a => (a i : EReal)).sum := by
  have := tree_ind addf z (fun l => (l.map fun a => (a i : EReal)).sum) (fun a b l => by
    show (a i + b i : EReal) + _ = a i + (b i + _)
    exact add_assoc _ _ _) (fun a l l' h => by rw [List.map_cons, List.map_cons, List.sum_cons, List.sum_cons, h]) 4 l h0 h
  rw [← this]
  simp

/-- A balanced maximum, bounded. -/
theorem tree_max {s : Shape} (z : FVec Ideal s .f32) (l : List (FVec Ideal s .f32)) (h0 : 0 < l.length) (h : l.length ≤ 16) (i : s.Idx) (b : EReal) :
    tree maximumf z 4 l i ≤ b ↔ ∀ a ∈ l, a i ≤ b := by
  have := tree_ind maximumf z (fun l => ∀ a ∈ l, a i ≤ b) (fun a c l => by
    apply propext
    rw [List.forall_mem_cons, List.forall_mem_cons, List.forall_mem_cons, ← and_assoc]
    exact and_congr_left' (max_le_iff (a := (a i : EReal)) (b := c i))) (fun a l l' h => by
      apply propext
      rw [List.forall_mem_cons, List.forall_mem_cons]
      exact and_congr_right' (iff_of_eq h)) 4 l h0 h
  rw [← iff_of_eq this]
  simp

/-- A list of n parts has length n. -/
theorem build_length {α : Type} (n : Nat) (f : (j : Nat) → j < n → α) : (build n f).length = n := by
  induction n with
  | zero => rfl
  | succ n ih => unfold build; rw [List.length_append, ih]; rfl

/-- What is in a list of parts is one of them. -/
theorem mem_build {α : Type} (n : Nat) (f : (j : Nat) → j < n → α) (a : α) : a ∈ build n f ↔ ∃ j h, a = f j h := by
  induction n with
  | zero => simp [build]
  | succ n ih =>
    unfold build
    rw [List.mem_append, ih, List.mem_singleton]
    constructor
    · rintro (⟨j, h, e⟩ | e)
      · exact ⟨j, _, e⟩
      · exact ⟨n, _, e⟩
    · rintro ⟨j, h, e⟩
      rcases Nat.lt_succ_iff_lt_or_eq.mp h with h' | rfl
      · exact .inl ⟨j, h', e⟩
      · exact .inr e

/-- A list's sum, from its parts. -/
theorem sum_build {α : Type} (n : Nat) (f : (j : Nat) → j < n → α) (g : α → EReal) : ((build n f).map g).sum = ∑ j : Fin n, g (f j.val j.isLt) := by
  induction n with
  | zero => simp [build]
  | succ n ih =>
    unfold build
    rw [List.map_append, List.sum_append, ih, Fin.sum_univ_castSucc]
    simp

/-- Eight rows' sums add up to the rows' sum. -/
theorem foldSum (x : FVec Ideal S128x128 .f32) (l : Fin 128) :
    ∑ r : Fin 8, (foldRows addf x (ix2 r l) : EReal) = ∑ r : Fin 128, x (ix2 r l) := by
  have e : ∀ r : Fin 8, (foldRows addf x (ix2 r l) : EReal) = ∑ q : Fin 16, x (ix2 ⟨8 * q.val + r.val, by omega⟩ l) := by
    intro r
    unfold foldRows rows8
    rw [tree_sum _ _ (by rw [build_length]; decide) (by rw [build_length]), sum_build]
    refine Finset.sum_congr rfl fun q _ => ?_
    pointwise
  simp only [e]
  rw [← Finset.sum_product', Finset.univ_product_univ]
  refine Fintype.sum_bijective (fun p : Fin 8 × Fin 16 => (⟨8 * p.2.val + p.1.val, by omega⟩ : Fin 128)) ⟨?_, ?_⟩ _ _ fun p => rfl
  · rintro ⟨j, x⟩ ⟨j', x'⟩ h
    have h : 8 * x.val + j.val = 8 * x'.val + j'.val := congrArg Fin.val h
    exact Prod.ext (Fin.ext (by show j.val = j'.val; omega)) (Fin.ext (by show x.val = x'.val; omega))
  · exact fun r => ⟨(⟨r.val % 8, Nat.mod_lt _ (by decide)⟩, ⟨r.val / 8, by omega⟩), Fin.ext (by show 8 * (r.val / 8) + r.val % 8 = r.val; omega)⟩

/-- The sum of eight rows, read at a column. -/
theorem colSum_apply (x : FVec Ideal S8x128 .f32) (l : Fin 128) : colSum x (ix2 0 l) = ∑ r : Fin 8, (x (ix2 r l) : EReal) := by
  unfold colSum
  pointwise

/-- The largest weight at the maxima, bounded. -/
theorem pmax_le (m : FVec Ideal S1x128 .f32) (z : EReal) : pmax m (ix2 0 0) ≤ z ↔ ∀ y : Fin 128, Ideal.exp2 (m (ix2 0 y) - m (ix2 0 y)) ≤ z := by
  unfold pmax
  pointwise
  rw [Finset.fold_max_le, word_bot]
  exact ⟨fun h r => h.2 r (Finset.mem_univ _), fun h => ⟨bot_le, fun p _ => h p⟩⟩

/-- The largest weight is one where all maxima are real. -/
theorem pmax_eq (m : FVec Ideal S1x128 .f32) (h : ∀ y : Fin 128, ∃ a : ℝ, m (ix2 0 y) = (a : EReal)) : pmax m (ix2 0 0) = 1 := by
  refine eq_of_forall_ge_iff fun z => ?_
  rw [pmax_le]
  have e : ∀ y : Fin 128, Ideal.exp2 (m (ix2 0 y) - m (ix2 0 y)) = 1 := by
    intro y
    obtain ⟨a, ha⟩ := h y
    rw [ha, ← EReal.coe_sub, sub_self]
    show ((Real.rpow 2 0 : ℝ) : EReal) = 1
    rw [show Real.rpow 2 0 = (1 : ℝ) from Real.rpow_zero 2, EReal.coe_one]
  simp only [e]
  exact ⟨fun h => h 0, fun h _ => h⟩

/-- The weights' scale. -/
theorem pScale_eq (m : FVec Ideal S1x128 .f32) (h : ∀ y : Fin 128, ∃ a : ℝ, m (ix2 0 y) = (a : EReal)) : pScale m (ix2 0 0) = p2 (-8) := by
  rw [← pow2S_eq (-8) (by norm_num) (by norm_num), ← Cert.Soft.expo_one, ← pmax_eq m h, ← expo1_apply]
  unfold pScale pow2 pow2S
  pointwise

/-- What is taken off the scores. -/
theorem shift_eq (m : FVec Ideal S1x128 .f32) (h : ∀ y : Fin 128, ∃ a : ℝ, m (ix2 0 y) = (a : EReal)) (y : Fin 128) (a : ℝ) (ha : m (ix2 0 y) = (a : EReal)) :
    shift m (ix2 0 y) = ((a + -8 : ℝ) : EReal) := by
  have e : shift m (ix2 0 y) = m (ix2 0 y) + (((expo1 (pmax m) (ix2 0 0)).toInt : ℝ) : EReal) := by
    unfold shift
    pointwise
    rfl
  rw [e, ha, expo1_apply, pmax_eq m h, Cert.Soft.expo_one, EReal.coe_add]
  congr 2
  have : (wd (-8)).toInt = -8 := by decide
  rw [this]
  norm_num

/-- A weight, read at an index. -/
theorem weight_apply (t : FVec Ideal S128x128 .f32) (sh : FVec Ideal S1x128 .f32) (x y : Fin 128) :
    weight (shapeCast S1x128x128 t shapeCasts_S128x128_S1x128x128) sh (ix2 x y) = Ideal.exp2 (t (ix2 x y) - sh (ix2 0 y)) := by
  unfold weight
  pointwise
  rfl

/-- A clipped weight, read at an index. -/
theorem clip_apply (t : FVec Ideal S128x128 .f32) (x y : Fin 128) :
    shapeCast S1x128x128 (truncf .fp8e4m3 (clip t) bitsLt_fp8e4m3_f32) shapeCasts_S128x128_S1x128x128 (ix3 0 x y)
      = min (Ideal.ofBits .f32 0x43E00000#32) (max (Ideal.ofBits .f32 0xC3E00000#32) (t (ix2 x y))) := by
  unfold clip
  pointwise

/-- Values times two blocks of weights, scaled, read at an index. -/
theorem part2_apply (v : Vec Ideal S128x128 .fp8e4m3) (w : Vec Ideal S1x128x256 .fp8e4m3) (vs : Vec Ideal S1x128 .f32) (l : Fin 128) (y : Fin 256) :
    part2 v w vs (ix2 l y) = (∑ x : Fin 128, (v (ix2 l x) : EReal) * w (ix3 0 x y)) * vs (ix2 0 0) := by
  unfold part2
  pointwise

/-- Values times one block of weights, scaled, read at an index. -/
theorem part1_apply (v : Vec Ideal S128x128 .fp8e4m3) (w : Vec Ideal S1x128x128 .fp8e4m3) (vs : Vec Ideal S1x128 .f32) (l y : Fin 128) :
    part1 v w vs (ix2 l y) = (∑ x : Fin 128, (v (ix2 l x) : EReal) * w (ix3 0 x y)) * vs (ix2 0 0) := by
  unfold part1
  pointwise

/-- The first half of a pair of blocks, read at an index. -/
theorem cut0_apply (t : FVec Ideal S128x256 .f32) (l y : Fin 128) :
    extractStridedSlice S128x128 ![0, 0] t slices_S128x256_o0_0_S128x128 (ix2 l y) = t (ix2 l ⟨y.val, by omega⟩) := by
  pointwise

/-- The second half of a pair of blocks, read at an index. -/
theorem cut1_apply (t : FVec Ideal S128x256 .f32) (l y : Fin 128) :
    extractStridedSlice S128x128 ![0, 128] t slices_S128x256_o0_128_S128x128 (ix2 l y) = t (ix2 l ⟨128 + y.val, by omega⟩) := by
  pointwise

/-- A block of the output, from its parts and the sums of its weights. -/
theorem outBlk_apply (ps : FVec Ideal S1x1 .f32) (a : Acc Ideal) (y l : Fin 128) :
    outBlk ps a (ix2 y l) = foldLeft addf (constant S128x128 .f32 0x00000000#32) a.outs (ix2 l y)
      * Ideal.div (ps (ix2 0 0)) (colSum (tree addf (constant S8x128 .f32 0x00000000#32) 4 a.sums) (ix2 0 y) * ps (ix2 0 0)) := by
  unfold outBlk
  generalize foldLeft addf (constant S128x128 .f32 0x00000000#32) a.outs = o
  generalize colSum (tree addf (constant S8x128 .f32 0x00000000#32) 4 a.sums) = s
  pointwise

/-- A sum taken from the left, read. -/
theorem foldLeft_sum {s : Shape} (z : FVec Ideal s .f32) (l : List (FVec Ideal s .f32)) (h0 : 0 < l.length) (i : s.Idx) :
    foldLeft addf z l i = (l.map fun a => (a i : EReal)).sum := by
  have hf : ∀ (l : List (FVec Ideal s .f32)) (a : FVec Ideal s .f32), (l.foldl addf a i : EReal) = a i + (l.map fun a => (a i : EReal)).sum := by
    intro l
    induction l with
    | nil => intro a; simp
    | cons b l ih =>
      intro a
      rw [List.foldl_cons, ih, List.map_cons, List.sum_cons, ← add_assoc]
      rfl
  match l, h0 with
  | a :: l, _ => exact hf l a

end Cert.KernelIdeal.Rolled
-- ==== Proof.KFinal.lean ====
module

public import proofs.«01_k».proof.Proof.KScore

/-! # The kernel's output, over the reals

The closed form that the kernel leaves is the attention of the reals. -/

set_option maxRecDepth 16384

@[expose] public section

noncomputable section

namespace Cert.KernelIdeal.Rolled

open Idealize.ShloMosaic Idealize.SL.Sem
open Cert.KernelIdeal Cert.Pow
open Cert.Soft (In place sc scaleR lb tE blk_place)

variable [Facts]
open Facts₀ Facts

variable {d : Data Ideal} {E : In}

/-- The causal order of two rows, by their blocks. -/
theorem place_le (i j : Fin 16) (x y : Fin 128) : place j x ≤ place i y ↔ j < i ∨ (j = i ∧ x ≤ y) := by
  show 128 * j.val + x.val ≤ 128 * i.val + y.val ↔ j.val < i.val ∨ (j = i ∧ x.val ≤ y.val)
  rw [Fin.ext_iff]
  omega

/-- A block of scores without its mask. -/
theorem score_val (H : Rep d E) (K : Kappa) (p : Nat) (hp : p < 8) (j : Nat) (hj : j < 16) (q : Nat) (hq : q < 2) (x y : Fin 128) :
    score (j % 2) q (Nat.mod_lt _ (by decide)) hq (accOf (tile2 d.k (j / 2) (by omega)) (tile2 d.q p hp)) (qMul (row d.qs (2 * p + q) (by omega))) (row d.ks j hj) (ix2 x y)
      = ((sc E (place ⟨2 * p + q, by omega⟩ y) (place ⟨j, hj⟩ x) * lb : ℝ) : EReal) := by
  rw [score_apply, accOf_apply, qMul_apply, row_apply, row_apply, H.qs ⟨2 * p + q, by omega⟩, H.ks ⟨j, hj⟩]
  unfold Kappa at K
  rw [K]
  have e1 : ∀ l, tile2 d.k (j / 2) (by omega) (ix3 0 ⟨128 * (j % 2) + x.val, by omega⟩ l) = ((E.k (place ⟨j, hj⟩ x) l : ℝ) : EReal) := by
    intro l
    rw [tile2_apply, ← H.k]
    congr 2
    exact Fin.ext (by show 256 * (j / 2) + (128 * (j % 2) + x.val) = 128 * j + x.val; omega)
  have e2 : ∀ l, tile2 d.q p hp (ix3 0 ⟨128 * q + y.val, by omega⟩ l) = ((E.q (place ⟨2 * p + q, by omega⟩ y) l : ℝ) : EReal) := by
    intro l
    rw [tile2_apply, ← H.q]
    congr 2
    exact Fin.ext (by show 256 * p + (128 * q + y.val) = 128 * (2 * p + q) + y.val; omega)
  simp only [e1, e2, ← EReal.coe_mul, ← Cert.Soft.coe_sum]
  congr 1
  unfold Cert.Soft.sc
  rw [blk_place, blk_place, Finset.sum_congr rfl fun l _ => mul_comm (E.k (place ⟨j, hj⟩ x) l) (E.q (place ⟨2 * p + q, by omega⟩ y) l)]
  ring

/-- A block of scores. -/
theorem scoreB_val (H : Rep d E) (K : Kappa) (p : Nat) (hp : p < 8) (j : Nat) (hj : j < 16) (q : Nat) (hq : q < 2) (h : j ≤ 2 * p + q) (x y : Fin 128) :
    scoreB d p hp j hj q hq (ix2 x y) = tE E (place ⟨2 * p + q, by omega⟩ y) (place ⟨j, hj⟩ x) := by
  unfold scoreB Cert.Soft.tE
  by_cases e : j = 2 * p + q
  · simp only [if_pos e]
    show (_ + d.b (ix2 x y) : EReal) = _
    rw [score_val H K, H.b, bias_apply]
    by_cases hx : x ≤ y
    · rw [if_pos hx, if_pos ((place_le _ _ _ _).mpr (.inr ⟨Fin.ext e, hx⟩)), add_zero]
    · rw [if_neg hx, if_neg, EReal.add_bot]
      rw [place_le]
      rintro (h' | ⟨-, h'⟩)
      · exact absurd (show j < 2 * p + q from h') (by omega)
      · exact hx h'
  · simp only [if_neg e]
    rw [score_val H K, if_pos ((place_le _ _ _ _).mpr (.inl (show j < 2 * p + q by omega)))]

/-- A bound on all maxima of a list of blocks is one on all their entries. -/
theorem blocks_le (n : Nat) (f : (j : Nat) → j < n → FVec Ideal S128x128 .f32) (y : Fin 128) (z : EReal) :
    (∀ r : Fin 8, ∀ a ∈ build n fun j h => foldRows maximumf (f j h), (a (ix2 r y) : EReal) ≤ z) ↔ ∀ j h, ∀ x : Fin 128, (f j h (ix2 x y) : EReal) ≤ z := by
  constructor
  · intro h j hj
    exact (foldMax_le (f j hj) y z).mp fun r => h r _ ((mem_build _ _ _).mpr ⟨j, hj, rfl⟩)
  · intro h r a ha
    obtain ⟨j, hj, e⟩ := (mem_build _ _ _).mp ha
    have h' : ∀ r : Fin 8, foldRows maximumf (f j hj) (ix2 r y) ≤ z := (foldMax_le (f j hj) y z).mpr fun x => h j hj x
    rw [e]
    exact h' r

/-- The scores' maxima. -/
theorem mx_val (H : Rep d E) (K : Kappa) (p : Nat) (hp : p < 8) (q : Nat) (hq : q < 2) (y : Fin 128) :
    mx d p hp q hq (ix2 0 y) = ((Cert.Soft.top E (place ⟨2 * p + q, by omega⟩ y) * lb : ℝ) : EReal) := by
  refine eq_of_forall_ge_iff fun z => ?_
  unfold mx rowMax maxL
  rw [colMax_le, Cert.Soft.topl_le]
  simp only [tree_max _ _ (show 0 < (build (2 * p + 1 + q) fun j h => foldRows maximumf (scoreB d p hp j (Nat.lt_of_lt_of_le h (by omega)) q hq)).length by rw [build_length]; omega)
    (by rw [build_length]; omega)]
  rw [blocks_le]
  constructor
  · intro h c
    rw [← Cert.Soft.place_all c]
    by_cases hc : (Cert.Soft.blk c).val ≤ 2 * p + q
    · have h' := h (Cert.Soft.blk c).val (by omega) ⟨c.val % 128, Nat.mod_lt _ (by decide)⟩
      rw [scoreB_val H K p hp (Cert.Soft.blk c).val (Cert.Soft.blk c).isLt q hq hc] at h'
      exact h'
    · unfold Cert.Soft.tE
      rw [if_neg]
      · exact bot_le
      · rw [place_le]
        rintro (h' | ⟨h', -⟩)
        · exact hc (Nat.le_of_lt h')
        · exact hc (le_of_eq (congrArg Fin.val h'))
  · intro h j hj x
    rw [scoreB_val H K p hp j (by omega) q hq (by omega)]
    exact h _

/-- The maxima are real. -/
theorem mx_real (H : Rep d E) (K : Kappa) (p : Nat) (hp : p < 8) (q : Nat) (hq : q < 2) (y : Fin 128) : ∃ a : ℝ, mx d p hp q hq (ix2 0 y) = (a : EReal) :=
  ⟨_, mx_val H K p hp q hq y⟩

/-- A block of weights. -/
theorem wB_val (H : Rep d E) (K : Kappa) (p : Nat) (hp : p < 8) (j : Nat) (hj : j < 16) (q : Nat) (hq : q < 2) (h : j ≤ 2 * p + q) (x y : Fin 128) :
    wB d p hp j hj q hq (shift (mx d p hp q hq)) (ix2 x y) = ((Cert.Soft.w E (place ⟨2 * p + q, by omega⟩ y) (place ⟨j, hj⟩ x) * 256 : ℝ) : EReal) := by
  unfold wB
  rw [weight_apply, scoreB_val H K p hp j hj q hq h, shift_eq _ (mx_real H K p hp q hq) y _ (mx_val H K p hp q hq y), Cert.Soft.exp2_tE]

/-- A block of weights' codes. -/
theorem codeW_val (H : Rep d E) (K : Kappa) (p : Nat) (hp : p < 8) (j : Nat) (hj : j < 16) (q : Nat) (hq : q < 2) (h : j ≤ 2 * p + q) (x y : Fin 128) :
    codeW d p hp j hj q hq (shift (mx d p hp q hq)) (ix3 0 x y) = ((Cert.Soft.w E (place ⟨2 * p + q, by omega⟩ y) (place ⟨j, hj⟩ x) * 256 : ℝ) : EReal) := by
  unfold codeW
  rw [clip_apply, wB_val H K p hp j hj q hq h, Cert.Soft.clip_w]

/-- One block's part of the output. -/
def part (E : In) (r : Fin 2048) (l : Fin 128) (j : Fin 16) : ℝ := (∑ x : Fin 128, (Cert.Soft.w E r (place j x) * 256) * E.v (place j x) l) * E.vs j

/-- The first half of two blocks side by side. -/
theorem join_0 {α : Type} (w0 w1 : S1x128x128.Idx → α) (x y : Fin 128) : join w0 w1 (ix3 0 x ⟨y.val, by omega⟩) = w0 (ix3 0 x y) := by
  have e1 : y.val / 128 = 0 := by omega
  have e2 : (⟨y.val % 128, Nat.mod_lt _ (by decide)⟩ : Fin 128) = y := Fin.ext (by show y.val % 128 = y.val; omega)
  refine (if_pos e1).trans ?_
  exact congrArg (fun z : Fin 128 => w0 (ix3 0 x z)) e2

/-- The second half of two blocks side by side. -/
theorem join_1 {α : Type} (w0 w1 : S1x128x128.Idx → α) (x y : Fin 128) : join w0 w1 (ix3 0 x ⟨128 + y.val, by omega⟩) = w1 (ix3 0 x y) := by
  have e1 : ¬ (128 + y.val) / 128 = 0 := by omega
  have e2 : (⟨(128 + y.val) % 128, Nat.mod_lt _ (by decide)⟩ : Fin 128) = y := Fin.ext (by show (128 + y.val) % 128 = y.val; omega)
  refine (if_neg e1).trans ?_
  exact congrArg (fun z : Fin 128 => w1 (ix3 0 x z)) e2

/-- Values times codes of weights, summed and scaled. -/
theorem part_val (H : Rep d E) (r : Fin 2048) (l : Fin 128) (j : Nat) (hj : j < 16) (f : Fin 128 → EReal)
    (hf : ∀ x, f x = ((Cert.Soft.w E r (place ⟨j, hj⟩ x) * 256 : ℝ) : EReal)) :
    (∑ x : Fin 128, (d.v j (ix2 l x) : EReal) * f x) * row d.vs j hj (ix2 0 0) = ((part E r l ⟨j, hj⟩ : ℝ) : EReal) := by
  rw [row_apply, H.vs ⟨j, hj⟩]
  unfold part
  rw [EReal.coe_mul, Cert.Soft.coe_sum]
  congr 1
  refine Finset.sum_congr rfl fun x _ => ?_
  rw [H.v ⟨j, hj⟩, hf, ← EReal.coe_mul, mul_comm]

/-- A sum over the first blocks is one over all where the others add nothing. -/
theorem sum_first {M : Type*} [AddCommMonoid M] (n : Nat) (hn : n ≤ 16) (f : Fin 16 → M) (h : ∀ j : Fin 16, n ≤ j.val → f j = 0) :
    ∑ j : Fin n, f ⟨j.val, by omega⟩ = ∑ j, f j := by
  rw [← Finset.sum_subset (Finset.subset_univ (Finset.univ.filter fun j : Fin 16 => j.val < n)) fun j _ hj => h j (by simpa using hj)]
  refine Finset.sum_bij (fun j _ => ⟨j.val, by omega⟩) (fun j _ => by simp) (fun a _ b _ e => Fin.ext (Fin.mk.inj_iff.mp e))
    (fun b hb => ⟨⟨b.val, by simpa using hb⟩, Finset.mem_univ _, rfl⟩) fun _ _ => rfl

/-- Later blocks have no weight. -/
theorem w_later (i j : Fin 16) (h : i < j) (x y : Fin 128) : Cert.Soft.w E (place i y) (place j x) = 0 := by
  unfold Cert.Soft.w
  rw [if_neg]
  rw [place_le]
  rintro (h' | ⟨h', -⟩)
  · exact absurd h (not_lt.mpr h'.le)
  · exact absurd h (by rw [h']; exact lt_irrefl _)

/-- The output of a block from its sums and parts. -/
theorem out_val (i : Fin 16) (m : FVec Ideal S1x128 .f32) (hm : ∀ y : Fin 128, ∃ a : ℝ, m (ix2 0 y) = (a : EReal)) (a : Acc Ideal) (y l : Fin 128)
    (W : Nat → FVec Ideal S128x128 .f32) (hW : ∀ (j : Fin 16), j ≤ i → ∀ x, W j.val (ix2 x y) = ((Cert.Soft.w E (place i y) (place j x) * 256 : ℝ) : EReal))
    (h1 : a.sums.length = i.val + 1) (h2 : a.outs.length = i.val + 1)
    (hS : ∀ r : Fin 8, (a.sums.map fun s => (s (ix2 r y) : EReal)).sum = ∑ j : Fin (i.val + 1), (foldRows addf (W j.val) (ix2 r y) : EReal))
    (hO : (a.outs.map fun s => (s (ix2 l y) : EReal)).sum = ∑ j : Fin (i.val + 1), ((part E (place i y) l ⟨j.val, by omega⟩ : ℝ) : EReal)) :
    outBlk (pScale m) a (ix2 y l) = ((Cert.Soft.out E (place i y) l : ℝ) : EReal) := by
  rw [outBlk_apply, foldLeft_sum _ _ (by omega), hO, colSum_apply, pScale_eq m hm]
  simp only [tree_sum _ _ (show 0 < a.sums.length by omega) (by omega), hS]
  rw [Finset.sum_comm]
  simp only [foldSum]
  have e1 : ∑ j : Fin (i.val + 1), ((part E (place i y) l ⟨j.val, by omega⟩ : ℝ) : EReal) = ((Cert.Soft.acc E (place i y) l : ℝ) : EReal) := by
    rw [sum_first (i.val + 1) (by omega) (fun j => ((part E (place i y) l j : ℝ) : EReal)) fun j hj => ?_]
    · rw [← Cert.Soft.coe_sum]
      rfl
    · unfold part
      simp only [w_later i j (show i.val < j.val by omega), zero_mul, Finset.sum_const_zero, EReal.coe_zero]
  have e2 : ∑ j : Fin (i.val + 1), ∑ x : Fin 128, (W j.val (ix2 x y) : EReal) = ((Cert.Soft.tot E (place i y) * 256 : ℝ) : EReal) := by
    have e3 : ∀ j : Fin (i.val + 1), ∑ x : Fin 128, (W j.val (ix2 x y) : EReal) = ∑ x : Fin 128, ((Cert.Soft.w E (place i y) (place ⟨j.val, by omega⟩ x) * 256 : ℝ) : EReal) :=
      fun j => Finset.sum_congr rfl fun x _ => hW ⟨j.val, by omega⟩ (show j.val ≤ i.val by omega) x
    simp only [e3]
    rw [sum_first (i.val + 1) (by omega) (fun j => ∑ x : Fin 128, ((Cert.Soft.w E (place i y) (place j x) * 256 : ℝ) : EReal)) fun j hj => ?_]
    · simp only [← Cert.Soft.coe_sum]
      congr 1
      unfold Cert.Soft.tot
      rw [Cert.Soft.sum_place, Finset.sum_mul]
      simp only [Finset.sum_mul]
    · simp only [w_later i j (show i.val < j.val by omega), zero_mul, EReal.coe_zero, Finset.sum_const_zero]
  rw [e1, e2, Cert.Soft.p2_m8, ← EReal.coe_mul]
  have ht := Cert.Soft.tot_pos E (place i y)
  unfold Ideal.div
  rw [mul_assoc, mul_inv_cancel₀ (by norm_num : (256 : ℝ) ≠ 0), mul_one, if_neg (by rw [← EReal.coe_zero, EReal.coe_eq_coe_iff]; exact ht.ne'), ← EReal.coe_inv, ← EReal.coe_mul, ← EReal.coe_mul]
  rfl

/-- A block of weights, and nothing past the last block. -/
def wN (d : Data Ideal) (p : Nat) (hp : p < 8) (q : Nat) (hq : q < 2) (j : Nat) : FVec Ideal S128x128 .f32 :=
  if h : j < 16 then wB d p hp j h q hq (shift (mx d p hp q hq)) else constant S128x128 .f32 0x00000000#32

/-- Up to the last block it is the block of weights. -/
theorem wN_eq (p : Nat) (hp : p < 8) (q : Nat) (hq : q < 2) (j : Nat) (h : j < 16) : wN d p hp q hq j = wB d p hp j h q hq (shift (mx d p hp q hq)) := dif_pos h

/-- The first block of a pair. -/
theorem yB0_val (H : Rep d E) (K : Kappa) (p : Nat) (hp : p < 8) (y l : Fin 128) :
    yB0 d p hp (ix2 y l) = ((Cert.Soft.out E (place ⟨2 * p + 0, by omega⟩ y) l : ℝ) : EReal) := by
  unfold yB0
  refine out_val ⟨2 * p + 0, by omega⟩ _ (mx_real H K p hp 0 (by decide)) _ y l (wN d p hp 0 (by decide)) (fun j hj x => ?_) ?_ ?_ (fun r => ?_) ?_
  · rw [wN_eq p hp 0 _ j.val j.isLt]
    exact wB_val H K p hp j.val j.isLt 0 (by decide) hj x y
  · exact build_length _ _
  · exact build_length _ _
  · unfold acc0
    refine (sum_build _ _ _).trans (Finset.sum_congr rfl fun j _ => ?_)
    rw [wN_eq p hp 0 _ j.val (by omega)]
  · unfold acc0
    refine (sum_build _ _ _).trans (Finset.sum_congr rfl fun j _ => ?_)
    have hj : j.val < 2 * p + 1 := j.isLt
    rw [cut0_apply]
    unfold prod2
    rw [part2_apply]
    refine part_val H _ l j.val (by omega) _ fun x => ?_
    rw [join_0]
    exact codeW_val H K p hp j.val (by omega) 0 (by decide) (by omega) x y

/-- A sum over a list with one block more. -/
theorem sum_build_one {α : Type} (n : Nat) (f : (j : Nat) → j < n → α) (a : α) (g : α → EReal) (u : Nat → EReal) (h : ∀ j hj, g (f j hj) = u j) (ha : g a = u n) :
    ((build n f ++ [a]).map g).sum = ∑ j : Fin (n + 1), u j.val := by
  rw [List.map_append, List.sum_append, sum_build, Fin.sum_univ_castSucc, List.map_cons, List.map_nil, List.sum_cons, List.sum_nil, add_zero, ha]
  exact congrArg (· + u n) (Finset.sum_congr rfl fun j _ => h j.val j.isLt)

/-- The second block of a pair. -/
theorem yB1_val (H : Rep d E) (K : Kappa) (p : Nat) (hp : p < 8) (y l : Fin 128) :
    yB1 d p hp (ix2 y l) = ((Cert.Soft.out E (place ⟨2 * p + 1, by omega⟩ y) l : ℝ) : EReal) := by
  unfold yB1
  refine out_val ⟨2 * p + 1, by omega⟩ _ (mx_real H K p hp 1 (by decide)) _ y l (wN d p hp 1 (by decide)) (fun j hj x => ?_) ?_ ?_ (fun r => ?_) ?_
  · rw [wN_eq p hp 1 _ j.val j.isLt]
    exact wB_val H K p hp j.val j.isLt 1 (by decide) hj x y
  · unfold acc1' acc1
    exact (List.length_append).trans (congrArg (· + 1) (build_length _ _))
  · unfold acc1' acc1
    exact (List.length_append).trans (congrArg (· + 1) (build_length _ _))
  · unfold acc1' acc1
    refine (sum_build_one (2 * p + 1) (fun j h => foldRows addf (wB d p hp j (Nat.lt_of_lt_of_le h (by omega)) 1 (by decide) (shift (mx d p hp 1 (by decide))))) (foldRows addf (wB d p hp (2 * p + 1) (by omega) 1 (by decide) (shift (mx d p hp 1 (by decide)))))
      (fun s => (s (ix2 r y) : EReal)) (fun j => if j < 16 then foldRows addf (wN d p hp 1 (by decide) j) (ix2 r y) else 0) (fun j hj => ?_) ?_).trans
      (Finset.sum_congr rfl fun j _ => if_pos (by have := j.isLt; show j.val < 16; omega))
    · rw [if_pos (show j < 16 by omega), wN_eq p hp 1 _ j (by omega)]
    · rw [if_pos (show 2 * p + 1 < 16 by omega), wN_eq p hp 1 _ (2 * p + 1) (by omega)]
  · unfold acc1' acc1
    refine (sum_build_one (2 * p + 1) (fun j h => extractStridedSlice S128x128 ![0, 128] (prod2 d p hp j (Nat.lt_of_lt_of_le h (by omega)) (shift (mx d p hp 0 (by decide))) (shift (mx d p hp 1 (by decide)))) slices_S128x256_o0_128_S128x128)
      (part1 (d.v (2 * p + 1)) (codeW d p hp (2 * p + 1) (by omega) 1 (by decide) (shift (mx d p hp 1 (by decide)))) (row d.vs (2 * p + 1) (by omega))) (fun s => (s (ix2 l y) : EReal)) (fun j => if h : j < 16 then ((part E (place ⟨2 * p + 1, by omega⟩ y) l ⟨j, h⟩ : ℝ) : EReal) else 0) (fun j hj => ?_) ?_).trans
      (Finset.sum_congr rfl fun j _ => dif_pos (by have := j.isLt; show j.val < 16; omega))
    · rw [dif_pos (show j < 16 by omega), cut1_apply]
      unfold prod2
      rw [part2_apply]
      refine part_val H _ l j (by omega) _ fun x => ?_
      rw [join_1]
      exact codeW_val H K p hp j (by omega) 1 (by decide) (by omega) x y
    · rw [dif_pos (show 2 * p + 1 < 16 by omega), part1_apply]
      refine part_val H _ l (2 * p + 1) (by omega) _ fun x => ?_
      exact codeW_val H K p hp (2 * p + 1) (by omega) 1 (by decide) le_rfl x y

/-- The kernel's output is the reals'. -/
theorem yV_val (H : Rep d E) (K : Kappa) (i : Fin 16) (y l : Fin 128) : yV d (ix3 0 (place i y) l) = ((Cert.Soft.out E (place i y) l : ℝ) : EReal) := by
  have e : yV d (ix3 0 (place i y) l) = yBlk d i.val i.isLt (ix2 y l) := by
    have e1 : (⟨(place i y).val / 128, by omega⟩ : Fin 16) = i := blk_place i y
    have e2 : (⟨(place i y).val % 128, Nat.mod_lt _ (by decide)⟩ : Fin 128) = y := Fin.ext (by show (128 * i.val + y.val) % 128 = y.val; omega)
    exact (congrArg (fun z : Fin 16 => yBlk d z.val z.isLt (ix2 ⟨(place i y).val % 128, Nat.mod_lt _ (by decide)⟩ l)) e1).trans (congrArg (fun z : Fin 128 => yBlk d i.val i.isLt (ix2 z l)) e2)
  rw [e]
  unfold yBlk
  by_cases hi : i.val % 2 = 0
  · rw [if_pos hi, yB0_val H K]
    congr 3
    exact Fin.ext (by show 2 * (i.val / 2) + 0 = i.val; omega)
  · rw [if_neg hi, yB1_val H K]
    congr 3
    exact Fin.ext (by show 2 * (i.val / 2) + 1 = i.val; omega)

end Cert.KernelIdeal.Rolled
-- ==== Proof.Attention.lean ====
module

public import proofs.«01_k».proof.Proof.Results
public import proofs.«01_k».proof.Proof.RScore
public import proofs.«01_k».proof.Proof.KFinal

/-! # The attention's output

The kernel's output and the reference's are both the attention over the reals, of the codes and the scales that they share. -/

set_option maxRecDepth 16384

@[expose] public section

noncomputable section

namespace Cert.ReferenceIdeal.Value

open Idealize.ShloMosaic Idealize.SL.Sem Idealize.ShloMosaic.StableHlo
open Cert.ReferenceIdeal Cert.ReferenceIdeal.Gen Cert.Pow
open Cert.KernelIdeal.Rolled (headBlock codesV_apply codesV_code codesV scOf amaxV scOf_apply amaxV_apply dataOf vT Rep Kappa resultArr yV yV_val)
open Cert.Soft (In place blk blk_place place_all)

variable (X K W : FVec Ideal S4x2048x4096 .f32) (b : Fin 4) (h : Fin 32)

/-- The real code of a row and a column of a head. -/
def codeR (r : Fin 2048) (l : Fin 128) : ℝ := (codesOf X (ix5 b h (blk r) ⟨r.val % 128, Nat.mod_lt _ (by decide)⟩ l)).toReal

/-- The real scale of a block of a head. -/
def scalR (n : Fin 16) : ℝ := (scalesOf X (ix5 b h n 0 0)).toReal

/-- Codes are real. -/
theorem codeR_eq (n : Fin 16) (x l : Fin 128) : codesOf X (ix5 b h n x l) = ((codeR X b h (place n x) l : ℝ) : EReal) := by
  have e2 : (⟨(place n x).val % 128, Nat.mod_lt _ (by decide)⟩ : Fin 128) = x := Fin.ext (by show (128 * n.val + x.val) % 128 = x.val; omega)
  unfold codeR
  rw [blk_place, e2]
  obtain ⟨a, ha⟩ : ∃ a : ℝ, codesOf X (ix5 b h n x l) = (a : EReal) := by
    rw [codesOf_apply]
    exact Cert.Soft.clipE_real _
  rw [ha, EReal.toReal_coe]

/-- Scales are real. -/
theorem scalR_eq (n : Fin 16) : scalesOf X (ix5 b h n 0 0) = ((scalR X b h n : ℝ) : EReal) := by
  unfold scalR
  obtain ⟨a, ha⟩ : ∃ a : ℝ, scalesOf X (ix5 b h n 0 0) = (a : EReal) := by
    rw [scalesOf_apply]
    exact Cert.Soft.scaleOf_real _
  rw [ha, EReal.toReal_coe]

/-- A head's codes and scales. -/
def inOf : In := ⟨codeR X b h, codeR K b h, codeR W b h, scalR X b h, scalR K b h, scalR W b h⟩

/-- The reference's codes and scales are the real ones. -/
theorem repR : RepR (codesOf X) (codesOf K) (codesOf W) (scalesOf X) (scalesOf K) (scalesOf W) b h (inOf X K W b h) :=
  ⟨codeR_eq X b h, codeR_eq K b h, codeR_eq W b h, scalR_eq X b h, scalR_eq K b h, scalR_eq W b h⟩

/-- The kernel's codes of a head. -/
theorem codesV_eq (r : Fin 2048) (l : Fin 128) : codesV (F := Ideal) (headBlock (α := EReal) X b h) (ix3 0 r l) = ((codeR X b h r l : ℝ) : EReal) := by
  conv_rhs => rw [← place_all r]
  rw [← codeR_eq, codesOf_apply]
  refine Eq.trans ?_ (codesV_apply (headBlock X b h) (blk r) ⟨r.val % 128, Nat.mod_lt _ (by decide)⟩ l)
  exact congrArg (fun z : Fin 2048 => codesV (F := Ideal) (headBlock X b h) (ix3 0 z l)) (place_all r).symm

/-- The kernel's scales of a head. -/
theorem scOf_eq (j : Fin 16) (l : Fin 128) : scOf (F := Ideal) (amaxV (headBlock (α := EReal) X b h)) (ix2 j l) = ((scalR X b h j : ℝ) : EReal) := by
  rw [← scalR_eq, scalesOf_apply, scOf_apply, amaxV_apply]
  rfl

/-- A transposed block, read at an index. -/
theorem vT_read (x : FVec Ideal Cert.KernelIdeal.S128x128 .f32) (l y : Fin 128) :
    truncf .fp8e4m3 (transpose Cert.KernelIdeal.S128x128 [1, 0] x Cert.KernelIdeal.Gen.transposes_S128x128_p1_0_S128x128) Cert.KernelIdeal.Gen.bitsLt_fp8e4m3_f32 (ix2 l y) = x (ix2 y l) := by
  pointwise

/-- The kernel's transposed codes of a head. -/
theorem vT_eq (j : Fin 16) (l x : Fin 128) : vT (F := Ideal) (headBlock (α := EReal) X b h) j.val (ix2 l x) = ((codeR X b h (place j x) l : ℝ) : EReal) := by
  unfold vT
  rw [dif_pos j.isLt, ← codesV_eq]
  exact (vT_read _ l x).trans (codesV_code _ j.val j.isLt x l _ rfl).symm

/-- The kernel's codes and scales are the real ones. -/
theorem repK : Rep (dataOf (F := Ideal) (headBlock (α := EReal) X b h) (headBlock (α := EReal) K b h) (headBlock (α := EReal) W b h)) (inOf X K W b h) :=
  ⟨codesV_eq X b h, codesV_eq K b h, vT_eq W b h, rfl, scOf_eq X b h, scOf_eq K b h, scOf_eq W b h⟩

/-- The kernel's output, over the reals. -/
theorem result_apply (hK : Kappa) (n : Fin 16) (x l : Fin 128) :
    resultArr X K W (ix3 b (place n x) ⟨128 * h.val + l.val, by omega⟩) = ((Cert.Soft.out (inOf X K W b h) (place n x) l : ℝ) : EReal) := by
  refine Eq.trans ?_ (yV_val (repK X K W b h) hK n x l)
  have e1 : (⟨(128 * h.val + l.val) / 128, by omega⟩ : Fin 32) = h := Fin.ext (by show (128 * h.val + l.val) / 128 = h.val; omega)
  have e2 : (⟨(128 * h.val + l.val) % 128, by omega⟩ : Fin 128) = l := Fin.ext (by show (128 * h.val + l.val) % 128 = l.val; omega)
  exact congr (congrArg (fun z => yV (F := Ideal) (dataOf (headBlock (α := EReal) X b z) (headBlock (α := EReal) K b z) (headBlock (α := EReal) W b z))) e1)
    (congrArg (fun z : Fin 128 => (ix3 0 (place n x) z : Cert.KernelIdeal.S1x2048x128.Idx)) e2)

/-- The reference's weights of the arguments. -/
def weightsOf : FVec Ideal S4x32x2048x2048 .f32 := weightsR (scoresR (codesOf X) (codesOf K) (scalesOf X) (scalesOf K))

/-- The reference's output of the arguments. -/
def attention : FVec Ideal S4x2048x4096 .f32 :=
  outR (weightsOf X K) (blocksW (weightsOf X K)) (above (powers lit0) (ratioW (blocksW (weightsOf X K)))) (codesOf W) (scalesOf W)

/-- The reference's output, over the reals. -/
theorem attention_apply (n : Fin 16) (x l : Fin 128) :
    attention X K W (ix3 b (place n x) ⟨128 * h.val + l.val, by omega⟩) = ((Cert.Soft.out (inOf X K W b h) (place n x) l : ℝ) : EReal) := by
  have H := repR X K W b h
  have hw : ∀ r c, weightsOf X K (ix4 b h r c) = ((Cert.Soft.w (inOf X K W b h) r c : ℝ) : EReal) := weights_eq _ (scores_eq H)
  have hp : ∀ n x c, blocksW (weightsOf X K) (ix5 b h n x c) = ((Cert.Soft.w (inOf X K W b h) (place n x) c : ℝ) : EReal) := by
    intro n x c
    rw [blocksW_read, hw]
  exact outR_eq H _ _ _ hw hp (wscale_eq _ hp) n x l

/-- The reference's output is the kernel's. -/
theorem attention_back (hK : Kappa) : attention X K W = resultArr X K W := by
  funext i
  obtain ⟨b, R, C, rfl⟩ : ∃ (b : Fin 4) (R : Fin 2048) (C : Fin 4096), i = ix3 b R C := ⟨i 0, i 1, i 2, eq_ix3 i⟩
  have eC : C = ⟨128 * (⟨C.val / 128, by omega⟩ : Fin 32).val + (⟨C.val % 128, by omega⟩ : Fin 128).val, by show 128 * (C.val / 128) + C.val % 128 < 4096; omega⟩ :=
    Fin.ext (by show C.val = 128 * (C.val / 128) + C.val % 128; omega)
  rw [← place_all R, eC, attention_apply, result_apply X K W b _ hK]

end Cert.ReferenceIdeal.Value
-- ==== Proof.lean ====
module

public import proofs.«01_k».proof.Defs
public import proofs.«01_k».proof.Proof.KernelFrame
public import proofs.«01_k».proof.Proof.Attention
public import Idealize.ShloMosaic.Adequacy
public import Idealize.ShloMosaic.Init

@[expose] public section

noncomputable section

namespace Cert.Proof

open Idealize.ShloMosaic Idealize.ShloMosaic.TcCoe Idealize.SL.Sem

/-- The idealized kernel runs to its end and leaves its arguments as they were. -/
theorem frame_pi : Cert.quiescent_KernelIdeal := fun m ρ _ =>
  (θ_run Cert.KernelIdeal.defs _ _).mono (fun _ h => ⟨fun c => Cert.KernelIdeal.Rolled.final_args m h.1 c, h.2⟩)
    (Cert.KernelIdeal.Rolled.run_main (F := Ideal) m ρ)

/-- The idealized reference runs to its end and leaves its arguments as they were. -/
theorem frame_ri : Cert.quiescent_ReferenceIdeal := fun m ρ _ =>
  (θ_run Cert.ReferenceIdeal.defs _ _).mono (fun r h => ⟨fun c => (h c).2.2.2.2.2.2.2,
      Idealize.ShloMosaic.sem_eq_zero_of_no_sems (by decide) r.2⟩)
    (Cert.ReferenceIdeal.Value.run (F := Ideal) m ρ)

/-- The printed score constant is the f32 nearest to the real number that it is named. -/
theorem preserves : Cert.preserves_Kernel_KernelIdeal :=
  IdealRules.named_const.statement Cert.KernelIdeal.κ "score_scale" .f32 0x3E0293EE#32 (((11863283 / 134217728) * (Real.log 2)⁻¹ : ℝ) : EReal) rfl

/-- The score constant is the reference's scale of the scores over the logarithm of two. -/
theorem kappa : Cert.KernelIdeal.Rolled.Kappa :=
  IdealRules.named_const.ideal_named_scalar _ _ _ _ rfl

open Cert.KernelIdeal.Rolled Cert.ReferenceIdeal.Value in
/-- The kernel's output, codes and scales are the reference's. -/
theorem algebraic : Cert.algebraic_KernelIdeal_ReferenceIdeal := by
  intro m g m' g' _ hin
  refine ⟨fun c => resultArr (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => codesArr (F := Ideal) (m ((c.tc : Thread Cert.KernelIdeal.nD Cert.KernelIdeal.τ).loc Cert.KernelIdeal.main_arg0)), fun c => scalesArr (F := Ideal) (m ((c.tc : Thread Cert.KernelIdeal.nD Cert.KernelIdeal.τ).loc Cert.KernelIdeal.main_arg0)),
    fun c => codesArr (F := Ideal) (m ((c.tc : Thread Cert.KernelIdeal.nD Cert.KernelIdeal.τ).loc Cert.KernelIdeal.main_arg1)), fun c => scalesArr (F := Ideal) (m ((c.tc : Thread Cert.KernelIdeal.nD Cert.KernelIdeal.τ).loc Cert.KernelIdeal.main_arg1)),
    fun c => codesArr (F := Ideal) (m ((c.tc : Thread Cert.KernelIdeal.nD Cert.KernelIdeal.τ).loc Cert.KernelIdeal.main_arg2)), fun c => scalesArr (F := Ideal) (m ((c.tc : Thread Cert.KernelIdeal.nD Cert.KernelIdeal.τ).loc Cert.KernelIdeal.main_arg2)), ?_, ?_⟩
  · refine (θ_run Cert.KernelIdeal.defs _ _).mono (fun _ h c => ?_) (run_main (F := Ideal) m g)
    exact ⟨final_y m h.1 c, final_q m h.1 c, final_qs m h.1 c, final_k m h.1 c, final_ks m h.1 c, final_v m h.1 c, final_vs m h.1 c, final_args m h.1 c⟩
  · refine (θ_run Cert.ReferenceIdeal.defs _ _).mono (fun _ h c => ?_) (run (F := Ideal) m' g')
    obtain ⟨h0, h1, h2, h3, h4, h5, h6, ha⟩ := h c
    obtain ⟨a0, a1, a2⟩ := hin c
    refine ⟨h0.trans ?_, h1.trans ?_, h2.trans ?_, h3.trans ?_, h4.trans ?_, h5.trans ?_, h6.trans ?_, ha⟩
    · beta_reduce; rw [v133_eq, v113_eq, v111_eq, v106_eq, v26_eq, v21_eq, v54_eq, v49_eq, v82_eq, v77_eq, ← a0, ← a1, ← a2]
      exact attention_back _ _ _ kappa
    · beta_reduce; rw [v26_eq, ← a0]; exact codes_back _
    · beta_reduce; rw [v21_eq, ← a0]; exact scales_back _
    · beta_reduce; rw [v54_eq, ← a1]; exact codes_back _
    · beta_reduce; rw [v49_eq, ← a1]; exact scales_back _
    · beta_reduce; rw [v82_eq, ← a2]; exact codes_back _
    · beta_reduce; rw [v77_eq, ← a2]; exact scales_back _

/-- All that is claimed. -/
theorem claim : Cert.Claim :=
  ⟨Cert.Kernel.Gen.facts, Cert.KernelIdeal.Gen.facts, Cert.ReferenceIdeal.Gen.facts,
    fun m ρ _ => Cert.Kernel.Gen.frame m ρ, frame_pi, frame_ri, preserves, algebraic⟩

end Cert.Proof

end
